-- ==== Defs.lean ====
def Pre_Kernel [hPre_pos_distinct : Cert.Pre_pos_distinct.Facts] (m : (ℓ : Loc Cert.Kernel.nD Cert.Kernel.τ Cert.Kernel.sig) → Buf (Elt Bits) ℓ) : Prop :=
  ∀ c : Dev Cert.Kernel.nD,
    (Cert.Pre_pos_distinct.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_distinct : Cert.Pre_pos_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_pos_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_distinct [hPre_pos_distinct : Cert.Pre_pos_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_distinct : Cert.Pre_pos_distinct.Facts] (m : (ℓ : Loc Cert.Reference.nD Cert.Reference.τ Cert.Reference.sig) → Buf (Elt Bits) ℓ) : Prop :=
  ∀ c : Dev Cert.Reference.nD,
    (Cert.Pre_pos_distinct.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts_known : Cert.Pre_experts_known.Facts] (m : (ℓ : Loc Cert.Kernel2.nD Cert.Kernel2.τ Cert.Kernel2.sig) → Buf (Elt Bits) ℓ) : Prop :=
  ∀ c : Dev Cert.Kernel2.nD,
    (Cert.Pre_experts_known.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_known : Cert.Pre_experts_known.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_known.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_known [hPre_experts_known : Cert.Pre_experts_known.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_known.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_pos_distinct : Cert.Pre_pos_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_distinct : Cert.Pre_pos_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_distinct [hReferenceIdeal : Cert.ReferenceIdeal.Facts] [hPre_pos_distinct : Cert.Pre_pos_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_distinct : Cert.Pre_pos_distinct.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts_known : Cert.Pre_experts_known.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_known : Cert.Pre_experts_known.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts_known [hReference2Ideal : Cert.Reference2Ideal.Facts] [hPre_experts_known : Cert.Pre_experts_known.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_known m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_distinct : Cert.Pre_pos_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_distinct : Cert.Pre_pos_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_known : Cert.Pre_experts_known.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v144) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pos_distinct : Cert.Pre_pos_distinct.Facts) (hPre_experts_known : Cert.Pre_experts_known.Facts),
    quiescent_Kernel (hKernel := hKernel) (hPre_pos_distinct := hPre_pos_distinct)
    ∧ quiescent_KernelIdeal (hKernelIdeal := hKernelIdeal) (hPre_pos_distinct := hPre_pos_distinct)
    ∧ quiescent_ReferenceIdeal (hReferenceIdeal := hReferenceIdeal)
    ∧ quiescent_ReferenceIdeal_pre_pos_distinct (hReferenceIdeal := hReferenceIdeal) (hPre_pos_distinct := hPre_pos_distinct)
    ∧ quiescent_Reference (hReference := hReference) (hPre_pos_distinct := hPre_pos_distinct)
    ∧ quiescent_Kernel2 (hKernel2 := hKernel2) (hPre_experts_known := hPre_experts_known)
    ∧ quiescent_Kernel2Ideal (hKernel2Ideal := hKernel2Ideal) (hPre_experts_known := hPre_experts_known)
    ∧ quiescent_Reference2Ideal (hReference2Ideal := hReference2Ideal)
    ∧ quiescent_Reference2Ideal_pre_experts_known (hReference2Ideal := hReference2Ideal) (hPre_experts_known := hPre_experts_known)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_pos_distinct := hPre_pos_distinct)
    ∧ bitexact_Kernel_Reference (hKernel := hKernel) (hReference := hReference) (hPre_pos_distinct := hPre_pos_distinct)
    ∧ preserves_Kernel2_Kernel2Ideal
    ∧ algebraic_Kernel2Ideal_Reference2Ideal (hKernel2Ideal := hKernel2Ideal) (hReference2Ideal := hReference2Ideal) (hPre_experts_known := hPre_experts_known)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts_known.lean ====
abbrev S256 : Shape := ⟨1, ![256]⟩
abbrev S557056x128 : Shape := ⟨2, ![557056, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S256 : S_.BroadcastsInDim S256 (![] : Fin 0 → Fin S256.rank)

variable [Facts]

def fn_where {F : FTy → Type} [FloatOps F] (arg0 : IVec S256 1) (arg1 : IVec S256 1) (arg2 : IVec S256 1) : IVec S256 1 :=
  let v0 : IVec S256 1 := select arg0 arg1 arg2
  v0

def fn {F : FTy → Type} [FloatOps F] (main_arg0 : IVec S256 32) (main_arg1 : FVec F S557056x128 .f32) (main_arg2 : FVec F S8x1024x3584 .f32) (main_arg3 : FVec F S8x1024x3584 .f32) (main_arg4 : FVec F S8x3584x1024 .f32) : IVec S256 1 :=
  let main_v0 : IVec S256 32 := iotaInDim S256 32 0
  let main_c : IVec S_ 32 := constantI S_ 32 255#32
  let main_v1 : IVec S256 32 := broadcastInDim S256 ![] bcast_S_S256 main_c
  let main_v2 : IVec S256 1 := cmpi .eq main_v0 main_v1
  let main_c_0 : IVec S_ 32 := constantI S_ 32 1#32
  let main_v3 : IVec S256 32 := broadcastInDim S256 ![] bcast_S_S256 main_c_0
  let main_v4 : IVec S256 1 := cmpi .sge main_arg0 main_v3
  let main_c_1 : IVec S_ 32 := constantI S_ 32 136#32
  let main_v5 : IVec S256 32 := broadcastInDim S256 ![] bcast_S_S256 main_c_1
  let main_v6 : IVec S256 1 := cmpi .sle main_arg0 main_v5
  let main_v7 : IVec S256 1 := andi main_v4 main_v6
  let main_c_2 : IVec S_ 32 := constantI S_ 32 0#32
  let main_v8 : IVec S256 32 := broadcastInDim S256 ![] bcast_S_S256 main_c_2
  let main_v9 : IVec S256 1 := cmpi .sge main_arg0 main_v8
  let main_c_3 : IVec S_ 32 := constantI S_ 32 8#32
  let main_v10 : IVec S256 32 := broadcastInDim S256 ![] bcast_S_S256 main_c_3
  let main_v11 : IVec S256 1 := cmpi .slt main_arg0 main_v10
  let main_v12 : IVec S256 1 := andi main_v9 main_v11
  let main_v13 : IVec S256 1 := fn_where (F := F) main_v2 main_v7 main_v12
  main_v13
-- ==== Pre_pos_distinct.lean ====
abbrev S2x32768 : Shape := ⟨2, ![2, 32768]⟩
abbrev S32768x1024 : Shape := ⟨2, ![32768, 1024]⟩
abbrev S65536 : Shape := ⟨1, ![65536]⟩
abbrev S_ : Shape := ⟨0, ![]⟩
abbrev S69632 : Shape := ⟨1, ![69632]⟩
abbrev S2x32768x1 : Shape := ⟨3, ![2, 32768, 1]⟩

class Facts : Prop where
  shapeCasts_S65536_S2x32768 : S65536.ShapeCasts S2x32768
  bcast_S_S69632 : S_.BroadcastsInDim S69632 (![] : Fin 0 → Fin S69632.rank)
  bcast_S_S2x32768 : S_.BroadcastsInDim S2x32768 (![] : Fin 0 → Fin S2x32768.rank)
  bcast_S2x32768_S2x32768x1_0_1 : S2x32768.BroadcastsInDim S2x32768x1 (![0, 1] : Fin 2 → Fin S2x32768x1.rank)
  scatter_S69632_S2x32768x1_S2x32768_n_0_0_2_wf : ScatterDims.WF S69632 S2x32768x1 S2x32768 [] [0] [0] 2
  gather_S69632_S2x32768x1_S2x32768_n_0_n_n_0_2_1_wf : GatherDims.WF S69632 S2x32768x1 S2x32768 [] [0] [] [0] [] 2 ![1]

variable [Facts]

def scatter_S69632_S2x32768x1_S2x32768_n_0_0_2 : ScatterDims S69632 S2x32768x1 S2x32768 where
  updateWindowDims := []
  insertedWindowDims := [0]
  scatterDimsToOperandDims := [0]
  indexVectorDim := 2
  wf := scatter_S69632_S2x32768x1_S2x32768_n_0_0_2_wf
def gather_S69632_S2x32768x1_S2x32768_n_0_n_n_0_2_1 : GatherDims S69632 S2x32768x1 S2x32768 where
  offsetDims := []
  collapsedSliceDims := [0]
  operandBatchingDims := []
  startIndicesBatchingDims := []
  startIndexMap := [0]
  indexVectorDim := 2
  sliceSizes := ![1]
  wf := gather_S69632_S2x32768x1_S2x32768_n_0_n_n_0_2_1_wf
def fn_part1 {F : FTy → Type} [FloatOps F] (main_arg0 : IVec S2x32768 32) (main_v1 : IVec S2x32768 32) (main_v9 : IVec S69632 32) (main_v14 : IVec S2x32768 1) (main_v16 : IVec S2x32768 1) (main_c_5 : IVec S_ 32) : IVec S2x32768 1 :=
  let main_v17 : IVec S2x32768 32 := broadcastInDim S2x32768 ![] bcast_S_S2x32768 main_c_5
  let main_v18 : IVec S2x32768 32 := addi main_arg0 main_v17
  let main_v19 : IVec S2x32768 32 := select main_v16 main_v18 main_arg0
  let main_v20 : IVec S2x32768x1 32 := broadcastInDim S2x32768x1 ![0, 1] bcast_S2x32768_S2x32768x1_0_1 main_v19
  let main_v21 : IVec S2x32768 32 := (fun x i => Host.gather gather_S69632_S2x32768x1_S2x32768_n_0_n_n_0_2_1 x i) main_v9 main_v20
  let main_v22 : IVec S2x32768 1 := cmpi .eq main_v21 main_v1
  let main_v23 : IVec S2x32768 1 := andi main_v14 main_v22
  main_v23

def fn {F : FTy → Type} [FloatOps F] (main_arg0 : IVec S2x32768 32) (main_arg1 : FVec F S32768x1024 .f32) : IVec S2x32768 1 :=
  let main_v0 : IVec S65536 32 := iotaInDim S65536 32 0
  let main_v1 : IVec S2x32768 32 := shapeCast S2x32768 main_v0 shapeCasts_S65536_S2x32768
  let main_c : IVec S_ 32 := constantI S_ 32 0#32
  let main_v2 : IVec S69632 32 := broadcastInDim S69632 ![] bcast_S_S69632 main_c
  let main_c_0 : IVec S_ 32 := constantI S_ 32 0#32
  let main_v3 : IVec S2x32768 32 := broadcastInDim S2x32768 ![] bcast_S_S2x32768 main_c_0
  let main_v4 : IVec S2x32768 1 := cmpi .slt main_arg0 main_v3
  let main_c_1 : IVec S_ 32 := constantI S_ 32 69632#32
  let main_v5 : IVec S2x32768 32 := broadcastInDim S2x32768 ![] bcast_S_S2x32768 main_c_1
  let main_v6 : IVec S2x32768 32 := addi main_arg0 main_v5
  let main_v7 : IVec S2x32768 32 := select main_v4 main_v6 main_arg0
  let main_v8 : IVec S2x32768x1 32 := broadcastInDim S2x32768x1 ![0, 1] bcast_S2x32768_S2x32768x1_0_1 main_v7
  let main_v9 : IVec S69632 32 := (fun x i u => Host.scatter scatter_S69632_S2x32768x1_S2x32768_n_0_0_2 (fun _ b => b) x i u) main_v2 main_v8 main_v1
  let main_c_2 : IVec S_ 32 := constantI S_ 32 0#32
  let main_v10 : IVec S2x32768 32 := broadcastInDim S2x32768 ![] bcast_S_S2x32768 main_c_2
  let main_v11 : IVec S2x32768 1 := cmpi .sge main_arg0 main_v10
  let main_c_3 : IVec S_ 32 := constantI S_ 32 69632#32
  let main_v12 : IVec S2x32768 32 := broadcastInDim S2x32768 ![] bcast_S_S2x32768 main_c_3
  let main_v13 : IVec S2x32768 1 := cmpi .slt main_arg0 main_v12
  let main_v14 : IVec S2x32768 1 := andi main_v11 main_v13
  let main_c_4 : IVec S_ 32 := constantI S_ 32 0#32
  let main_v15 : IVec S2x32768 32 := broadcastInDim S2x32768 ![] bcast_S_S2x32768 main_c_4
  let main_v16 : IVec S2x32768 1 := cmpi .slt main_arg0 main_v15
  let main_c_5 : IVec S_ 32 := constantI S_ 32 69632#32
  fn_part1 (F := F) main_arg0 main_v1 main_v9 main_v14 main_v16 main_c_5
-- ==== Kernel.lean ====
abbrev S2x32768 : Shape := ⟨2, ![2, 32768]⟩
abbrev S32768x1024 : Shape := ⟨2, ![32768, 1024]⟩
abbrev S262144x128 : Shape := ⟨2, ![262144, 128]⟩
abbrev S_ : Shape := ⟨0, ![]⟩
abbrev S557056x128 : Shape := ⟨2, ![557056, 128]⟩
abbrev S1x32768 : Shape := ⟨2, ![1, 32768]⟩
abbrev S32768 : Shape := ⟨1, ![32768]⟩
abbrev S1024 : Shape := ⟨1, ![1024]⟩
abbrev S8192x128 : Shape := ⟨2, ![8192, 128]⟩
abbrev S1 : Shape := ⟨1, ![1]⟩
abbrev S8x128 : Shape := ⟨2, ![8, 128]⟩

abbrev nBuf : Space → Nat
  | .hbm => 9
  | .vmem => 2
  | .smem => 4
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S262144x128, .f32⟩
  | .hbm, ⟨3, _⟩ => ⟨S_, .f32⟩
  | .hbm, ⟨4, _⟩ => ⟨S557056x128, .f32⟩
  | .hbm, ⟨5, _⟩ => ⟨S1x32768, .i32⟩
  | .hbm, ⟨6, _⟩ => ⟨S32768, .i32⟩
  | .hbm, ⟨7, _⟩ => ⟨S1x32768, .i32⟩
  | .hbm, ⟨8, _⟩ => ⟨S32768, .i32⟩
  | .local _ .vmem, ⟨0, _⟩ => ⟨S8192x128, .f32⟩
  | .local _ .vmem, ⟨1, _⟩ => ⟨S8192x128, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S2x32768, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v2 : Index := Scalar.indexCast arg7
  ![v2.toNat]
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  v4
def k0_mult2 (v3 : BitVec 32) : BitVec 32 :=
  let c8_i32_4 : BitVec 32 := 8#32
  let v6 : BitVec 32 := Scalar.muli v3 c8_i32_4
  v6

def k0_off2 (v3 : BitVec 32) : Fin 2 → Nat :=
  let c8_i32_4 : BitVec 32 := 8#32
  let v6 : BitVec 32 := Scalar.muli v3 c8_i32_4
  let v7 : BitVec 32 := v6
  let c0_i32_5 : BitVec 32 := 0#32
  ![v7.toNat, 0]

def k0_chk1 (v3 : BitVec 32) : Prop :=
  (8 ∣ (k0_mult2 v3).toNat) ∧
  (∀ a, (k0_off2 v3) a + S8x128.size a ≤ S557056x128.size a)
theorem k0_mult2_dvd : ∀ (v3 : BitVec 32) (k0_hw1 : k0_chk1 v3), 8 ∣ (k0_mult2 v3).toNat := fun v3 k0_hw1 => k0_hw1.1
theorem k0_off2_inb : ∀ (v3 : BitVec 32) (k0_hw1 : k0_chk1 v3), ∀ a, (k0_off2 v3) a + S8x128.size a ≤ S557056x128.size a := fun v3 k0_hw1 => k0_hw1.2

def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let v5 : BitVec 32 := v4
  let c0_i32_6 : BitVec 32 := 0#32
  ![v5.toNat, 0]
def k0_off4 (k0_t1 : Fin k0_t1_loop.trips) : Fin 1 → Nat :=
  let c0_i32 : BitVec 32 := 0#32
  let c1_i32 : BitVec 32 := 1#32
  let arg7 : BitVec 32 := Scf.iv c0_i32 c1_i32 k0_t1
  let v10 : Index := Scalar.indexCast arg7
  ![v10.toNat]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_7 : BitVec 32 := 8#32
  let v12 : BitVec 32 := Scalar.muli arg7 c8_i32_7
  v12
def k0_mult4 (v11 : BitVec 32) : BitVec 32 :=
  let c8_i32_8 : BitVec 32 := 8#32
  let v14 : BitVec 32 := Scalar.muli v11 c8_i32_8
  v14

def k0_off5 (v11 : BitVec 32) : Fin 2 → Nat :=
  let c8_i32_8 : BitVec 32 := 8#32
  let v14 : BitVec 32 := Scalar.muli v11 c8_i32_8
  let v15 : BitVec 32 := v14
  let c0_i32_9 : BitVec 32 := 0#32
  ![v15.toNat, 0]

def k0_chk2 (v11 : BitVec 32) : Prop :=
  (8 ∣ (k0_mult4 v11).toNat) ∧
  (∀ a, (k0_off5 v11) a + S8x128.size a ≤ S557056x128.size a)
theorem k0_mult4_dvd : ∀ (v11 : BitVec 32) (k0_hw2 : k0_chk2 v11), 8 ∣ (k0_mult4 v11).toNat := fun v11 k0_hw2 => k0_hw2.1
theorem k0_off5_inb : ∀ (v11 : BitVec 32) (k0_hw2 : k0_chk2 v11), ∀ a, (k0_off5 v11) a + S8x128.size a ≤ S557056x128.size a := fun v11 k0_hw2 => k0_hw2.2

def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32_7 : BitVec 32 := 8#32
  let v12 : BitVec 32 := Scalar.muli arg7 c8_i32_7
  let v13 : BitVec 32 := v12
  let c0_i32_10 : BitVec 32 := 0#32
  ![v13.toNat, 0]
@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def k0_mult5 : BitVec 32 :=
  let c0_i32_4 : BitVec 32 := 0#32
  c0_i32_4
def k0_mult6 : BitVec 32 :=
  let c0_i32_5 : BitVec 32 := 0#32
  c0_i32_5
def k0_mult7 : BitVec 32 :=
  let c0_i32_8 : BitVec 32 := 0#32
  c0_i32_8
def k0_mult8 : BitVec 32 :=
  let c0_i32_9 : BitVec 32 := 0#32
  c0_i32_9
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S2x32768 : Shape := ⟨2, ![2, 32768]⟩
abbrev S32768x1024 : Shape := ⟨2, ![32768, 1024]⟩
abbrev S_ : Shape := ⟨0, ![]⟩
abbrev S69632x1024 : Shape := ⟨2, ![69632, 1024]⟩
abbrev S1x32768 : Shape := ⟨2, ![1, 32768]⟩
abbrev S32768 : Shape := ⟨1, ![32768]⟩
abbrev S32768x1 : Shape := ⟨2, ![32768, 1]⟩
abbrev S557056x128 : Shape := ⟨2, ![557056, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S_, .f32⟩
  | .hbm, ⟨3, _⟩ => ⟨S69632x1024, .f32⟩
  | .hbm, ⟨4, _⟩ => ⟨S1x32768, .i32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S69632x1024, .f32⟩
  | .hbm, ⟨15, _⟩ => ⟨S1x32768, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S69632x1024, .f32⟩
  | .hbm, ⟨26, _⟩ => ⟨S557056x128, .f32⟩
  | _, _ => ⟨S2x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S256 : Shape := ⟨1, ![256]⟩
abbrev S557056x128 : Shape := ⟨2, ![557056, 128]⟩
abbrev S8x1024x3584 : Shape := ⟨3, ![8, 1024, 3584]⟩
abbrev S8x3584x1024 : Shape := ⟨3, ![8, 3584, 1024]⟩
abbrev S1 : Shape := ⟨1, ![1]⟩
abbrev S_ : Shape := ⟨0, ![]⟩
abbrev S4096x128 : Shape := ⟨2, ![4096, 128]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 29
  | .vmem => 11
  | .smem => 1
  | _ => 0

abbrev bufTy : (tb : Table) → Fin (tcTables nBuf tb) → BufTy
  | .hbm, ⟨0, _⟩ => ⟨S256, .i32⟩
  | .hbm, ⟨1, _⟩ => ⟨S557056x128, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S256, .i32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S256, .i32⟩
  | .hbm, ⟨28, _⟩ => ⟨S557056x128, .f32⟩
  | .local _ .vmem, ⟨0, _⟩ => ⟨S4096x128, .f32⟩
  | .local _ .vmem, ⟨1, _⟩ => ⟨S4096x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .f32⟩
  | .local _ .smem, ⟨0, _⟩ => ⟨S256, .i32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v20 : Ref sig .tc := ⟨.hbm, 28, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v2 : BitVec 1 := Scalar.cmpi .eq arg1 c1_i32
  let v7 : BitVec 1 := Scalar.andi v1 v2
  let v8 : BitVec 32 := Scalar.extui v7
  let c0_i32_1 : BitVec 32 := 0#32
  let v9 : BitVec 1 := Scalar.cmpi .ne v8 c0_i32_1
  v9

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v10 : BitVec 1 := Scalar.xori v1 v_true
  let arg1 : BitVec 32 := BitVec.ofNat 32 (i 1).val
  let c1_i32 : BitVec 32 := 1#32
  let v2 : BitVec 1 := Scalar.cmpi .eq arg1 c1_i32
  let v11 : BitVec 1 := Scalar.andi v10 v2
  let v12 : BitVec 32 := Scalar.extui v11
  let c0_i32_2 : BitVec 32 := 0#32
  let v13 : BitVec 1 := Scalar.cmpi .ne v12 c0_i32_2
  v13

def cc0_transform_0 (inb_S256_S1_255 : ∀ a, (![255] : Fin 1 → Nat) a + S1.size a ≤ S256.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c255 : Index := 255#32
  let v0 : BitVec 32 := pf.at 0 (Rect.unit (s := S256) ![255] S1.size inb_S256_S1_255) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S256.size a) (numel1_S1 : S1.numel = 1) (inb_S256_S1_255 : ∀ a, (![255] : Fin 1 → Nat) a + S1.size a ≤ S256.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c255 : Index := 255#32
  let v2 : BitVec 32 := pf.at 0 (Rect.unit (s := S256) ![255] S1.size inb_S256_S1_255) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S256.size a) (numel1_S1 : S1.numel = 1) (inb_S256_S1_255 : ∀ a, (![255] : Fin 1 → Nat) a + S1.size a ≤ S256.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c255 : Index := 255#32
  let v2 : BitVec 32 := pf.at 0 (Rect.unit (s := S256) ![255] S1.size inb_S256_S1_255) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S256.size a) (numel1_S1 : S1.numel = 1) (inb_S256_S1_255 : ∀ a, (![255] : Fin 1 → Nat) a + S1.size a ≤ S256.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c255 : Index := 255#32
  let v2 : BitVec 32 := pf.at 0 (Rect.unit (s := S256) ![255] S1.size inb_S256_S1_255) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S256 : Shape := ⟨1, ![256]⟩
abbrev S557056x128 : Shape := ⟨2, ![557056, 128]⟩
abbrev S8x1024x3584 : Shape := ⟨3, ![8, 1024, 3584]⟩
abbrev S8x3584x1024 : Shape := ⟨3, ![8, 3584, 1024]⟩
abbrev S69632x1024 : Shape := ⟨2, ![69632, 1024]⟩
abbrev S69632 : Shape := ⟨1, ![69632]⟩
abbrev S_ : Shape := ⟨0, ![]⟩
abbrev S1 : Shape := ⟨1, ![1]⟩
abbrev S69632x1 : Shape := ⟨2, ![69632, 1]⟩
abbrev S1x1024x3584 : Shape := ⟨3, ![1, 1024, 3584]⟩
abbrev S1024x3584 : Shape := ⟨2, ![1024, 3584]⟩
abbrev S69632x3584 : Shape := ⟨2, ![69632, 3584]⟩
abbrev S1x3584x1024 : Shape := ⟨3, ![1, 3584, 1024]⟩
abbrev S3584x1024 : Shape := ⟨2, ![3584, 1024]⟩

abbrev nBuf : Space → Nat
  | .hbm => 277
  | .vmem => 0
  | .smem => 0
  | _ => 0

abbrev hbmTy0_0 (i : Nat) : BufTy := match i % 128 with
  | 0 => ⟨S256, .i32⟩
  | 1 => ⟨S557056x128, .f32⟩
  | 2 => ⟨S8x1024x3584, .f32⟩
  | 3 => ⟨S8x1024x3584, .f32⟩
  | 4 => ⟨S8x3584x1024, .f32⟩
  | 5 => ⟨S69632x1024, .f32⟩
  | 6 => ⟨S69632, .i32⟩
  | 7 => ⟨S_, .i32⟩
  | 8 => ⟨S_, .i32⟩
  | 9 => ⟨S69632, .i32⟩
  | 10 => ⟨S69632, .i32⟩
  | 11 => ⟨S69632, .i32⟩
  | 12 => ⟨S_, .i32⟩
  | 13 => ⟨S69632, .i32⟩
  | 14 => ⟨S69632, .i1⟩
  | 15 => ⟨S69632, .i32⟩
  | 16 => ⟨S69632, .i32⟩
  | 17 => ⟨S_, .i32⟩
  | 18 => ⟨S69632, .i32⟩
  | 19 => ⟨S69632, .i1⟩
  | 20 => ⟨S69632, .i1⟩
  | 21 => ⟨S_, .i32⟩
  | 22 => ⟨S69632, .i32⟩
  | 23 => ⟨S69632, .i32⟩
  | 24 => ⟨S69632, .i32⟩
  | 25 => ⟨S1, .i32⟩
  | 26 => ⟨S_, .i32⟩
  | 27 => ⟨S69632, .i32⟩
  | 28 => ⟨S69632, .i1⟩
  | 29 => ⟨S_, .i32⟩
  | 30 => ⟨S69632, .i32⟩
  | 31 => ⟨S69632, .i1⟩
  | 32 => ⟨S_, .i32⟩
  | 33 => ⟨S69632, .i32⟩
  | 34 => ⟨S69632, .i32⟩
  | 35 => ⟨S69632, .i32⟩
  | 36 => ⟨S69632x1, .i32⟩
  | 37 => ⟨S69632, .i32⟩
  | 38 => ⟨S_, .i32⟩
  | 39 => ⟨S_, .i32⟩
  | 40 => ⟨S69632, .i32⟩
  | 41 => ⟨S69632, .i32⟩
  | 42 => ⟨S_, .f32⟩
  | 43 => ⟨S69632x1024, .f32⟩
  | 44 => ⟨S1x1024x3584, .f32⟩
  | 45 => ⟨S1024x3584, .f32⟩
  | 46 => ⟨S69632x3584, .f32⟩
  | 47 => ⟨S69632x3584, .f32⟩
  | 48 => ⟨S69632x3584, .f32⟩
  | 49 => ⟨S_, .f32⟩
  | 50 => ⟨S69632x3584, .f32⟩
  | 51 => ⟨S69632x3584, .f32⟩
  | 52 => ⟨S_, .f32⟩
  | 53 => ⟨S69632x3584, .f32⟩
  | 54 => ⟨S69632x3584, .f32⟩
  | 55 => ⟨S69632x3584, .f32⟩
  | 56 => ⟨S1x1024x3584, .f32⟩
  | 57 => ⟨S1024x3584, .f32⟩
  | 58 => ⟨S69632x3584, .f32⟩
  | 59 => ⟨S69632x3584, .f32⟩
  | 60 => ⟨S_, .i32⟩
  | 61 => ⟨S69632, .i32⟩
  | 62 => ⟨S69632, .i1⟩
  | 63 => ⟨S69632x1, .i1⟩
  | 64 => ⟨S1x3584x1024, .f32⟩
  | 65 => ⟨S3584x1024, .f32⟩
  | 66 => ⟨S69632x1024, .f32⟩
  | 67 => ⟨S_, .f32⟩
  | 68 => ⟨S_, .f32⟩
  | 69 => ⟨S69632x1024, .i1⟩
  | 70 => ⟨S69632x1024, .f32⟩
  | 71 => ⟨S69632x1024, .f32⟩
  | 72 => ⟨S69632x1024, .f32⟩
  | 73 => ⟨S1x1024x3584, .f32⟩
  | 74 => ⟨S1024x3584, .f32⟩
  | 75 => ⟨S69632x3584, .f32⟩
  | 76 => ⟨S69632x3584, .f32⟩
  | 77 => ⟨S69632x3584, .f32⟩
  | 78 => ⟨S_, .f32⟩
  | 79 => ⟨S69632x3584, .f32⟩
  | 80 => ⟨S69632x3584, .f32⟩
  | 81 => ⟨S_, .f32⟩
  | 82 => ⟨S69632x3584, .f32⟩
  | 83 => ⟨S69632x3584, .f32⟩
  | 84 => ⟨S69632x3584, .f32⟩
  | 85 => ⟨S1x1024x3584, .f32⟩
  | 86 => ⟨S1024x3584, .f32⟩
  | 87 => ⟨S69632x3584, .f32⟩
  | 88 => ⟨S69632x3584, .f32⟩
  | 89 => ⟨S_, .i32⟩
  | 90 => ⟨S69632, .i32⟩
  | 91 => ⟨S69632, .i1⟩
  | 92 => ⟨S69632x1, .i1⟩
  | 93 => ⟨S1x3584x1024, .f32⟩
  | 94 => ⟨S3584x1024, .f32⟩
  | 95 => ⟨S69632x1024, .f32⟩
  | 96 => ⟨S_, .f32⟩
  | 97 => ⟨S_, .f32⟩
  | 98 => ⟨S69632x1024, .i1⟩
  | 99 => ⟨S69632x1024, .f32⟩
  | 100 => ⟨S69632x1024, .f32⟩
  | 101 => ⟨S69632x1024, .f32⟩
  | 102 => ⟨S1x1024x3584, .f32⟩
  | 103 => ⟨S1024x3584, .f32⟩
  | 104 => ⟨S69632x3584, .f32⟩
  | 105 => ⟨S69632x3584, .f32⟩
  | 106 => ⟨S69632x3584, .f32⟩
  | 107 => ⟨S_, .f32⟩
  | 108 => ⟨S69632x3584, .f32⟩
  | 109 => ⟨S69632x3584, .f32⟩
  | 110 => ⟨S_, .f32⟩
  | 111 => ⟨S69632x3584, .f32⟩
  | 112 => ⟨S69632x3584, .f32⟩
  | 113 => ⟨S69632x3584, .f32⟩
  | 114 => ⟨S1x1024x3584, .f32⟩
  | 115 => ⟨S1024x3584, .f32⟩
  | 116 => ⟨S69632x3584, .f32⟩
  | 117 => ⟨S69632x3584, .f32⟩
  | 118 => ⟨S_, .i32⟩
  | 119 => ⟨S69632, .i32⟩
  | 120 => ⟨S69632, .i1⟩
  | 121 => ⟨S69632x1, .i1⟩
  | 122 => ⟨S1x3584x1024, .f32⟩
  | 123 => ⟨S3584x1024, .f32⟩
  | 124 => ⟨S69632x1024, .f32⟩
  | 125 => ⟨S_, .f32⟩
  | 126 => ⟨S_, .f32⟩
  | 127 => ⟨S69632x1024, .i1⟩
  | _ => ⟨S256, .i32⟩

abbrev hbmTy0_1 (i : Nat) : BufTy := match i % 128 with
  | 0 => ⟨S69632x1024, .f32⟩
  | 1 => ⟨S69632x1024, .f32⟩
  | 2 => ⟨S69632x1024, .f32⟩
  | 3 => ⟨S1x1024x3584, .f32⟩
  | 4 => ⟨S1024x3584, .f32⟩
  | 5 => ⟨S69632x3584, .f32⟩
  | 6 => ⟨S69632x3584, .f32⟩
  | 7 => ⟨S69632x3584, .f32⟩
  | 8 => ⟨S_, .f32⟩
  | 9 => ⟨S69632x3584, .f32⟩
  | 10 => ⟨S69632x3584, .f32⟩
  | 11 => ⟨S_, .f32⟩
  | 12 => ⟨S69632x3584, .f32⟩
  | 13 => ⟨S69632x3584, .f32⟩
  | 14 => ⟨S69632x3584, .f32⟩
  | 15 => ⟨S1x1024x3584, .f32⟩
  | 16 => ⟨S1024x3584, .f32⟩
  | 17 => ⟨S69632x3584, .f32⟩
  | 18 => ⟨S69632x3584, .f32⟩
  | 19 => ⟨S_, .i32⟩
  | 20 => ⟨S69632, .i32⟩
  | 21 => ⟨S69632, .i1⟩
  | 22 => ⟨S69632x1, .i1⟩
  | 23 => ⟨S1x3584x1024, .f32⟩
  | 24 => ⟨S3584x1024, .f32⟩
  | 25 => ⟨S69632x1024, .f32⟩
  | 26 => ⟨S_, .f32⟩
  | 27 => ⟨S_, .f32⟩
  | 28 => ⟨S69632x1024, .i1⟩
  | 29 => ⟨S69632x1024, .f32⟩
  | 30 => ⟨S69632x1024, .f32⟩
  | 31 => ⟨S69632x1024, .f32⟩
  | 32 => ⟨S1x1024x3584, .f32⟩
  | 33 => ⟨S1024x3584, .f32⟩
  | 34 => ⟨S69632x3584, .f32⟩
  | 35 => ⟨S69632x3584, .f32⟩
  | 36 => ⟨S69632x3584, .f32⟩
  | 37 => ⟨S_, .f32⟩
  | 38 => ⟨S69632x3584, .f32⟩
  | 39 => ⟨S69632x3584, .f32⟩
  | 40 => ⟨S_, .f32⟩
  | 41 => ⟨S69632x3584, .f32⟩
  | 42 => ⟨S69632x3584, .f32⟩
  | 43 => ⟨S69632x3584, .f32⟩
  | 44 => ⟨S1x1024x3584, .f32⟩
  | 45 => ⟨S1024x3584, .f32⟩
  | 46 => ⟨S69632x3584, .f32⟩
  | 47 => ⟨S69632x3584, .f32⟩
  | 48 => ⟨S_, .i32⟩
  | 49 => ⟨S69632, .i32⟩
  | 50 => ⟨S69632, .i1⟩
  | 51 => ⟨S69632x1, .i1⟩
  | 52 => ⟨S1x3584x1024, .f32⟩
  | 53 => ⟨S3584x1024, .f32⟩
  | 54 => ⟨S69632x1024, .f32⟩
  | 55 => ⟨S_, .f32⟩
  | 56 => ⟨S_, .f32⟩
  | 57 => ⟨S69632x1024, .i1⟩
  | 58 => ⟨S69632x1024, .f32⟩
  | 59 => ⟨S69632x1024, .f32⟩
  | 60 => ⟨S69632x1024, .f32⟩
  | 61 => ⟨S1x1024x3584, .f32⟩
  | 62 => ⟨S1024x3584, .f32⟩
  | 63 => ⟨S69632x3584, .f32⟩
  | 64 => ⟨S69632x3584, .f32⟩
  | 65 => ⟨S69632x3584, .f32⟩
  | 66 => ⟨S_, .f32⟩
  | 67 => ⟨S69632x3584, .f32⟩
  | 68 => ⟨S69632x3584, .f32⟩
  | 69 => ⟨S_, .f32⟩
  | 70 => ⟨S69632x3584, .f32⟩
  | 71 => ⟨S69632x3584, .f32⟩
  | 72 => ⟨S69632x3584, .f32⟩
  | 73 => ⟨S1x1024x3584, .f32⟩
  | 74 => ⟨S1024x3584, .f32⟩
  | 75 => ⟨S69632x3584, .f32⟩
  | 76 => ⟨S69632x3584, .f32⟩
  | 77 => ⟨S_, .i32⟩
  | 78 => ⟨S69632, .i32⟩
  | 79 => ⟨S69632, .i1⟩
  | 80 => ⟨S69632x1, .i1⟩
  | 81 => ⟨S1x3584x1024, .f32⟩
  | 82 => ⟨S3584x1024, .f32⟩
  | 83 => ⟨S69632x1024, .f32⟩
  | 84 => ⟨S_, .f32⟩
  | 85 => ⟨S_, .f32⟩
  | 86 => ⟨S69632x1024, .i1⟩
  | 87 => ⟨S69632x1024, .f32⟩
  | 88 => ⟨S69632x1024, .f32⟩
  | 89 => ⟨S69632x1024, .f32⟩
  | 90 => ⟨S1x1024x3584, .f32⟩
  | 91 => ⟨S1024x3584, .f32⟩
  | 92 => ⟨S69632x3584, .f32⟩
  | 93 => ⟨S69632x3584, .f32⟩
  | 94 => ⟨S69632x3584, .f32⟩
  | 95 => ⟨S_, .f32⟩
  | 96 => ⟨S69632x3584, .f32⟩
  | 97 => ⟨S69632x3584, .f32⟩
  | 98 => ⟨S_, .f32⟩
  | 99 => ⟨S69632x3584, .f32⟩
  | 100 => ⟨S69632x3584, .f32⟩
  | 101 => ⟨S69632x3584, .f32⟩
  | 102 => ⟨S1x1024x3584, .f32⟩
  | 103 => ⟨S1024x3584, .f32⟩
  | 104 => ⟨S69632x3584, .f32⟩
  | 105 => ⟨S69632x3584, .f32⟩
  | 106 => ⟨S_, .i32⟩
  | 107 => ⟨S69632, .i32⟩
  | 108 => ⟨S69632, .i1⟩
  | 109 => ⟨S69632x1, .i1⟩
  | 110 => ⟨S1x3584x1024, .f32⟩
  | 111 => ⟨S3584x1024, .f32⟩
  | 112 => ⟨S69632x1024, .f32⟩
  | 113 => ⟨S_, .f32⟩
  | 114 => ⟨S_, .f32⟩
  | 115 => ⟨S69632x1024, .i1⟩
  | 116 => ⟨S69632x1024, .f32⟩
  | 117 => ⟨S69632x1024, .f32⟩
  | 118 => ⟨S69632x1024, .f32⟩
  | 119 => ⟨S1x1024x3584, .f32⟩
  | 120 => ⟨S1024x3584, .f32⟩
  | 121 => ⟨S69632x3584, .f32⟩
  | 122 => ⟨S69632x3584, .f32⟩
  | 123 => ⟨S69632x3584, .f32⟩
  | 124 => ⟨S_, .f32⟩
  | 125 => ⟨S69632x3584, .f32⟩
  | 126 => ⟨S69632x3584, .f32⟩
  | 127 => ⟨S_, .f32⟩
  | _ => ⟨S256, .i32⟩

abbrev hbmTy0_2 (i : Nat) : BufTy := match i % 128 with
  | 0 => ⟨S69632x3584, .f32⟩
  | 1 => ⟨S69632x3584, .f32⟩
  | 2 => ⟨S69632x3584, .f32⟩
  | 3 => ⟨S1x1024x3584, .f32⟩
  | 4 => ⟨S1024x3584, .f32⟩
  | 5 => ⟨S69632x3584, .f32⟩
  | 6 => ⟨S69632x3584, .f32⟩
  | 7 => ⟨S_, .i32⟩
  | 8 => ⟨S69632, .i32⟩
  | 9 => ⟨S69632, .i1⟩
  | 10 => ⟨S69632x1, .i1⟩
  | 11 => ⟨S1x3584x1024, .f32⟩
  | 12 => ⟨S3584x1024, .f32⟩
  | 13 => ⟨S69632x1024, .f32⟩
  | 14 => ⟨S_, .f32⟩
  | 15 => ⟨S_, .f32⟩
  | 16 => ⟨S69632x1024, .i1⟩
  | 17 => ⟨S69632x1024, .f32⟩
  | 18 => ⟨S69632x1024, .f32⟩
  | 19 => ⟨S69632x1024, .f32⟩
  | 20 => ⟨S557056x128, .f32⟩
  | _ => ⟨S256, .i32⟩

abbrev hbmTy (i : Nat) : BufTy := match i / 128 with
  | 0 => hbmTy0_0 i
  | 1 => hbmTy0_1 i
  | 2 => hbmTy0_2 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_call1_v0 : Ref sig .tc := ⟨.hbm, 39, rfl⟩
abbrev main_call1_v1 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_4 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call4_v0 : Ref sig .tc := ⟨.hbm, 76, rfl⟩
abbrev main_call4_v1 : Ref sig .tc := ⟨.hbm, 77, rfl⟩
abbrev main_call4_cst : Ref sig .tc := ⟨.hbm, 78, rfl⟩
abbrev main_call4_v2 : Ref sig .tc := ⟨.hbm, 79, rfl⟩
abbrev main_call4_v3 : Ref sig .tc := ⟨.hbm, 80, rfl⟩
abbrev main_call4_cst_0 : Ref sig .tc := ⟨.hbm, 81, rfl⟩
abbrev main_call4_v4 : Ref sig .tc := ⟨.hbm, 82, rfl⟩
abbrev main_call4_v5 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_c_5 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_6 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_call6_v0 : Ref sig .tc := ⟨.hbm, 105, rfl⟩
abbrev main_call6_v1 : Ref sig .tc := ⟨.hbm, 106, rfl⟩
abbrev main_call6_cst : Ref sig .tc := ⟨.hbm, 107, rfl⟩
abbrev main_call6_v2 : Ref sig .tc := ⟨.hbm, 108, rfl⟩
abbrev main_call6_v3 : Ref sig .tc := ⟨.hbm, 109, rfl⟩
abbrev main_call6_cst_0 : Ref sig .tc := ⟨.hbm, 110, rfl⟩
abbrev main_call6_v4 : Ref sig .tc := ⟨.hbm, 111, rfl⟩
abbrev main_call6_v5 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_c_7 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_8 : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_c_9 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_cst_10 : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_call10_v0 : Ref sig .tc := ⟨.hbm, 163, rfl⟩
abbrev main_call10_v1 : Ref sig .tc := ⟨.hbm, 164, rfl⟩
abbrev main_call10_cst : Ref sig .tc := ⟨.hbm, 165, rfl⟩
abbrev main_call10_v2 : Ref sig .tc := ⟨.hbm, 166, rfl⟩
abbrev main_call10_v3 : Ref sig .tc := ⟨.hbm, 167, rfl⟩
abbrev main_call10_cst_0 : Ref sig .tc := ⟨.hbm, 168, rfl⟩
abbrev main_call10_v4 : Ref sig .tc := ⟨.hbm, 169, rfl⟩
abbrev main_call10_v5 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_c_11 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_cst_12 : Ref sig .tc := ⟨.hbm, 183, rfl⟩
abbrev main_call11_v0 : Ref sig .tc := ⟨.hbm, 184, rfl⟩
abbrev main_call11_v1 : Ref sig .tc := ⟨.hbm, 185, rfl⟩
abbrev main_call11_v2 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_call12_v0 : Ref sig .tc := ⟨.hbm, 192, rfl⟩
abbrev main_call12_v1 : Ref sig .tc := ⟨.hbm, 193, rfl⟩
abbrev main_call12_cst : Ref sig .tc := ⟨.hbm, 194, rfl⟩
abbrev main_call12_v2 : Ref sig .tc := ⟨.hbm, 195, rfl⟩
abbrev main_call12_v3 : Ref sig .tc := ⟨.hbm, 196, rfl⟩
abbrev main_call12_cst_0 : Ref sig .tc := ⟨.hbm, 197, rfl⟩
abbrev main_call12_v4 : Ref sig .tc := ⟨.hbm, 198, rfl⟩
abbrev main_call12_v5 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_c_13 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_cst_14 : Ref sig .tc := ⟨.hbm, 212, rfl⟩
abbrev main_call13_v0 : Ref sig .tc := ⟨.hbm, 213, rfl⟩
abbrev main_call13_v1 : Ref sig .tc := ⟨.hbm, 214, rfl⟩
abbrev main_call13_v2 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_call14_v0 : Ref sig .tc := ⟨.hbm, 221, rfl⟩
abbrev main_call14_v1 : Ref sig .tc := ⟨.hbm, 222, rfl⟩
abbrev main_call14_cst : Ref sig .tc := ⟨.hbm, 223, rfl⟩
abbrev main_call14_v2 : Ref sig .tc := ⟨.hbm, 224, rfl⟩
abbrev main_call14_v3 : Ref sig .tc := ⟨.hbm, 225, rfl⟩
abbrev main_call14_cst_0 : Ref sig .tc := ⟨.hbm, 226, rfl⟩
abbrev main_call14_v4 : Ref sig .tc := ⟨.hbm, 227, rfl⟩
abbrev main_call14_v5 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_c_15 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_cst_16 : Ref sig .tc := ⟨.hbm, 241, rfl⟩
abbrev main_call15_v0 : Ref sig .tc := ⟨.hbm, 242, rfl⟩
abbrev main_call15_v1 : Ref sig .tc := ⟨.hbm, 243, rfl⟩
abbrev main_call15_v2 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_call16_v0 : Ref sig .tc := ⟨.hbm, 250, rfl⟩
abbrev main_call16_v1 : Ref sig .tc := ⟨.hbm, 251, rfl⟩
abbrev main_call16_cst : Ref sig .tc := ⟨.hbm, 252, rfl⟩
abbrev main_call16_v2 : Ref sig .tc := ⟨.hbm, 253, rfl⟩
abbrev main_call16_v3 : Ref sig .tc := ⟨.hbm, 254, rfl⟩
abbrev main_call16_cst_0 : Ref sig .tc := ⟨.hbm, 255, rfl⟩
abbrev main_call16_v4 : Ref sig .tc := ⟨.hbm, 256, rfl⟩
abbrev main_call16_v5 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_c_17 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_cst_18 : Ref sig .tc := ⟨.hbm, 270, rfl⟩
abbrev main_call17_v0 : Ref sig .tc := ⟨.hbm, 271, rfl⟩
abbrev main_call17_v1 : Ref sig .tc := ⟨.hbm, 272, rfl⟩
abbrev main_call17_v2 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩

abbrev nD : Nat := 1
abbrev τ : Topo := Topo.v7x

variable {F : FTy → Type} [FloatOps F]
-- ==== Kernel3.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S32768x2816, .f32⟩
  | .hbm, ⟨8, _⟩ => ⟨S32768x2816, .f32⟩
  | .hbm, ⟨9, _⟩ => ⟨S32768x2816, .f32⟩
  | .hbm, ⟨10, _⟩ => ⟨S_, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel4.lean ====
abbrev S32768x1024 : Shape := ⟨2, ![32768, 1024]⟩
abbrev S32768x128 : Shape := ⟨2, ![32768, 128]⟩
abbrev S1024 : Shape := ⟨1, ![1024]⟩
abbrev S1024x1792 : Shape := ⟨2, ![1024, 1792]⟩
abbrev S512 : Shape := ⟨1, ![512]⟩
abbrev S1x1024 : Shape := ⟨2, ![1, 1024]⟩
abbrev S1024x1280 : Shape := ⟨2, ![1024, 1280]⟩
abbrev S1024x512 : Shape := ⟨2, ![1024, 512]⟩
abbrev S512x1024 : Shape := ⟨2, ![512, 1024]⟩
abbrev S512x1 : Shape := ⟨2, ![512, 1]⟩
abbrev S512x128 : Shape := ⟨2, ![512, 128]⟩
abbrev S32768x512 : Shape := ⟨2, ![32768, 512]⟩
abbrev S512x32768 : Shape := ⟨2, ![512, 32768]⟩
abbrev S512x512 : Shape := ⟨2, ![512, 512]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S256x1280 : Shape := ⟨2, ![256, 1280]⟩
abbrev S256x128 : Shape := ⟨2, ![256, 128]⟩
abbrev S256x512 : Shape := ⟨2, ![256, 512]⟩
abbrev S512x256 : Shape := ⟨2, ![512, 256]⟩
abbrev S8x64x256 : Shape := ⟨3, ![8, 64, 256]⟩
abbrev S8x256 : Shape := ⟨2, ![8, 256]⟩
abbrev S8x1x256 : Shape := ⟨3, ![8, 1, 256]⟩

abbrev nBuf : Space → Nat
  | .hbm => 20
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x1792, .f32⟩
  | .hbm, ⟨5, _⟩ => ⟨S512, .f32⟩
  | .hbm, ⟨6, _⟩ => ⟨S512, .f32⟩
  | .hbm, ⟨7, _⟩ => ⟨S1024x1792, .bf16⟩
  | .hbm, ⟨8, _⟩ => ⟨S1x1024, .f32⟩
  | .hbm, ⟨9, _⟩ => ⟨S1024x1280, .bf16⟩
  | .hbm, ⟨10, _⟩ => ⟨S1024x512, .bf16⟩
  | .hbm, ⟨11, _⟩ => ⟨S512x1024, .bf16⟩
  | .hbm, ⟨12, _⟩ => ⟨S512x1, .f32⟩
  | .hbm, ⟨13, _⟩ => ⟨S512x128, .f32⟩
  | .hbm, ⟨14, _⟩ => ⟨S512x1, .f32⟩
  | .hbm, ⟨15, _⟩ => ⟨S512x128, .f32⟩
  | .hbm, ⟨16, _⟩ => ⟨S32768x512, .bf16⟩
  | .hbm, ⟨17, _⟩ => ⟨S32768x512, .bf16⟩
  | .hbm, ⟨18, _⟩ => ⟨S32768x512, .f32⟩
  | .hbm, ⟨19, _⟩ => ⟨S512x32768, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x1280, .bf16⟩
  | .local _ .vmem, ⟨8, _⟩ => ⟨S512x1024, .bf16⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x1024 : Shape := ⟨2, ![32768, 1024]⟩
abbrev S32768x128 : Shape := ⟨2, ![32768, 128]⟩
abbrev S1024 : Shape := ⟨1, ![1024]⟩
abbrev S1024x1792 : Shape := ⟨2, ![1024, 1792]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1792 : Shape := ⟨2, ![32768, 1792]⟩
abbrev S32768x512 : Shape := ⟨2, ![32768, 512]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x1792, .f32⟩
  | .hbm, ⟨5, _⟩ => ⟨S512, .f32⟩
  | .hbm, ⟨6, _⟩ => ⟨S512, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x1792, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Dispatch.Rows.lean ====
/-
  The dispatch's data movement without the machine: the rows of the result buffer, what the buffer holds after the first
  `n` row copies, and the facts the copies need of the list of destinations (in range, pairwise distinct).

  A "row" is a token's 1024 numbers, which the buffer stores as 8 lines of 128.  Copy number `j` moves the row of token
  `j / 2` to row `dst j` of the result.
-/
module

public import proofs.«01_k».proof.KernelIdeal
public import Idealize.ShloMosaic.Lib.ValueIdx
public import Idealize.ShloMosaic.Lib.Exec

@[expose] public section

set_option maxRecDepth 16384

noncomputable section

namespace Cert.Proof.Dispatch

open Cert.KernelIdeal
open Idealize.ShloMosaic Idealize.ShloMosaic.ValueIdx

variable {α : Type}

/-- Line of the token buffer that copy `j` moves to the line of `x` in the result: line `x₀ mod 8` of token `j / 2`. -/
def srcIx (j : ℕ) (x : S557056x128.Idx) : S262144x128.Idx :=
  ix2 ⟨(8 * (j / 2) + (x 0).val % 8) % 262144, Nat.mod_lt _ (by decide)⟩ (x 1)

/-- The copies so far: the first `n` of them, those landing on the row of `x`. -/
def Hits (dst : ℕ → ℕ) (n : ℕ) (x : S557056x128.Idx) : Prop := ∃ j, j < n ∧ dst j = (x 0).val / 8

open Classical in
/-- What the result buffer holds after the first `n` copies, begun at `base`. -/
def fill (dst : ℕ → ℕ) (src : S262144x128.Idx → α) (base : S557056x128.Idx → α) (n : ℕ) : S557056x128.Idx → α :=
  fun x => if h : Hits dst n x then src (srcIx h.choose x) else base x

/-- The copies' destinations are rows of the result, no two the same. -/
structure Placed (dst : ℕ → ℕ) : Prop where
  lt : ∀ j, j < 65536 → dst j < 69632
  inj : ∀ i j, i < 65536 → j < 65536 → dst i = dst j → i = j

/-- Before any copy the buffer holds what it was begun at. -/
theorem fill_zero (dst : ℕ → ℕ) (src : S262144x128.Idx → α) (base : S557056x128.Idx → α) : fill dst src base 0 = base := by
  funext x
  unfold fill
  rw [dif_neg]
  rintro ⟨j, hj, -⟩
  exact absurd hj (Nat.not_lt_zero _)

/-- After copy `j` its row holds token `j / 2`'s numbers. -/
theorem fill_on {dst : ℕ → ℕ} (hd : Placed dst) (src : S262144x128.Idx → α) (base : S557056x128.Idx → α) {n j : ℕ} (hn : n ≤ 65536) (hj : j < n)
    (x : S557056x128.Idx) (hx : (x 0).val / 8 = dst j) : fill dst src base n x = src (srcIx j x) := by
  have h : Hits dst n x := ⟨j, hj, hx.symm⟩
  unfold fill
  rw [dif_pos h]
  have hc := h.choose_spec
  rw [hd.inj h.choose j (by omega) (by omega) (by omega)]

/-- A row none of the first `n` copies lands on holds what it was begun at. -/
theorem fill_miss {dst : ℕ → ℕ} (src : S262144x128.Idx → α) (base : S557056x128.Idx → α) {n : ℕ} (x : S557056x128.Idx) (hx : ¬ Hits dst n x) :
    fill dst src base n x = base x := by
  unfold fill
  rw [dif_neg hx]

/-- A row the copies from `a` to `b` do not touch holds the same before and after them. -/
theorem fill_off {dst : ℕ → ℕ} (hd : Placed dst) (src : S262144x128.Idx → α) (base : S557056x128.Idx → α) {a b : ℕ} (hab : a ≤ b) (hb : b ≤ 65536)
    (x : S557056x128.Idx) (hx : ∀ j, a ≤ j → j < b → dst j ≠ (x 0).val / 8) : fill dst src base a x = fill dst src base b x := by
  by_cases h : Hits dst a x
  · obtain ⟨j, hj, e⟩ := h
    rw [fill_on hd src base (by omega) hj x e.symm, fill_on hd src base hb (by omega : j < b) x e.symm]
  · rw [fill_miss src base x h, fill_miss src base x]
    rintro ⟨j, hj, e⟩
    by_cases hja : j < a
    · exact h ⟨j, hja, e⟩
    · exact hx j (by omega) hj e

/-- The lines of row `r` lie in the result, for a row of the result. -/
theorem row_inb (r : ℕ) (hr : r < 69632) : ∀ a, (![8 * r, 0] : Fin 2 → ℕ) a + S8x128.size a ≤ S557056x128.size a := by
  intro a; fin_cases a
  · show 8 * r + 8 ≤ 557056; omega
  · show 0 + 128 ≤ 128; omega

open Classical in
/-- The elements of row `r` of the result. -/
def row (r : ℕ) : Finset S557056x128.Idx := Finset.univ.filter fun x => (x 0).val / 8 = r

theorem mem_row (r : ℕ) (x : S557056x128.Idx) : x ∈ row r ↔ (x 0).val / 8 = r := by
  unfold row
  simp only [Finset.mem_filter, Finset.mem_univ, true_and]

/-- A slice of the result of 8 lines begun at line `8 * r` is row `r`. -/
theorem row_eq (off : Fin 2 → ℕ) (inb : ∀ a, off a + S8x128.size a ≤ S557056x128.size a) (r : ℕ) (h0 : off 0 = 8 * r) (h1 : off 1 = 0) :
    (Rect.unit (s := S557056x128) off S8x128.size inb).set = row r := by
  ext x
  rw [Rect.mem_set_unit, mem_row]
  have hx : (x 1).val < 128 := (x 1).isLt
  constructor
  · intro H
    have a0 : off 0 ≤ (x 0).val ∧ (x 0).val < off 0 + 8 := H 0
    omega
  · intro H a; fin_cases a
    · show off 0 ≤ (x 0).val ∧ (x 0).val < off 0 + 8
      omega
    · show off 1 ≤ (x 1).val ∧ (x 1).val < off 1 + 128
      omega

/-- Different rows share no element. -/
theorem row_disjoint {r r' : ℕ} (h : r ≠ r') : Disjoint (row r) (row r') := by
  rw [Finset.disjoint_left]
  intro x hx hx'
  rw [mem_row] at hx hx'
  omega

/-- The rows the copies of point `t` land on: copies `2048 t … 2048 t + 2047`. -/
def touched (dst : ℕ → ℕ) (t : ℕ) : Finset S557056x128.Idx := Finset.univ.biUnion fun j : Fin 2048 => row (dst (2048 * t + j.val))

theorem not_mem_touched {dst : ℕ → ℕ} {t : ℕ} {x : S557056x128.Idx} (h : x ∉ touched dst t) :
    ∀ j, 2048 * t ≤ j → j < 2048 * (t + 1) → dst j ≠ (x 0).val / 8 := by
  intro j h1 h2 e
  refine h ?_
  unfold touched
  rw [Finset.mem_biUnion]
  refine ⟨⟨j - 2048 * t, by omega⟩, Finset.mem_univ _, ?_⟩
  rw [mem_row, ← e]
  show dst j = dst (2048 * t + (j - 2048 * t))
  rw [show 2048 * t + (j - 2048 * t) = j by omega]

theorem touched_disjoint {dst : ℕ → ℕ} (hd : Placed dst) {t : ℕ} (ht : t < 32) (b b' : Fin 2048) (h : b ≠ b') :
    Disjoint (row (dst (2048 * t + b.val))) (row (dst (2048 * t + b'.val))) := by
  refine row_disjoint fun e => h ?_
  have := b.isLt
  have := b'.isLt
  have := hd.inj _ _ (by omega) (by omega) e
  exact Fin.ext (by omega)

end Cert.Proof.Dispatch

end
-- ==== Proof.Dispatch.Issue.lean ====
/-
  The dispatch's first loop at one grid point: 1024 trips, each of which reads the two destinations of one token and
  issues the two copies of the token's row, all of them on one DMA semaphore.
-/
module

public import proofs.«01_k».proof.Proof.Dispatch.Rows
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Batch
public import Idealize.ShloMosaic.Lib.Ring
public import Idealize.ShloMosaic.Lib.Pipeline.Routed
public import Idealize.ShloMosaic.Lib.Tactic

@[expose] public section

set_option maxRecDepth 16384

noncomputable section

namespace Cert.Proof.Dispatch

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UC sig nD τ) ℕ

/-! ## The words -/

/-- The DMA semaphore of every copy. -/
abbrev cell : SemLoc sig := SemLoc.dma cc0_scratch0.sem

/-- What one row's copy credits the semaphore. -/
abbrev NN : ℕ := 128

theorem trips1 : k0_t1_loop.trips = 1024 := by decide +kernel
theorem trips2 : k0_t2_loop.trips = 1024 := by decide +kernel

/-- Eight times a row number does not overflow. -/
theorem mul8 (v : BitVec 32) (h : v.toNat < 69632) : (Scalar.muli v 8#32).toNat = 8 * v.toNat := by
  unfold Scalar.muli
  show (v * 8#32).toNat = _
  rw [BitVec.toNat_mul]
  show v.toNat * 8 % 2 ^ 32 = _
  rw [Nat.mod_eq_of_lt (by omega), Nat.mul_comm]

theorem off2_eq (v : BitVec 32) (h : v.toNat < 69632) : k0_off2 v = ![8 * v.toNat, 0] := by
  show ![(Scalar.muli v 8#32).toNat, 0] = _
  rw [mul8 v h]
theorem off5_eq (v : BitVec 32) (h : v.toNat < 69632) : k0_off5 v = ![8 * v.toNat, 0] := by
  show ![(Scalar.muli v 8#32).toNat, 0] = _
  rw [mul8 v h]

/-- A row number passes the first copy's check, -/
theorem chk1 (v : BitVec 32) (h : v.toNat < 69632) : k0_chk1 v := by
  unfold k0_chk1
  rw [off2_eq v h]
  refine ⟨?_, row_inb _ h⟩
  show 8 ∣ (Scalar.muli v 8#32).toNat
  rw [mul8 v h]
  exact Dvd.intro _ rfl
/-- and the second's. -/
theorem chk2 (v : BitVec 32) (h : v.toNat < 69632) : k0_chk2 v := by
  unfold k0_chk2
  rw [off5_eq v h]
  refine ⟨?_, row_inb _ h⟩
  show 8 ∣ (Scalar.muli v 8#32).toNat
  rw [mul8 v h]
  exact Dvd.intro _ rfl

/-! ## The rows of the staged block -/

theorem src_inb (k : ℕ) (hk : k < 1024) : ∀ a, (![8 * k, 0] : Fin 2 → ℕ) a + S8x128.size a ≤ S8192x128.size a := by
  intro a; fin_cases a
  · show 8 * k + 8 ≤ 8192; omega
  · show 0 + 128 ≤ 128; omega

/-- Row `j / 2` of the staged block, the source of the point's copy `j`. -/
def srcM (arg3 : Memref sig .tc .vmem S8192x128 .f32) (k : Fin 1024) : Memref sig .tc .vmem S8x128 .f32 :=
  arg3.slice (Rect.unit (s := S8192x128) ![8 * k.val, 0] S8x128.size (src_inb k.val k.isLt)) (fun _ => rfl)

theorem srcM_off (arg3 : Memref sig .tc .vmem S8192x128 .f32) (k : Fin 1024) (off : Fin 2 → ℕ) (inb : ∀ a, off a + S8x128.size a ≤ S8192x128.size a)
    (h : off = ![8 * k.val, 0]) : arg3.slice (Rect.unit (s := S8192x128) off S8x128.size inb) (fun _ => rfl) = srcM arg3 k := by
  subst h; rfl

/-- The row of the result a copy lands on, as the kernel slices it. -/
def dstM (r : ℕ) (hr : r < 69632) : Memref sig .tc .hbm S8x128 .f32 :=
  (Memref.whole main_v1).slice (Rect.unit (s := S557056x128) ![8 * r, 0] S8x128.size (row_inb r hr)) (fun _ => rfl)

theorem dstM_off (r : ℕ) (hr : r < 69632) (off : Fin 2 → ℕ) (inb : ∀ a, off a + S8x128.size a ≤ S557056x128.size a)
    (h : off = ![8 * r, 0]) : (Memref.whole main_v1).slice (Rect.unit (s := S557056x128) off S8x128.size inb) (fun _ => rfl) = dstM r hr := by
  subst h; rfl

theorem dstM_set (r : ℕ) (hr : r < 69632) : (dstM r hr).view.set = row r := by
  unfold dstM
  exact (View.set_slice_whole _ _).trans (row_eq _ _ r rfl rfl)

theorem half_lt (j : Fin 2048) : j.val / 2 < 1024 := by have := j.isLt; omega

/-! ## What a copy delivers -/

section Copies

variable (c : Dev nD) (t : ℕ) (dst : ℕ → ℕ) (src : S262144x128.Idx → Elt F .f32) (base : S557056x128.Idx → Elt F .f32)
  (arg3 : Memref sig .tc .vmem S8192x128 .f32) (f3 : Buf (Elt F) (arg3.view.loc (c : Thread nD τ)))

/-- Row `r` of the result, as a set of elements of the result's buffer. -/
def rowB (r : ℕ) : Finset (Idx ((c : Thread nD τ).loc main_v1)) := row r
/-- The result after the first `n` copies, as its buffer's contents. -/
def fillB (n : ℕ) : Buf (Elt F) ((c : Thread nD τ).loc main_v1) := fill dst src base n

/-- The row that copy `j` of the point lands on, as the buffer holds it before (`n = 2048 t`) or after (`n = 2048 (t + 1)`) the point. -/
def dRow (n : ℕ) (j : Fin 2048) : sProp 𝕄 :=
  ((c : Thread nD τ).loc main_v1) ↦[rowB c (dst (2048 * t + j.val))]{fullShare} fillB c dst src base n

/-- The staged block's contents, as those of the buffer of one of its rows. -/
def srcB (k : Fin 1024) : Buf (Elt F) ((srcM arg3 k).view.loc (c : Thread nD τ)) := f3

/-- The source row of copy `j`, under the copy's read token. -/
def sRow (j : Fin 2048) : sProp 𝕄 :=
  (srcM arg3 ⟨j.val / 2, half_lt j⟩).view.loc (c : Thread nD τ) ↦[(srcM arg3 ⟨j.val / 2, half_lt j⟩).view.set]{Transfers.shareTokN fullShare j.val} srcB c arg3 f3 ⟨j.val / 2, half_lt j⟩

/-- Copy `j` delivers its row of the result as it is after the point, and its source row back. -/
def dlv (j : Fin 2048) : sProp 𝕄 := iprop(dRow c t dst src base (2048 * (t + 1)) j ∗ sRow c arg3 f3 j)

instance dlv_storable (j : Fin 2048) : BI.Storable (upEmb : UEmb _ 𝕄) (dlv c t dst src base arg3 f3 j) := by
  unfold dlv dRow sRow; infer_instance

/-- The copies of the point on the semaphore: `j` issued, `u` units consumed. -/
abbrev copies (j u : ℕ) : sProp 𝕄 :=
  Transfers.Batch (countersEmb (U := Pipeline.UC sig nD τ)) (c : Thread nD τ) cell () NN (dlv c t dst src base arg3 f3) j u

/-- A copy writes its row as the result holds it after the point. -/
theorem delivered (hd : Placed dst) (ht : t < 32)
    (hblk : ∀ x : S8192x128.Idx, arg3.view.read (Elt F) f3 x = src (ix2 ⟨(8192 * t + (x 0).val) % 262144, Nat.mod_lt _ (by decide)⟩ (x 1)))
    (j : Fin 2048) (hr : dst (2048 * t + j.val) < 69632) (fd : Buf (Elt F) ((c : Thread nD τ).loc main_v1))
    (x : S557056x128.Idx) (hx : x ∈ row (dst (2048 * t + j.val))) :
    (dstM (dst (2048 * t + j.val)) hr).view.write (Elt F) fd ((srcM arg3 ⟨j.val / 2, half_lt j⟩).view.read (Elt F) f3) Finset.univ x
      = fill dst src base (2048 * (t + 1)) x := by
  have hxr := hx
  rw [← dstM_set _ hr] at hx
  rw [mem_row] at hxr
  have := j.isLt
  rw [fill_on hd src base (by omega) (j := 2048 * t + j.val) (by omega) x hxr]
  obtain ⟨y, -, rfl⟩ := Finset.mem_map.mp hx
  have hy0 : (y 0).val < 8 := (y 0).isLt
  have hy1 : (y 1).val < 128 := (y 1).isLt
  have e := congrFun (View.read_write_univ (Val := Elt F) (v := (dstM (dst (2048 * t + j.val)) hr).view) fd ((srcM arg3 ⟨j.val / 2, half_lt j⟩).view.read (Elt F) f3)) y
  refine Eq.trans (b := (srcM arg3 ⟨j.val / 2, half_lt j⟩).view.read (Elt F) f3 y) e ?_
  have e2 : (srcM arg3 ⟨j.val / 2, half_lt j⟩).view.read (Elt F) f3 y
      = arg3.view.read (Elt F) f3 ((Rect.unit (s := S8192x128) ![8 * (j.val / 2), 0] S8x128.size (src_inb _ (half_lt j))).emb y) := rfl
  rw [e2, hblk]
  refine congrArg src ?_
  show ix2 _ _ = srcIx (2048 * t + j.val) ((Rect.unit (s := S557056x128) ![8 * dst (2048 * t + j.val), 0] S8x128.size (row_inb _ hr)).emb y)
  have hv0 : (((Rect.unit (s := S557056x128) ![8 * dst (2048 * t + j.val), 0] S8x128.size (row_inb _ hr)).emb y) 0).val = 8 * dst (2048 * t + j.val) + 1 * (y 0).val := rfl
  have hs0 : (((Rect.unit (s := S8192x128) ![8 * (j.val / 2), 0] S8x128.size (src_inb _ (half_lt j))).emb y) 0).val = 8 * (j.val / 2) + 1 * (y 0).val := rfl
  unfold srcIx
  have h0 : (8192 * t + (((Rect.unit (s := S8192x128) ![8 * (j.val / 2), 0] S8x128.size (src_inb _ (half_lt j))).emb y) 0).val) % 262144
      = (8 * ((2048 * t + j.val) / 2) + (((Rect.unit (s := S557056x128) ![8 * dst (2048 * t + j.val), 0] S8x128.size (row_inb _ hr)).emb y) 0).val % 8) % 262144 := by
    rw [hv0, hs0]; congr 1; omega
  funext a
  fin_cases a
  · exact Fin.ext h0
  · exact Fin.ext (by
      show 0 + 1 * (y 1).val = 0 + 1 * (y 1).val
      rfl)

end Copies

/-! ## One trip of the loop -/

section Trip

variable (c : Dev nD) (i : grid0.Coords) (t : ℕ) (dst : ℕ → ℕ) (src : S262144x128.Idx → Elt F .f32) (base : S557056x128.Idx → Elt F .f32)
  (arg1 : Memref sig .tc .smem S1024 .i32) (harg1 : arg1.IsWhole) (arg2 : Memref sig .tc .smem S1024 .i32) (harg2 : arg2.IsWhole)
  (arg3 : Memref sig .tc .vmem S8192x128 .f32) (harg3 : arg3.IsWhole)
  (f1 : Buf (Elt F) (arg1.view.loc (c : Thread nD τ))) (f2 : Buf (Elt F) (arg2.view.loc (c : Thread nD τ))) (f3 : Buf (Elt F) (arg3.view.loc (c : Thread nD τ)))

/-- Before trip `k`: the first `2 k` copies issued and nothing waited for; the words; the rows of the result and of the
    staged block of the copies still to come. -/
def issueAt (k : ℕ) (_ : Unit) : sProp 𝕄 :=
  iprop(copies c t dst src base arg3 f3 (2 * k) 0
    ∗ (arg1.view.loc (c : Thread nD τ) ↦[arg1.view.set]{fullShare} f1) ∗ (arg2.view.loc (c : Thread nD τ) ↦[arg2.view.set]{fullShare} f2)
    ∗ bigSep (Ring.rangeSet 2048 (2 * k) 2048) (dRow c t dst src base (2048 * t)) ∗ bigSep (Ring.rangeSet 2048 (2 * k) 2048) (sRow c arg3 f3))

/-- What the words and the staged block are at the point: the destinations of the point's copies, and the point's tokens. -/
structure Staged : Prop where
  placed : Placed dst
  lt : t < 32
  w1 : ∀ k : Fin 1024, BitVec.toNat (w := 32) (arg1.view.read (Elt F) f1 (ix1 k)) = dst (2048 * t + 2 * k.val)
  w2 : ∀ k : Fin 1024, BitVec.toNat (w := 32) (arg2.view.read (Elt F) f2 (ix1 k)) = dst (2048 * t + (2 * k.val + 1))
  blk : ∀ x : S8192x128.Idx, arg3.view.read (Elt F) f3 x = src (ix2 ⟨(8192 * t + (x 0).val) % 262144, Nat.mod_lt _ (by decide)⟩ (x 1))

/-- One copy: the row of the result it lands on and its source row's token go into the batch. -/
theorem copy_step [∀ e, Nonempty (Elt F e)] (hs : Staged c t dst src arg1 arg2 arg3 f1 f2 f3) (j : Fin 2048) (kk : Fin 1024) (hkk : kk.val = j.val / 2)
    (off : Fin 2 → ℕ) (inb : ∀ a, off a + S8x128.size a ≤ S557056x128.size a) (hoff : off = ![8 * dst (2048 * t + j.val), 0])
    {hsrc : (srcM arg3 kk).view.WordExact} {hdst : ((Memref.whole main_v1).slice (Rect.unit (s := S557056x128) off S8x128.size inb) (fun _ => rfl)).view.WordExact}
    {hsem : DmaTarget.Typed (nD := nD) (p := (c : Thread nD τ).2) .vmem cell (.here ((Memref.whole main_v1).slice (Rect.unit (s := S557056x128) off S8x128.size inb) (fun _ => rfl)))}
    {k : PUnit → Prog (TpuEff nD τ sig (Elt F) Λ₀ .tc) PUnit} {Q : PUnit → sProp 𝕄} :
    iprop(sRow c arg3 f3 j ∗ dRow c t dst src base (2048 * t) j ∗ copies c t dst src base arg3 f3 j.val 0)
      ⊢ iprop((copies c t dst src base arg3 f3 (j.val + 1) 0 -∗ wp frame (wpE (defs₀ (F := F)) Variants.none (c : Thread nD τ) none) Set.univ (k ⟨⟩) Q)
        -∗ wp frame (wpE (defs₀ (F := F)) Variants.none (c : Thread nD τ) none) Set.univ
          (Prog.lift (.enqueueDma (srcM arg3 kk) (.here ((Memref.whole main_v1).slice (Rect.unit (s := S557056x128) off S8x128.size inb) (fun _ => rfl))) cell hsrc hdst hsem) >>= k) Q) := by
  have hj := j.isLt
  have ht := hs.lt
  have hr : dst (2048 * t + j.val) < 69632 := hs.placed.lt _ (by omega)
  obtain rfl : kk = ⟨j.val / 2, half_lt j⟩ := Fin.ext hkk
  subst hoff
  have hD : iprop((((c : Thread nD τ).loc main_v1) ↦[rowB c (dst (2048 * t + j.val))]{fullShare}
        ((dstM (dst (2048 * t + j.val)) hr).view.write (Elt F) (fillB c dst src base (2048 * t)) ((srcM arg3 ⟨j.val / 2, half_lt j⟩).view.read (Elt F) f3) Finset.univ))
      ∗ sRow c arg3 f3 j) ⊢ dlv c t dst src base arg3 f3 j := by
    unfold dlv dRow
    exact BI.sep_mono_l (Entails.of_eq (pointsTo_congr fun x hx => delivered c t dst src base arg3 f3 hs.placed ht hs.blk j hr _ x hx))
  have h := Transfers.wp_dmaBatch (countersEmb (U := Pipeline.UC sig nD τ)) Variants.none (c : Thread nD τ) none (defs := defs₀ (F := F)) (Q := Q) (k := fun r => (Prog.ret r).bind k)
    (src := srcM arg3 ⟨j.val / 2, half_lt j⟩) (dst := dstM (dst (2048 * t + j.val)) hr) (sm := cell) (hsrc := hsrc) (hdst := hdst) (hsem := hsem)
    (q := Transfers.shareTokN fullShare j.val) (fs := srcB c arg3 f3 ⟨j.val / 2, half_lt j⟩) (Sd := rowB c (dst (2048 * t + j.val))) (fd := fillB c dst src base (2048 * t))
    (via := ReadAs.same) (D := dlv c t dst src base arg3 f3) (j := j.val) (u := 0)
    () NN rfl (Finset.Subset.antisymm_iff.mp (dstM_set _ hr)).1 hj (Nat.zero_le _)
    hD
  exact h

theorem word_at (a : Memref sig .tc .smem S1024 .i32) (f : Buf (Elt F) (a.view.loc (c : Thread nD τ))) (k : Fin 1024) (off : Fin 1 → ℕ)
    (inb : ∀ b, off b + S1.size b ≤ S1024.size b) (hoff : off = ![k.val]) (x : S1.Idx) :
    View.readAt (Elt F) a.view (Rect.unit (s := S1024) off S1.size inb).toLoadRect f x = a.view.read (Elt F) f (ix1 k) := by
  subst hoff
  have e : View.readAt (Elt F) a.view (Rect.unit (s := S1024) ![k.val] S1.size inb).toLoadRect f x
      = a.view.read (Elt F) f ((Rect.unit (s := S1024) ![k.val] S1.size inb).emb x) := rfl
  rw [e]
  congr 1
  funext b
  fin_cases b
  refine Fin.ext ?_
  have := (x 0).isLt
  show k.val + 1 * (x 0).val = k.val
  have h1 : (x 0).val < 1 := (x 0).isLt
  omega

theorem issue_step [∀ e, Nonempty (Elt F e)] (hs : Staged c t dst src arg1 arg2 arg3 f1 f2 f3) (k : Fin k0_t1_loop.trips) (acc : Unit) :
    issueAt c t dst src base arg1 arg2 arg3 f1 f2 f3 k.val acc
      ⊢ wp frame (wpE (defs₀ (F := F)) Variants.none (c : Thread nD τ) none) Set.univ
        (k0_t1_body (F := F) i arg1 harg1 arg2 harg2 arg3 harg3 (Memref.whole main_v1) (Memref.isWhole_whole _) (Memref.whole main_v1) (Memref.isWhole_whole _) cc0_scratch0 k acc)
        (issueAt c t dst src base arg1 arg2 arg3 f1 f2 f3 (k.val + 1)) := by
  have hk : k.val < 1024 := Nat.lt_of_lt_of_eq k.isLt trips1
  have ht := hs.lt
  unfold issueAt
  rw [Ring.bigSep_rangeSet_head (Φ := dRow c t dst src base (2048 * t)) (lo := 2 * k.val) (by omega) (by omega),
    Ring.bigSep_rangeSet_head (Φ := dRow c t dst src base (2048 * t)) (lo := 2 * k.val + 1) (by omega) (by omega),
    Ring.bigSep_rangeSet_head (Φ := sRow c arg3 f3) (lo := 2 * k.val) (by omega) (by omega),
    Ring.bigSep_rangeSet_head (Φ := sRow c arg3 f3) (lo := 2 * k.val + 1) (by omega) (by omega),
    show 2 * (k.val + 1) = 2 * k.val + 1 + 1 by omega]
  iintro ⟨HB, H1, H2, ⟨HD0, HD1, HDs⟩, ⟨HS0, HS1, HSs⟩⟩
  sl_unfold [k0_t1_body]
  simp only [srcM_off arg3 ⟨k.val, hk⟩ _ _ (k0_off3_eq k), srcM_off arg3 ⟨k.val, hk⟩ _ _ (k0_off6_eq k)]
  sl_exec
  have e1 : BitVec.toNat (w := 32) (issue_step.sl.r c arg1 f1 k) = dst (2048 * t + 2 * k.val) :=
by
    unfold issue_step.sl.r
    exact (congrArg (BitVec.toNat (w := 32)) (word_at c arg1 f1 ⟨k.val, hk⟩ _ _ (k0_off1_eq k) _)).trans (hs.w1 ⟨k.val, hk⟩)
  have r1 := hs.placed.lt (2048 * t + 2 * k.val) (by omega)
  rw [wp_assume_of _ _ _ _ (chk1 _ (e1 ▸ r1))]
  iapply (copy_step c t dst src base arg1 arg2 arg3 f1 f2 f3 hs ⟨2 * k.val, by omega⟩ ⟨k.val, hk⟩ (by show k.val = 2 * k.val / 2; omega) _ _
    ((off2_eq _ (e1 ▸ r1)).trans (by rw [e1]))) $$ [HS0 HD0 HB]
  · iframe
  iintro HB
  sl_exec
  have e2 : BitVec.toNat (w := 32) (issue_step.sl.r_1 c arg2 f2 k) = dst (2048 * t + (2 * k.val + 1)) := by
    unfold issue_step.sl.r_1
    exact (congrArg (BitVec.toNat (w := 32)) (word_at c arg2 f2 ⟨k.val, hk⟩ _ _ (k0_off4_eq k) _)).trans (hs.w2 ⟨k.val, hk⟩)
  have r2 := hs.placed.lt (2048 * t + (2 * k.val + 1)) (by omega)
  rw [wp_assume_of _ _ _ _ (chk2 _ (e2 ▸ r2))]
  iapply (copy_step c t dst src base arg1 arg2 arg3 f1 f2 f3 hs ⟨2 * k.val + 1, by omega⟩ ⟨k.val, hk⟩ (by show k.val = (2 * k.val + 1) / 2; omega) _ _
    ((off5_eq _ (e2 ▸ r2)).trans (by rw [e2]))) $$ [HS1 HD1 HB]
  · iframe
  iintro HB
  sl_step
  iframe

end Trip

end Cert.Proof.Dispatch

end
-- ==== Proof.Dispatch.Body.lean ====
/-
  The dispatch's body at one grid point: the result's rows the point writes set apart, the staged block cut into the
  copies' sources, the loop that issues, the loop that waits, and everything put together again.
-/
module

public import proofs.«01_k».proof.Proof.Dispatch.Issue

@[expose] public section

set_option maxRecDepth 16384

noncomputable section

namespace Cert.Proof.Dispatch

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- Two assertions that entail each other are equal. -/
theorem eq_of_bi {P Q : sProp 𝕄} (h : P ⊣⊢ Q) : P = Q := BI.Entails.antisymm h.1 h.2

section Drain

variable (c : Dev nD) (i : grid0.Coords) (t : ℕ) (dst : ℕ → ℕ) (src : S262144x128.Idx → Elt F .f32) (base : S557056x128.Idx → Elt F .f32)
  (arg1 : Memref sig .tc .smem S1024 .i32) (harg1 : arg1.IsWhole) (arg2 : Memref sig .tc .smem S1024 .i32) (harg2 : arg2.IsWhole)
  (arg3 : Memref sig .tc .vmem S8192x128 .f32) (harg3 : arg3.IsWhole) (f3 : Buf (Elt F) (arg3.view.loc (c : Thread nD τ)))

/-- Before trip `k` of the waiting loop: `2 k` copies waited for; after the last one the semaphore at zero and every delivery. -/
def drainAt (k : ℕ) (_ : Unit) : sProp 𝕄 :=
  iprop(⌜k ≤ 1024⌝ ∗ (∃ W, owes (c : Thread nD τ) 0 W)
    ∗ (if k < 1024 then copies c t dst src base arg3 f3 2048 (2 * k * NN)
       else iprop(semVal ((c : Thread nD τ), cell) 0 ∗ bigSep Finset.univ (dlv c t dst src base arg3 f3))))

theorem drain_step [∀ e, Nonempty (Elt F e)] (k : Fin k0_t2_loop.trips) (acc : Unit) :
    drainAt c t dst src base arg3 f3 k.val acc
      ⊢ wp frame (wpE (defs₀ (F := F)) Variants.none (c : Thread nD τ) none) Set.univ
        (k0_t2_body (F := F) i arg1 harg1 arg2 harg2 arg3 harg3 (Memref.whole main_v1) (Memref.isWhole_whole _) (Memref.whole main_v1) (Memref.isWhole_whole _) cc0_scratch0 k acc)
        (drainAt c t dst src base arg3 f3 (k.val + 1)) := by
  have hk : k.val < 1024 := Nat.lt_of_lt_of_eq k.isLt trips2
  unfold drainAt
  simp only [if_pos hk]
  rcases Nat.lt_or_ge (k.val + 1) 1024 with h1 | h1
  · simp only [if_pos h1]
    iintro ⟨-, ⟨%W, HO⟩, HB⟩
    sl_unfold [k0_t2_body]
    sl_exec
    sl_step
    isplitr; · ipureintro; omega
    isplitl [HO]; · iexists _; iexact HO
    rw [show 2 * (k.val + 1) * NN = 2 * k.val * NN + NN + NN by simp only [NN]; omega]
    iexact HB
  · simp only [if_neg (Nat.not_lt.mpr h1)]
    iintro ⟨-, ⟨%W, HO⟩, HB⟩
    sl_unfold [k0_t2_body]
    sl_exec
    sl_step
    isplitr; · ipureintro; omega
    isplitl [HO]; · iexists _; iexact HO
    isplitl [HB]; · iexact HB
    iexact HB_all

end Drain

/-! ## The point's rows of the result, and the staged block in the copies' sources -/

section Parts

variable (c : Dev nD) (t : ℕ) (dst : ℕ → ℕ) (src : S262144x128.Idx → Elt F .f32) (base : S557056x128.Idx → Elt F .f32)
  (arg3 : Memref sig .tc .vmem S8192x128 .f32) (f3 : Buf (Elt F) (arg3.view.loc (c : Thread nD τ)))

/-- The elements of the result the point writes, as elements of the result's buffer. -/
def touchedB : Finset (Idx ((c : Thread nD τ).loc main_v1)) := touched dst t

/-- The result after `n` copies, whole. -/
def outW (n : ℕ) : sProp 𝕄 := ((c : Thread nD τ).loc main_v1) ↦{fullShare} fillB c dst src base n
/-- What the point leaves alone of it. -/
def outRest (n : ℕ) : sProp 𝕄 := ((c : Thread nD τ).loc main_v1) ↦[Finset.univ \ touchedB c t dst]{fullShare} fillB c dst src base n

theorem out_split (hd : Placed dst) (ht : t < 32) (n : ℕ) :
    (outW c dst src base n : sProp 𝕄) = iprop(bigSep Finset.univ (dRow c t dst src base n) ∗ outRest c t dst src base n) := by
  have e : (((c : Thread nD τ).loc main_v1) ↦[touchedB c t dst]{fullShare} fillB c dst src base n : sProp 𝕄) = bigSep Finset.univ (dRow c t dst src base n) :=
    Ring.pointsTo_sub_blocks (fun j : Fin 2048 => rowB c (dst (2048 * t + j.val))) (touched_disjoint hd ht) (touchedB c t dst) rfl (fillB c dst src base n)
  unfold outW outRest
  rw [← e]
  exact eq_of_bi (pointsTo_split_subset (Finset.subset_univ _))

theorem fill_rest (hd : Placed dst) (ht : t < 32) (x : S557056x128.Idx) (hx : x ∉ touched dst t) :
    fill dst src base (2048 * t) x = fill dst src base (2048 * (t + 1)) x :=
  fill_off hd src base (by omega) (by omega) x (not_mem_touched hx)

theorem outRest_step (hd : Placed dst) (ht : t < 32) : outRest c t dst src base (2048 * t) = (outRest c t dst src base (2048 * (t + 1)) : sProp 𝕄) := by
  unfold outRest
  refine pointsTo_congr fun x hx => ?_
  rw [Finset.mem_sdiff] at hx
  exact fill_rest t dst src base hd ht x hx.2

/-- The rows copy `j` reads, as elements of the staged block's buffer. -/
def srcSet (j : Fin 2048) : Finset (Idx (arg3.view.loc (c : Thread nD τ))) := (srcM arg3 ⟨j.val / 2, half_lt j⟩).view.set

theorem srcSet_sub (j : Fin 2048) : srcSet c arg3 j ⊆ arg3.view.set := by
  unfold srcSet
  exact View.set_slice_subset arg3.view (Rect.unit (s := S8192x128) ![8 * (j.val / 2), 0] S8x128.size (src_inb (j.val / 2) (half_lt j)))

theorem src_cut (j : Fin 2048) : (arg3.view.loc (c : Thread nD τ) ↦[arg3.view.set]{Transfers.shareTokN fullShare j.val} f3 : sProp 𝕄)
    = iprop((arg3.view.loc (c : Thread nD τ) ↦[arg3.view.set \ srcSet c arg3 j]{Transfers.shareTokN fullShare j.val} f3) ∗ sRow c arg3 f3 j) := by
  rw [eq_of_bi (pointsTo_split_subset (srcSet_sub c arg3 j)), eq_of_bi Idealize.SL.BI.Laws.sep_comm]
  rfl

/-- What is left of the staged block beside the copies' sources: the share no copy takes, and of each copy's share
    the rows the copy does not read. -/
def srcRest : sProp 𝕄 :=
  iprop((arg3.view.loc (c : Thread nD τ) ↦[arg3.view.set]{Transfers.shareDrop fullShare 2048} f3)
    ∗ bigSep Finset.univ fun j : Fin 2048 => arg3.view.loc (c : Thread nD τ) ↦[arg3.view.set \ srcSet c arg3 j]{Transfers.shareTokN fullShare j.val} f3)

theorem src_split :
    (arg3.view.loc (c : Thread nD τ) ↦[arg3.view.set]{fullShare} f3 : sProp 𝕄) = iprop(srcRest c arg3 f3 ∗ bigSep Finset.univ (sRow c arg3 f3)) := by
  have e1 : ∀ j : Fin 2048, (arg3.view.loc (c : Thread nD τ) ↦[arg3.view.set]{Transfers.shareTokN fullShare j.val} f3 : sProp 𝕄)
      = iprop((arg3.view.loc (c : Thread nD τ) ↦[arg3.view.set \ srcSet c arg3 j]{Transfers.shareTokN fullShare j.val} f3) ∗ sRow c arg3 f3 j) := fun j =>
    src_cut c arg3 f3 j
  have e2 := Ring.bigSep_rangeSet_eq_range (NB := 2048) (lo := 0) (hi := 2048) (M := 𝕄)
    (Φ := fun j : Fin 2048 => (arg3.view.loc (c : Thread nD τ) ↦[arg3.view.set]{Transfers.shareTokN fullShare j.val} f3 : sProp 𝕄)) le_rfl
    (fun j => (arg3.view.loc (c : Thread nD τ) ↦[arg3.view.set]{Transfers.shareTokN fullShare j} f3 : sProp 𝕄)) (fun k hk => by simp only [Nat.zero_add])
  rw [Ring.rangeSet_univ, Nat.sub_zero] at e2
  rw [eq_of_bi (Transfers.pointsTo_toks_range fullShare 2048), ← e2, BI.bigSep_congr (fun j _ => e1 j), BI.bigSep_sep']
  unfold srcRest
  exact (eq_of_bi Idealize.SL.BI.Laws.sep_assoc).symm

end Parts

/-! ## The body -/

section Run

variable (c : Dev nD) (i : grid0.Coords) (t : ℕ) (dst : ℕ → ℕ) (src : S262144x128.Idx → Elt F .f32) (base : S557056x128.Idx → Elt F .f32)
  (arg1 : Memref sig .tc .smem S1024 .i32) (harg1 : arg1.IsWhole) (arg2 : Memref sig .tc .smem S1024 .i32) (harg2 : arg2.IsWhole)
  (arg3 : Memref sig .tc .vmem S8192x128 .f32) (harg3 : arg3.IsWhole)
  (f1 : Buf (Elt F) (arg1.view.loc (c : Thread nD τ))) (f2 : Buf (Elt F) (arg2.view.loc (c : Thread nD τ))) (f3 : Buf (Elt F) (arg3.view.loc (c : Thread nD τ)))

set_option warn.classDefReducibility false in
/-- The issuing loop's invariant, for the run to take. -/
@[sl_loop] def issueInv [∀ e, Nonempty (Elt F e)] (hs : Staged c t dst src arg1 arg2 arg3 f1 f2 f3) :
    Gen.LoopInvTy_k0_t1 (F := F) Unit ℕ (Pipeline.UC sig nD τ) ℕ Variants.none c none Set.univ i arg1 harg1 arg2 harg2 arg3 harg3
      (Memref.whole main_v1) (Memref.isWhole_whole _) (Memref.whole main_v1) (Memref.isWhole_whole _) cc0_scratch0 where
  inv := issueAt c t dst src base arg1 arg2 arg3 f1 f2 f3
  step := issue_step c i t dst src base arg1 harg1 arg2 harg2 arg3 harg3 f1 f2 f3 hs

/-- The body at point `t`: from the result after `2048 t` copies to the result after `2048 (t + 1)`; the words, the staged
    block and the semaphore as they were. -/
theorem body_run [∀ e, Nonempty (Elt F e)] (hs : Staged c t dst src arg1 arg2 arg3 f1 f2 f3) (W : Waits sig Unit) :
    iprop(outW c dst src base (2048 * t) ∗ semVal ((c : Thread nD τ), cell) 0 ∗ owes (c : Thread nD τ) 0 W
      ∗ (arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3))
      ⊢ wp frame (wpE (defs₀ (F := F)) Variants.none (c : Thread nD τ) none) Set.univ
        (cc0_dispatch (F := F) i arg1 harg1 arg2 harg2 arg3 harg3 (Memref.whole main_v1) (Memref.isWhole_whole _) (Memref.whole main_v1) (Memref.isWhole_whole _) cc0_scratch0)
        (fun _ => iprop(outW c dst src base (2048 * (t + 1)) ∗ semVal ((c : Thread nD τ), cell) 0 ∗ (∃ W, owes (c : Thread nD τ) 0 W)
          ∗ (arg1.view.loc (c : Thread nD τ) ↦[arg1.view.set]{fullShare} f1) ∗ (arg2.view.loc (c : Thread nD τ) ↦[arg2.view.set]{fullShare} f2)
          ∗ (arg3.view.loc (c : Thread nD τ) ↦[arg3.view.set]{fullShare} f3))) := by
  rw [out_split c t dst src base hs.placed hs.lt, out_split c t dst src base hs.placed hs.lt, outRest_step c t dst src base hs.placed hs.lt, src_split c arg3 f3]
  iintro ⟨⟨HD, HDr⟩, Hc, HO, H1, H2, HSr, HS⟩
  imod (Transfers.batch_alloc' (Lvl := ℕ) (countersEmb (U := Pipeline.UC sig nD τ)) (c : Thread nD τ) () NN (dlv c t dst src base arg3 f3) (sm := cell) (E := Set.univ)) $$ Hc with HB
  simp only [cc0_dispatch_eq_skeleton]
  sl_unfold [cc0_dispatch_skel]
  sl_for (issueAt c t dst src base arg1 arg2 arg3 f1 f2 f3) $$ [HB H1 H2 HD HS]
  · intro k acc; exact issue_step c i t dst src base arg1 harg1 arg2 harg2 arg3 harg3 f1 f2 f3 hs k acc
  · unfold issueAt
    rw [show 2 * 0 = 0 from rfl, Ring.rangeSet_univ]
    iframe
  iintro %acc HL
  ihave HL' := (show issueAt c t dst src base arg1 arg2 arg3 f1 f2 f3 (Scf.trips k0_t1_loop.lb k0_t1_loop.ub k0_t1_loop.st) acc
      ⊢ iprop(copies c t dst src base arg3 f3 2048 0
        ∗ (arg1.view.loc (c : Thread nD τ) ↦[arg1.view.set]{fullShare} f1) ∗ (arg2.view.loc (c : Thread nD τ) ↦[arg2.view.set]{fullShare} f2)) from by
      rw [show Scf.trips k0_t1_loop.lb k0_t1_loop.ub k0_t1_loop.st = 1024 from trips1]
      unfold issueAt
      iintro ⟨HB, H1, H2, -, -⟩
      iframe) $$ HL
  icases HL' with ⟨HB, H1, H2⟩
  sl_unfold [body_run.sl.prog.cont_1]
  sl_for (drainAt c t dst src base arg3 f3) $$ [HB HO]
  · intro k acc; exact drain_step c i t dst src base arg1 harg1 arg2 harg2 arg3 harg3 f3 k acc
  · unfold drainAt
    rw [if_pos (by decide), show 2 * 0 * NN = 0 from rfl]
    isplitr; · ipureintro; omega
    isplitl [HO]; · iexists _; iexact HO
    iexact HB
  iintro %acc HL
  ihave HL' := (show drainAt c t dst src base arg3 f3 (Scf.trips k0_t2_loop.lb k0_t2_loop.ub k0_t2_loop.st) acc
      ⊢ iprop((∃ W, owes (c : Thread nD τ) 0 W) ∗ semVal ((c : Thread nD τ), cell) 0 ∗ bigSep Finset.univ (dlv c t dst src base arg3 f3)) from by
      rw [show Scf.trips k0_t2_loop.lb k0_t2_loop.ub k0_t2_loop.st = 1024 from trips2]
      unfold drainAt
      rw [if_neg (by decide)]
      iintro ⟨-, HO, Hc, Hall⟩
      iframe) $$ HL
  icases HL' with ⟨HO, Hc, Hall⟩
  ihave Hd := (show bigSep Finset.univ (dlv c t dst src base arg3 f3)
      ⊢ iprop(bigSep Finset.univ (dRow c t dst src base (2048 * (t + 1))) ∗ bigSep Finset.univ (sRow c arg3 f3))
    from Entails.of_eq (BI.bigSep_sep _ _ _)) $$ Hall
  icases Hd with ⟨HD, HS⟩
  sl_unfold [body_run.sl.prog.cont_2]
  sl_step
  iframe

end Run

end Cert.Proof.Dispatch

end
-- ==== Proof.Dispatch.Run.lean ====
/-
  The dispatch's run: the host lays the tokens out in rows of 128, fills the result with zeros and cuts the two lists of
  destinations apart; the grid of 32 points then copies every token to its two rows.
-/
module

public import proofs.«01_k».proof.Proof.Dispatch.Body

@[expose] public section

set_option maxRecDepth 16384

noncomputable section

namespace Cert.Proof.Dispatch

open Cert.KernelIdeal Cert.KernelIdeal.Gen
open Idealize.ShloMosaic Idealize.ShloMosaic.TcCoe Idealize.ShloMosaic.Tactic Idealize.ShloMosaic.ValueIdx
open Idealize.ShloMosaic.Rounds
open Idealize.ShloMosaic.Pipeline (Dat BodyObligation)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

variable (m : (ℓ : Loc nD τ sig) → Buf (Elt F) ℓ) (ρ : Dev nD → PrngReg)

/-! ## What the region finds -/

/-- The two lists of destinations, the tokens in rows of 128, and the result before the region, as the host leaves them. -/
def words0 (c : Dev nD) : S32768.Idx → BitVec 32 := V m c main_v3
def words1 (c : Dev nD) : S32768.Idx → BitVec 32 := V m c main_v5
def tokens (c : Dev nD) : S262144x128.Idx → Elt F .f32 := V m c main_v0
def before (c : Dev nD) : S557056x128.Idx → Elt F .f32 := V m c main_v1

/-- The row copy `j` lands on: token `j / 2`'s first destination for even `j`, its second for odd. -/
def dstOf (w0 w1 : S32768.Idx → BitVec 32) (j : ℕ) : ℕ :=
  if j % 2 = 0 then (w0 (ix1 ⟨(j / 2) % 32768, Nat.mod_lt _ (by decide)⟩)).toNat else (w1 (ix1 ⟨(j / 2) % 32768, Nat.mod_lt _ (by decide)⟩)).toNat

/-- The destinations of device `c`. -/
abbrev dests (c : Dev nD) : ℕ → ℕ := dstOf (words0 m c) (words1 m c)

/-- The result after the first `n` copies. -/
abbrev outAt (c : Dev nD) (n : ℕ) : sProp 𝕄 := outW c (dests m c) (tokens m c) (before m c) n

theorem index0 : ∀ t : Fin cfg0.N, win0_0.index t 0 = t.val := by decide +kernel
theorem index1 : ∀ t : Fin cfg0.N, win0_1.index t 0 = t.val := by decide +kernel
theorem index2 : ∀ t : Fin cfg0.N, win0_2.index t 0 = t.val ∧ win0_2.index t 1 = 0 := by decide +kernel

theorem point_lt (t : Fin cfg0.N) : t.val < 32 := t.isLt

/-- Point `t`'s block of the first list of destinations, of the second, and of the tokens' rows. -/
theorem block0 (c : Dev nD) (t : Fin cfg0.N) (k : Fin 1024) :
    (iblk m c 0 t : S1024.Idx → BitVec 32) (ix1 k) = words0 m c (ix1 ⟨1024 * t.val + k.val, by have := point_lt t; have := k.isLt; omega⟩) := by
  unfold iblk words0
  rw [View.read_apply]
  show V m c main_v3 _ = V m c main_v3 _
  congr 1
  funext a
  apply Fin.ext
  match a with
  | ⟨0, _⟩ => show win0_0.index t 0 * 1024 + 1 * k.val = 1024 * t.val + k.val; rw [index0]; omega
theorem block1 (c : Dev nD) (t : Fin cfg0.N) (k : Fin 1024) :
    (iblk m c 1 t : S1024.Idx → BitVec 32) (ix1 k) = words1 m c (ix1 ⟨1024 * t.val + k.val, by have := point_lt t; have := k.isLt; omega⟩) := by
  unfold iblk words1
  rw [View.read_apply]
  show V m c main_v5 _ = V m c main_v5 _
  congr 1
  funext a
  apply Fin.ext
  match a with
  | ⟨0, _⟩ => show win0_1.index t 0 * 1024 + 1 * k.val = 1024 * t.val + k.val; rw [index1]; omega
theorem block2 (c : Dev nD) (t : Fin cfg0.N) (x : S8192x128.Idx) :
    (iblk m c 2 t : S8192x128.Idx → Elt F .f32) x = tokens m c (ix2 ⟨(8192 * t.val + (x 0).val) % 262144, Nat.mod_lt _ (by decide)⟩ (x 1)) := by
  have ht := point_lt t
  have hx : (x 0).val < 8192 := (x 0).isLt
  unfold iblk tokens
  rw [View.read_apply]
  show V m c main_v0 _ = V m c main_v0 _
  congr 1
  funext a
  apply Fin.ext
  match a with
  | ⟨0, _⟩ =>
    show win0_2.index t 0 * 8192 + 1 * (x 0).val = (8192 * t.val + (x 0).val) % 262144
    rw [(index2 t).1, Nat.mod_eq_of_lt (by omega)]; omega
  | ⟨1, _⟩ => show win0_2.index t 1 * 128 + 1 * (x 1).val = (x 1).val; rw [(index2 t).2]; omega

/-- Where copies `2048 t + 2 k` and `2048 t + 2 k + 1` land. -/
theorem dst_even (w0 w1 : S32768.Idx → BitVec 32) (t k : ℕ) (h : 1024 * t + k < 32768) :
    (w0 (ix1 ⟨1024 * t + k, h⟩)).toNat = dstOf w0 w1 (2048 * t + 2 * k) := by
  unfold dstOf
  rw [if_pos (by omega)]
  have e : (2048 * t + 2 * k) / 2 % 32768 = 1024 * t + k := by rw [Nat.mod_eq_of_lt (by omega)]; omega
  simp only [e]
theorem dst_odd (w0 w1 : S32768.Idx → BitVec 32) (t k : ℕ) (h : 1024 * t + k < 32768) :
    (w1 (ix1 ⟨1024 * t + k, h⟩)).toNat = dstOf w0 w1 (2048 * t + (2 * k + 1)) := by
  unfold dstOf
  rw [if_neg (by omega)]
  have e : (2048 * t + (2 * k + 1)) / 2 % 32768 = 1024 * t + k := by rw [Nat.mod_eq_of_lt (by omega)]; omega
  simp only [e]

/-! ## The proof data -/

/-- Before point `t`: the result after `2048 t` copies, the semaphore at zero. -/
def inv (c : Dev nD) (n : ℕ) : sProp 𝕄 :=
  iprop(outAt m c n ∗ semVal ((c : Thread nD τ), cell) 0 ∗ emp ∗ ∃ r, prngReg (Ix := Unit) (Name := ℕ) (Val := Elt F) (Lvl := ℕ) (U := Pipeline.UC sig nD τ) c r)

/-- The run's data: the arrays as the region finds them, the blocks left in place, the invariant. -/
def dats (_ : Fin 1) (c : Dev nD) : Dat τ (Elt F) Unit ℕ (Pipeline.UC sig nD τ) ℕ cfg0 c where
  A w := V m c (Pipeline.arrRef spec0 w)
  after w t := match w with
    | ⟨0, h⟩ => iblk m c ⟨0, h⟩ t
    | ⟨1, h⟩ => iblk m c ⟨1, h⟩ t
    | ⟨2, h⟩ => iblk m c ⟨2, h⟩ t
  Φ t := inv m c (2048 * t.val)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

abbrev stage0 (t : Fin cfg0.N) : Memref sig .tc .smem S1024 .i32 := win0_0.stage (cfg0.slots t 0)
abbrev stage1 (t : Fin cfg0.N) : Memref sig .tc .smem S1024 .i32 := win0_1.stage (cfg0.slots t 1)
abbrev stage2 (t : Fin cfg0.N) : Memref sig .tc .vmem S8192x128 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t))

theorem sound_body [∀ e, Nonempty (Elt F e)] (hp : ∀ c, Placed (dests m c)) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_0, after_1, after_2]
  rw [show (dats m 0 c).Φ t.castSucc = inv m c (2048 * t.val) from rfl, show (dats m 0 c).Φ t.succ = inv m c (2048 * (t.val + 1)) from rfl]
  unfold inv Dat.owesAt Pipeline.owesWithin
  rw [show (dats m 0 c).owed t.castSucc = 0 from rfl, show (dats m 0 c).owed t.succ = 0 from rfl]
  unfold owns
  iintro ⟨⟨HX, Hc, -, Hg⟩, ⟨%W, -, HW⟩, ⟨%d0, %f0, %e0, H0⟩, ⟨%d1, %f1, %e1, H1⟩, ⟨%d2, %f2, %e2, H2⟩⟩
  rw [before_0] at e0
  rw [before_1] at e1
  rw [before_2] at e2
  have hs : Staged c t.val (dests m c) (tokens m c) (stage0 t) (stage1 t) (stage2 t) f0 f1 f2 :=
    { placed := hp c, lt := point_lt t
      w1 := fun k => by
        rw [e0]
        exact (congrArg BitVec.toNat (block0 m c t k)).trans (dst_even _ _ _ _ _)
      w2 := fun k => by
        rw [e1]
        exact (congrArg BitVec.toNat (block1 m c t k)).trans (dst_odd _ _ _ _ _)
      blk := fun x => by
        rw [e2]
        exact block2 m c t x }
  iapply (wp_wand _ _ _) $$ [HX Hc HW H0 H1 H2]
  · iapply (body_run c (grid0.coords t) t.val (dests m c) (tokens m c) (before m c) (stage0 t) (hstage0_0 _) (stage1 t) (hstage0_1 _) (stage2 t) (hstage0_2 _) f0 f1 f2 hs W)
    iframe
  iintro %r ⟨HX, Hc, ⟨%W', HW'⟩, H0, H1, H2⟩
  isplitl [HX Hc Hg]
  · isplitl [HX]; · iexact HX
    isplitl [Hc]; · iexact Hc
    isplitr; · iempintro
    iexact Hg
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  iexists f2; isplitr; · ipureintro; exact e2
  iexact H2

theorem defs₀_row (t : Fin cfg0.N) : defs₀ (F := F) .tc cfg0.body (cfg0.bodyArgs t (cfg0.slots t)) = bodyAt0 t := by
  unfold defs₀; rw [Defs.onTc_tc]

theorem body_obligation [∀ e, Nonempty (Elt F e)] (hp : ∀ c, Placed (dests m c)) (c : Dev nD) :
    BodyObligation (dats (F := F) m 0 c) (defs₀ (F := F)) Variants.none () Set.univ := fun t => by
  rw [bigSep_W0, bigSep_W0, defs₀_row]
  exact triple_restated (sound_body m hp c t) rfl .rfl fun _ => .rfl

/-! ## The launch -/

/-- The region's one semaphore of its own: the one every copy signals. -/
abbrev osem0 : Fin 1 → SemLoc sig := fun j => (![SemLoc.dma 6] : Fin 1 → SemLoc sig) j
theorem ownSemFacts0 : Pipeline.OwnSemFacts spec0 osem0 := by decide

theorem host_prefix : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

/-- The result after the region: every copy made; the rest as the region found it. -/
def outV (c : Dev nD) (b : Ref sig .tc) : Buf (Elt F) ((c : Thread nD τ).loc b) :=
  Function.update (V m c) main_v1 (fillB c (dests m c) (tokens m c) (before m c) 65536) b

theorem ends_eq (c : Dev nD) (W : (b : Ref sig .tc) → Buf (Elt F) ((c : Thread nD τ).loc b)) :
    (Pipeline.Ends (τ := τ) (Val := Elt F) spec0 osem0 {main_v1} c W : sProp 𝕄)
      = iprop((((c : Thread nD τ).loc main_v1) ↦{fullShare} W main_v1) ∗ semVal ((c : Thread nD τ), cell) 0 ∗ emp
        ∗ ∃ r, prngReg (Ix := Unit) (Name := ℕ) (Val := Elt F) (Lvl := ℕ) (U := Pipeline.UC sig nD τ) c r) := by
  unfold Pipeline.Ends
  rw [Pipeline.routed_singleton, Pipeline.ownSems0_eq_of_list c osem0 [0] (by decide) (by decide), scopedRest0_eq]
  rfl

theorem out_first (c : Dev nD) : V m c main_v1 = fillB c (dests m c) (tokens m c) (before m c) 0 :=
  (fill_zero _ _ _).symm
theorem out_last (c : Dev nD) : outV m c main_v1 = fillB c (dests m c) (tokens m c) (before m c) 65536 :=
  Function.update_self _ _ _

set_option backward.isDefEq.respectTransparency.types false in
/-- Every execution ends with every copy made, the rest of the memory as the region found it, every semaphore at zero. -/
theorem run_main [∀ e, Nonempty (Elt F e)] (hp : ∀ c, Placed (dests m c)) : θ_run defs (onTc (τ := τ) (main (F := F))) (s₀ m ρ)
    (fun r => Pipeline.RoutedPost cfgs (dats m) 0 {main_v1} (V m) (outV m) r ∧ r.2.sem = fun _ => 0) :=
  Pipeline.θ_run_frame_routed (Q' := _) cfgs (dats m) (0 : Fin 1) launch0 ownSemFacts0 defs₀ Variants.none m ρ main
    (hbody := fun c => (body_obligation m hp c).loose) (hshare := fun c => (dats m 0 c).share_full fun _ => rfl)
    (howed := fun _ _ => rfl) (V := V m) (hmain := host_prefix m) (hA := A_eq m) (R := {main_v1}) (hR := by decide) (Y := outV m)
    (hin := fun c => by
      refine (Entails.of_eq (ends_eq c (V m c))).trans (Entails.of_eq ?_)
      rw [show (dats m 0 c).Φ 0 = inv m c 0 from rfl]
      unfold inv outAt outW
      rw [out_first])
    (hout := fun c => by
      refine Entails.trans ?_ (Entails.of_eq (ends_eq c (outV m c)).symm)
      rw [show (dats m 0 c).Φ (Fin.last cfg0.N) = inv m c 65536 from rfl, out_last]
      exact Entails.of_eq rfl)

/-- The run, read: the result holds every token at its two rows and what it held before everywhere else; the arguments unchanged. -/
theorem run [∀ e, Nonempty (Elt F e)] (hp : ∀ c, Placed (dests m c)) : θ_run defs (onTc (τ := τ) (main (F := F))) ⟨m, fun _ => 0, ρ⟩ (fun r =>
    (∀ c : Dev nD, r.2.mem ((c : Thread nD τ).loc main_v1) = fillB c (dests m c) (tokens m c) (before m c) 65536
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨((h.1 c).2.1 main_v1 (Finset.mem_singleton_self _)).trans (out_last m c),
    ((h.1 c).2.2 main_arg0 (Finset.mem_sdiff.mpr ⟨Pipeline.mem_restRefs_of main_arg0 (by decide) (by decide), by decide⟩)).trans (V_main_arg0 m c),
    ((h.1 c).2.2 main_arg1 (Finset.mem_sdiff.mpr ⟨Pipeline.mem_restRefs_of main_arg1 (by decide) (by decide), by decide⟩)).trans (V_main_arg1 m c)⟩, h.2⟩) (run_main m ρ hp)

end Cert.Proof.Dispatch

end
-- ==== Proof.Dispatch.Pre.lean ====
/-
  What the precondition says of the two lists of destinations: every one names a row of the result, and no two are the same.
-/
module

public import proofs.«01_k».proof.Proof.Gen.Pre_pos_distinct
public import proofs.«01_k».proof.Pre_pos_distinct
public import Idealize.ShloMosaic.Lib.ValueIdx
public import Idealize.ShloMosaic.Lib.Pointwise
public import Idealize.ShloMosaic.Lib.Exec

@[expose] public section

set_option maxRecDepth 16384

noncomputable section

namespace Cert.Proof.Dispatch.Pre

open Cert.Pre_pos_distinct Cert.Pre_pos_distinct.Gen
open Idealize.ShloMosaic Idealize.ShloMosaic.ValueIdx

variable {F : FTy → Type} [FloatOps F]

/-- The numbers the precondition hands out: entry `ix` of the list of destinations gets its place in the list. -/
def number : IVec S2x32768 32 := shapeCast S2x32768 (iotaInDim S65536 32 0) Facts.shapeCasts_S65536_S2x32768

theorem number_at (ix : S2x32768.Idx) : number ix = BitVec.ofNat 32 ((ix 0).val * 32768 + (ix 1).val) := by
  unfold number
  pointwise

/-- Two entries of one number are one entry. -/
theorem number_inj {ix ix' : S2x32768.Idx} (h : number ix = number ix') : ix = ix' := by
  rw [number_at, number_at] at h
  have h0 : (ix 0).val < 2 := (ix 0).isLt
  have h1 : (ix 1).val < 32768 := (ix 1).isLt
  have h0' : (ix' 0).val < 2 := (ix' 0).isLt
  have h1' : (ix' 1).val < 32768 := (ix' 1).isLt
  have e := congrArg BitVec.toNat h
  rw [BitVec.toNat_ofNat, BitVec.toNat_ofNat, Nat.mod_eq_of_lt (by omega), Nat.mod_eq_of_lt (by omega)] at e
  funext a
  apply Fin.ext
  match a with
  | ⟨0, _⟩ => show (ix 0).val = (ix' 0).val; omega
  | ⟨1, _⟩ => show (ix 1).val = (ix' 1).val; omega

/-- The start index of entry `ix`'s look-up: the destination, counted from the end where it is negative. -/
def start (pos : IVec S2x32768 32) : IVec S2x32768 32 :=
  select (cmpi .slt pos (broadcastInDim S2x32768 ![] Facts.bcast_S_S2x32768 (constantI S_ 32 0#32)))
    (addi pos (broadcastInDim S2x32768 ![] Facts.bcast_S_S2x32768 (constantI S_ 32 69632#32))) pos

/-- What the look-up reads for two entries of one destination is the same. -/
theorem lookup_congr (pos : IVec S2x32768 32) (x : IVec S69632 32) {ix ix' : S2x32768.Idx} (h : pos ix = pos ix') :
    Host.gather gather_S69632_S2x32768x1_S2x32768_n_0_n_n_0_2_1 x (broadcastInDim S2x32768x1 ![0, 1] Facts.bcast_S2x32768_S2x32768x1_0_1 (start pos)) ix
      = Host.gather gather_S69632_S2x32768x1_S2x32768_n_0_n_n_0_2_1 x (broadcastInDim S2x32768x1 ![0, 1] Facts.bcast_S2x32768_S2x32768x1_0_1 (start pos)) ix' := by
  have hs : start pos ix = start pos ix' := by
    show (if _ then _ else _) = (if _ then _ else _)
    simp only [cmpi, addi, h]
    rfl
  have hb : ∀ (c) (jx : S2x32768.Idx), broadcastInDim S2x32768x1 ![0, 1] Facts.bcast_S2x32768_S2x32768x1_0_1 (start pos)
      (gather_S69632_S2x32768x1_S2x32768_n_0_n_n_0_2_1.siIdx jx c) = start pos jx := by
    intro c jx
    show start pos _ = start pos jx
    congr 1
    funext a
    match a with
    | ⟨0, _⟩ => rfl
    | ⟨1, _⟩ => rfl
  show x _ = x _
  congr 1
  funext a
  apply Fin.ext
  match a with
  | ⟨0, _⟩ =>
    show gather_S69632_S2x32768x1_S2x32768_n_0_n_n_0_2_1.start ix _ 0 + _ + _ = gather_S69632_S2x32768x1_S2x32768_n_0_n_n_0_2_1.start ix' _ 0 + _ + _
    have e : ∀ jx, gather_S69632_S2x32768x1_S2x32768_n_0_n_n_0_2_1.start jx (broadcastInDim S2x32768x1 ![0, 1] Facts.bcast_S2x32768_S2x32768x1_0_1 (start pos)) 0
        = min (start pos jx).toInt.toNat 69631 := by
      intro jx
      unfold GatherDims.start
      rw [dif_pos (by decide), hb]
      rfl
    rw [e, e, hs]
    rfl

theorem and_true {a b : BitVec 1} (h : IntOp.andi a b = 1#1) : a = 1#1 ∧ b = 1#1 := by
  revert a b; decide

/-- A word of all entries. -/
abbrev word (w : BitVec 32) : IVec S2x32768 32 := broadcastInDim S2x32768 ![] Facts.bcast_S_S2x32768 (constantI S_ 32 w)

/-- The slots: every destination's holds the number of the last entry that named it. -/
def slots (pos : IVec S2x32768 32) : IVec S69632 32 :=
  Host.scatter scatter_S69632_S2x32768x1_S2x32768_n_0_0_2 (fun _ b => b) (broadcastInDim S69632 ![] Facts.bcast_S_S69632 (constantI S_ 32 0#32))
    (broadcastInDim S2x32768x1 ![0, 1] Facts.bcast_S2x32768_S2x32768x1_0_1 (start pos)) number

/-- The precondition, written out. -/
theorem fn_eq (pos : IVec S2x32768 32) (y : FVec F S32768x1024 .f32) : fn (F := F) pos y = andi (andi (cmpi .sge pos (word 0#32)) (cmpi .slt pos (word 69632#32)))
    (cmpi .eq (Host.gather gather_S69632_S2x32768x1_S2x32768_n_0_n_n_0_2_1 (slots pos) (broadcastInDim S2x32768x1 ![0, 1] Facts.bcast_S2x32768_S2x32768x1_0_1 (start pos))) number) := by
  unfold fn fn_part1 slots number start
  rfl

/-- It says, entry by entry: the destination is in range, and its slot still holds the entry's number. -/
theorem decode (pos : IVec S2x32768 32) (y : FVec F S32768x1024 .f32) (h : fn (F := F) pos y = fun _ => 1#1) (ix : S2x32768.Idx) :
    (IntOp.cmpi .sge (pos ix) 0#32 = 1#1 ∧ IntOp.cmpi .slt (pos ix) 69632#32 = 1#1)
      ∧ IntOp.cmpi .eq (Host.gather gather_S69632_S2x32768x1_S2x32768_n_0_n_n_0_2_1 (slots pos) (broadcastInDim S2x32768x1 ![0, 1] Facts.bcast_S2x32768_S2x32768x1_0_1 (start pos)) ix) (number ix) = 1#1 := by
  rw [fn_eq] at h
  obtain ⟨e1, e2⟩ := and_true (congrFun h ix)
  exact ⟨and_true e1, e2⟩

/-- Every destination names a row, -/
theorem range (pos : IVec S2x32768 32) (y : FVec F S32768x1024 .f32) (h : fn (F := F) pos y = fun _ => 1#1) (ix : S2x32768.Idx) : (pos ix).toNat < 69632 := by
  obtain ⟨⟨a1, a2⟩, -⟩ := decode pos y h ix
  unfold IntOp.cmpi at a1 a2
  generalize pos ix = w at a1 a2
  have b1 : (0#32).sle w = true := by revert a1; cases (0#32).sle w <;> simp
  have b2 : w.slt 69632#32 = true := by revert a2; cases w.slt 69632#32 <;> simp
  rw [BitVec.sle_iff_toInt_le] at b1
  rw [BitVec.slt_iff_toInt_lt] at b2
  have c1 : (0#32).toInt = 0 := by decide
  have c2 : (69632#32).toInt = 69632 := by decide
  rw [c1] at b1
  rw [c2] at b2
  rw [BitVec.toInt_eq_toNat_cond] at b1 b2
  split at b1 <;> omega

/-- and no two entries name the same. -/
theorem inj (pos : IVec S2x32768 32) (y : FVec F S32768x1024 .f32) (h : fn (F := F) pos y = fun _ => 1#1) {ix ix' : S2x32768.Idx}
    (e : pos ix = pos ix') : ix = ix' := by
  have q : ∀ jx, Host.gather gather_S69632_S2x32768x1_S2x32768_n_0_n_n_0_2_1 (slots pos) (broadcastInDim S2x32768x1 ![0, 1] Facts.bcast_S2x32768_S2x32768x1_0_1 (start pos)) jx = number jx := by
    intro jx
    have e1 := (decode pos y h jx).2
    unfold IntOp.cmpi at e1
    generalize Host.gather gather_S69632_S2x32768x1_S2x32768_n_0_n_n_0_2_1 (slots pos) _ jx = u at e1 ⊢
    generalize number jx = v at e1 ⊢
    by_contra hne
    have : (u == v) = false := by simpa using hne
    simp only [this] at e1
    revert e1
    decide
  apply number_inj
  rw [← q, ← q]
  exact lookup_congr pos _ e

end Cert.Proof.Dispatch.Pre

end
-- ==== Proof.Dispatch.Words.lean ====
/-
  What the host leaves for the dispatch's region, element by element, and that the precondition makes its destinations proper.
-/
module

public import proofs.«01_k».proof.Proof.Dispatch.Run
public import proofs.«01_k».proof.Proof.Dispatch.Pre
public import Idealize.ShloMosaic.Lib.StableHlo.ReadAt
public import Idealize.ShloMosaic.Lib.Pointwise

@[expose] public section

set_option maxRecDepth 16384

noncomputable section

namespace Cert.Proof.Dispatch

open Cert.KernelIdeal Cert.KernelIdeal.Gen
open Idealize.ShloMosaic hiding ix1 ix2
open Idealize.ShloMosaic.TcCoe Idealize.ShloMosaic.ValueIdx
open Idealize.SL.Sem

variable {F : FTy → Type} [FloatOps F]
variable (m : (ℓ : Loc nD τ sig) → Buf (Elt F) ℓ)

/-- The list of destinations and the tokens, as device `c` is given them. -/
def posOf (c : Dev nD) : S2x32768.Idx → BitVec 32 := m ((c.tc : Thread nD τ).loc main_arg0)
def tokOf (c : Dev nD) : S32768x1024.Idx → Elt F .f32 := m ((c.tc : Thread nD τ).loc main_arg1)

theorem words0_at (c : Dev nD) (k : Fin 32768) : words0 m c (ix1 k) = posOf m c (ix2 0 k) := by
  unfold words0 posOf
  unfold V
  after_reads_at
  rfl
theorem words1_at (c : Dev nD) (k : Fin 32768) : words1 m c (ix1 k) = posOf m c (ix2 1 k) := by
  unfold words1 posOf
  unfold V
  after_reads_at
  rfl
theorem tokens_at (c : Dev nD) (x : S262144x128.Idx) :
    tokens m c x = tokOf m c (ix2 ⟨(x 0).val / 8, by have : (x 0).val < 262144 := (x 0).isLt; omega⟩ ⟨(x 0).val % 8 * 128 + (x 1).val, by have : (x 1).val < 128 := (x 1).isLt; omega⟩) := by
  unfold tokens tokOf
  unfold V
  after_reads_at
  rfl
theorem before_at (c : Dev nD) (x : S557056x128.Idx) : before m c x = FloatOps.ofBits .f32 0x00000000#32 := by
  unfold before
  unfold V
  after_reads_at

/-- Lists in range and without repetition place every copy on a row of its own. -/
theorem placed_of (w0 w1 : S32768.Idx → BitVec 32) (pos : S2x32768.Idx → BitVec 32) (h0 : ∀ k, w0 (ix1 k) = pos (ix2 0 k)) (h1 : ∀ k, w1 (ix1 k) = pos (ix2 1 k))
    (hr : ∀ ix, (pos ix).toNat < 69632) (hi : ∀ ix ix', pos ix = pos ix' → ix = ix') : Placed (dstOf w0 w1) := by
  have e : ∀ j, dstOf w0 w1 j = (pos (ix2 ⟨j % 2, Nat.mod_lt _ (by decide)⟩ ⟨(j / 2) % 32768, Nat.mod_lt _ (by decide)⟩)).toNat := by
    intro j
    unfold dstOf
    by_cases hj : j % 2 = 0
    · rw [if_pos hj, h0]
      simp only [hj]
      rfl
    · have hj' : j % 2 = 1 := by omega
      rw [if_neg hj, h1]
      simp only [hj']
      rfl
  refine ⟨fun j _ => by rw [e]; exact hr _, fun i j hi' hj' h => ?_⟩
  rw [e, e] at h
  have q := hi _ _ (BitVec.eq_of_toNat_eq h)
  have q0 : i % 2 = j % 2 := congrArg (fun f : S2x32768.Idx => (f 0).val) q
  have q1 : (i / 2) % 32768 = (j / 2) % 32768 := congrArg (fun f : S2x32768.Idx => (f 1).val) q
  rw [Nat.mod_eq_of_lt (by omega), Nat.mod_eq_of_lt (by omega)] at q1
  omega

/-- Under the precondition the kernel's copies land on rows of their own. -/
theorem placed (c : Dev nD) (h : Cert.Pre_pos_distinct.fn (F := F) (m ((c.tc : Thread nD τ).loc main_arg0)) (m ((c.tc : Thread nD τ).loc main_arg1)) = fun _ => 1#1) :
    Placed (dests m c) :=
  placed_of _ _ (posOf m c) (words0_at m c) (words1_at m c) (fun ix => Pre.range (posOf m c) (tokOf m c) h ix)
    (fun ix ix' e => Pre.inj (posOf m c) (tokOf m c) h e)

end Cert.Proof.Dispatch

end
-- ==== Proof.Dispatch.Scatter.lean ====
/-
  The reference's two scatters, read at an element, are the result after all the copies.
-/
module

public import proofs.«01_k».proof.Proof.Dispatch.Rows
public import proofs.«01_k».proof.Proof.Gen.ReferenceIdeal
public import Idealize.ShloMosaic.Lib.Routing.OpsSet
public import Idealize.ShloMosaic.Lib.Pointwise

@[expose] public section

set_option maxRecDepth 16384

noncomputable section

namespace Cert.Proof.Dispatch.Scatter

open Cert.ReferenceIdeal Cert.ReferenceIdeal.Gen
open Idealize.ShloMosaic hiding ix1 ix2
open Idealize.ShloMosaic.ValueIdx

variable {α : Type}

/-- The rows' scatter. -/
abbrev D := scatter_S69632x1024_S32768x1_S32768x1024_1_0_0_1

/-- Update `k` begins at the row its word names, on the column it has. -/
theorem start0 (k : S32768x1024.Idx) (idx : IVec S32768x1 32) : D.start k idx 0 = (idx (ix2 (k 0) 0)).toInt := by
  unfold ScatterDims.start
  rw [dif_pos (by decide)]
  congr 2
  funext a
  match a with
  | ⟨0, _⟩ => rfl
  | ⟨1, _⟩ => rfl
theorem start1 (k : S32768x1024.Idx) (idx : IVec S32768x1 32) : D.start k idx 1 = 0 := by
  unfold ScatterDims.start
  rw [dif_neg (by decide)]
theorem window0 (k : S32768x1024.Idx) : D.window k 0 = 0 := by
  unfold ScatterDims.window
  rw [dif_neg (by decide)]
theorem window1 (k : S32768x1024.Idx) : D.window k 1 = (k 1).val := by
  unfold ScatterDims.window
  rw [dif_pos (by decide)]
  rfl

/-- Update `k` lands at `y` exactly when its word is `y`'s row and its column `y`'s. -/
theorem lands (k : S32768x1024.Idx) (idx : IVec S32768x1 32) (w : S32768.Idx → BitVec 32) (hw : ∀ r, idx (ix2 r 0) = w (ix1 r)) (hr : ∀ r, (w (ix1 r)).toNat < 69632)
    (y : S69632x1024.Idx) : D.resultIdx? k idx = some y ↔ (w (ix1 (k 0))).toNat = (y 0).val ∧ k 1 = y 1 := by
  have hx := hr (k 0)
  have hi : (w (ix1 (k 0))).toInt = (w (ix1 (k 0))).toNat := by
    rw [BitVec.toInt_eq_toNat_cond, if_pos (by omega)]
  have s0 : D.start k idx 0 + D.window k 0 = (w (ix1 (k 0))).toNat := by
    have e : D.start k idx 0 = (w (ix1 (k 0))).toInt := (start0 k idx).trans (congrArg BitVec.toInt (hw (k 0)))
    rw [e, window0, hi]; simp
  have s1 : D.start k idx 1 + D.window k 1 = (k 1).val := by
    rw [start1, window1]; simp
  have hk : (k 1).val < 1024 := (k 1).isLt
  unfold ScatterDims.resultIdx?
  rw [dif_pos (by
    intro a
    match a with
    | ⟨0, _⟩ =>
      show 0 ≤ D.start k idx 0 + D.window k 0 ∧ D.start k idx 0 + D.window k 0 < (69632 : ℕ)
      rw [s0]; omega
    | ⟨1, _⟩ =>
      show 0 ≤ D.start k idx 1 + D.window k 1 ∧ D.start k idx 1 + D.window k 1 < (1024 : ℕ)
      rw [s1]; omega)]
  constructor
  · intro h
    have e := Option.some.inj h
    have e0 : (D.start k idx 0 + D.window k 0).toNat = (y 0).val := congrArg (fun f : S69632x1024.Idx => (f 0).val) e
    have e1 : (D.start k idx 1 + D.window k 1).toNat = (y 1).val := congrArg (fun f : S69632x1024.Idx => (f 1).val) e
    rw [s0] at e0
    rw [s1] at e1
    exact ⟨by omega, Fin.ext (by omega)⟩
  · rintro ⟨e0, e1⟩
    congr 1
    funext a
    apply Fin.ext
    match a with
    | ⟨0, _⟩ => show (D.start k idx 0 + D.window k 0).toNat = (y 0).val; rw [s0]; omega
    | ⟨1, _⟩ => show (D.start k idx 1 + D.window k 1).toNat = (y 1).val; rw [s1, ← e1]; omega

/-- A scatter of the tokens by words no two of which are the same: a token's row holds the token, -/
theorem hit (x0 : S69632x1024.Idx → α) (idx : IVec S32768x1 32) (upd : S32768x1024.Idx → α) (w : S32768.Idx → BitVec 32) (hw : ∀ r, idx (ix2 r 0) = w (ix1 r))
    (hr : ∀ r, (w (ix1 r)).toNat < 69632) (hi : ∀ r r', (w (ix1 r)).toNat = (w (ix1 r')).toNat → r = r') (y : S69632x1024.Idx) (k : Fin 32768)
    (hk : (w (ix1 k)).toNat = (y 0).val) : Host.scatter D (fun _ b => b) x0 idx upd y = upd (ix2 k (y 1)) := by
  refine Routing.scatter_set_hit D x0 idx upd y _ (fun k' hk' => ?_) (ix2 k (y 1)) ((lands _ idx w hw hr y).2 ⟨hk, rfl⟩)
  obtain ⟨a, b⟩ := (lands _ idx w hw hr y).1 hk'
  have e : k' 0 = k := hi _ _ (a.trans hk.symm)
  congr 1
  rw [← e, ← b]
  exact ValueIdx.eq_ix2 k'

/-- and a row no word names holds what it held. -/
theorem miss (x0 : S69632x1024.Idx → α) (idx : IVec S32768x1 32) (upd : S32768x1024.Idx → α) (w : S32768.Idx → BitVec 32) (hw : ∀ r, idx (ix2 r 0) = w (ix1 r))
    (hr : ∀ r, (w (ix1 r)).toNat < 69632) (y : S69632x1024.Idx) (hk : ∀ k : Fin 32768, (w (ix1 k)).toNat ≠ (y 0).val) :
    Host.scatter D (fun _ b => b) x0 idx upd y = x0 y :=
  Routing.scatter_set_miss D x0 idx upd y fun k h => hk (k 0) ((lands _ idx w hw hr y).1 h).1

end Cert.Proof.Dispatch.Scatter

end
-- ==== Proof.Dispatch.Value.lean ====
/-
  The reference's result is the kernel's: two scatters of the tokens, one behind the other, leave what the copies leave.
-/
module

public import proofs.«01_k».proof.Proof.Dispatch.Words
public import proofs.«01_k».proof.Proof.Dispatch.Scatter

@[expose] public section

set_option maxRecDepth 16384

noncomputable section

namespace Cert.Proof.Dispatch

open Cert.ReferenceIdeal Cert.ReferenceIdeal.Gen
open Idealize.ShloMosaic hiding ix1 ix2
open Idealize.ShloMosaic.TcCoe Idealize.ShloMosaic.ValueIdx

variable {F : FTy → Type} [FloatOps F]

/-- The reference's index words for one row of the list of destinations: the row, negative words counted from the end. -/
def refWords (v : IVec S32768 32) : IVec S32768x1 32 :=
  broadcastInDim S32768x1 ![0] bcast_S32768_S32768x1_0 (select (cmpi .slt v (broadcastInDim S32768 ![] bcast_S_S32768 (constantI S_ 32 0#32)))
    (addi v (broadcastInDim S32768 ![] bcast_S_S32768 (constantI S_ 32 69632#32))) v)
def refRow0 (pos : IVec S2x32768 32) : IVec S32768 32 := shapeCast _ (extractStridedSlice S1x32768 ![0, 0] pos slices_S2x32768_S1x32768_0_0) shapeCasts_S1x32768_S32768
def refRow1 (pos : IVec S2x32768 32) : IVec S32768 32 := shapeCast _ (extractStridedSlice S1x32768 ![1, 0] pos slices_S2x32768_S1x32768_1_0) shapeCasts_S1x32768_S32768

theorem refRow0_at (pos : IVec S2x32768 32) (k : Fin 32768) : refRow0 pos (ix1 k) = pos (ix2 0 k) := by
  unfold refRow0
  pointwise
  rfl
theorem refRow1_at (pos : IVec S2x32768 32) (k : Fin 32768) : refRow1 pos (ix1 k) = pos (ix2 1 k) := by
  unfold refRow1
  pointwise
  rfl

/-- A word in range is not negative, so it is its own index word. -/
theorem refWords_at (v : IVec S32768 32) (hr : ∀ k : Fin 32768, (v (ix1 k)).toNat < 69632) (k : Fin 32768) : refWords v (ix2 k 0) = v (ix1 k) := by
  have h := hr k
  have e : refWords v (ix2 k 0) = Scalar.select (IntOp.cmpi .slt (v (ix1 k)) 0#32) (IntOp.addi (v (ix1 k)) 69632#32) (v (ix1 k)) := by
    unfold refWords
    pointwise
    rfl
  rw [e]
  have hn : IntOp.cmpi .slt (v (ix1 k)) 0#32 = 0#1 := by
    unfold IntOp.cmpi
    have : (v (ix1 k)).slt 0#32 = false := by
      rw [← Bool.not_eq_true, BitVec.slt_iff_toInt_lt, BitVec.toInt_eq_toNat_cond, if_pos (by omega)]
      have : (0#32).toInt = 0 := by decide
      omega
    simp only [this]
    rfl
  rw [hn]
  rfl

/-- The reference's result, as a term over its arguments. -/
def refOut (pos : IVec S2x32768 32) (y : FVec F S32768x1024 .f32) : FVec F S557056x128 .f32 :=
  shapeCast _ (Host.scatter Scatter.D (fun _ b => b)
    (Host.scatter Scatter.D (fun _ b => b) (broadcastInDim S69632x1024 ![] bcast_S_S69632x1024 (constant S_ .f32 0x00000000#32)) (refWords (refRow0 pos)) y)
    (refWords (refRow1 pos)) y) shapeCasts_S69632x1024_S557056x128

/-- The result's element `x` lies in row `x₀ / 8`, column `128 (x₀ mod 8) + x₁`. -/
def place (x : S557056x128.Idx) : S69632x1024.Idx :=
  ix2 ⟨(x 0).val / 8, by have : (x 0).val < 557056 := (x 0).isLt; omega⟩ ⟨(x 0).val % 8 * 128 + (x 1).val, by have : (x 1).val < 128 := (x 1).isLt; omega⟩

theorem cast_at {α : Type} (z : S69632x1024.Idx → α) (x : S557056x128.Idx) : shapeCast S557056x128 z shapeCasts_S69632x1024_S557056x128 x = z (place x) := by
  unfold place
  pointwise
  rfl

/-- The reference's result is the zeros after all the copies. -/
theorem refOut_eq (w0 w1 : S32768.Idx → BitVec 32) (tok : Cert.KernelIdeal.S262144x128.Idx → Elt F .f32) (base : S557056x128.Idx → Elt F .f32)
    (pos : IVec S2x32768 32) (y : FVec F S32768x1024 .f32) (h0 : ∀ k, w0 (ix1 k) = pos (ix2 0 k)) (h1 : ∀ k, w1 (ix1 k) = pos (ix2 1 k))
    (ht : ∀ x : Cert.KernelIdeal.S262144x128.Idx, tok x = y (ix2 ⟨(x 0).val / 8, by have : (x 0).val < 262144 := (x 0).isLt; omega⟩ ⟨(x 0).val % 8 * 128 + (x 1).val, by have : (x 1).val < 128 := (x 1).isLt; omega⟩))
    (hb : ∀ x, base x = FloatOps.ofBits .f32 0x00000000#32)
    (hr : ∀ ix, (pos ix).toNat < 69632) (hi : ∀ ix ix', pos ix = pos ix' → ix = ix') : refOut pos y = fill (dstOf w0 w1) tok base 65536 := by
  have hd := placed_of w0 w1 pos h0 h1 hr hi
  have e0 : ∀ k, refRow0 pos (ix1 k) = w0 (ix1 k) := fun k => (refRow0_at pos k).trans (h0 k).symm
  have e1 : ∀ k, refRow1 pos (ix1 k) = w1 (ix1 k) := fun k => (refRow1_at pos k).trans (h1 k).symm
  have r0 : ∀ k, (w0 (ix1 k)).toNat < 69632 := fun k => by rw [h0]; exact hr _
  have r1 : ∀ k, (w1 (ix1 k)).toNat < 69632 := fun k => by rw [h1]; exact hr _
  have q0 : ∀ k, refWords (refRow0 pos) (ix2 k 0) = w0 (ix1 k) := fun k => (refWords_at _ (fun k => by rw [e0]; exact r0 k) k).trans (e0 k)
  have q1 : ∀ k, refWords (refRow1 pos) (ix2 k 0) = w1 (ix1 k) := fun k => (refWords_at _ (fun k => by rw [e1]; exact r1 k) k).trans (e1 k)
  have i0 : ∀ k k', (w0 (ix1 k)).toNat = (w0 (ix1 k')).toNat → k = k' := fun k k' h => by
    rw [h0, h0] at h
    exact congrArg (fun f : S2x32768.Idx => f 1) (hi _ _ (BitVec.eq_of_toNat_eq h))
  have i1 : ∀ k k', (w1 (ix1 k)).toNat = (w1 (ix1 k')).toNat → k = k' := fun k k' h => by
    rw [h1, h1] at h
    exact congrArg (fun f : S2x32768.Idx => f 1) (hi _ _ (BitVec.eq_of_toNat_eq h))
  have d0 : ∀ k : Fin 32768, dstOf w0 w1 (2 * k.val) = (w0 (ix1 k)).toNat := fun k => by
    have hk := k.isLt
    unfold dstOf
    rw [if_pos (by omega)]
    have e : 2 * k.val / 2 % 32768 = k.val := by omega
    simp only [e]
  have d1 : ∀ k : Fin 32768, dstOf w0 w1 (2 * k.val + 1) = (w1 (ix1 k)).toNat := fun k => by
    have hk := k.isLt
    unfold dstOf
    rw [if_neg (by omega)]
    have e : (2 * k.val + 1) / 2 % 32768 = k.val := by omega
    simp only [e]
  -- a copy of token `k` puts the token's numbers where the reference's update does
  have val : ∀ (x : S557056x128.Idx) (j : ℕ) (k : Fin 32768), j / 2 = k.val → tok (srcIx j x) = y (ix2 k (place x 1)) := by
    intro x j k hj
    have hk := k.isLt
    rw [ht]
    have a0 : ((srcIx j x) 0).val = 8 * k.val + (x 0).val % 8 := by
      show (8 * (j / 2) + (x 0).val % 8) % 262144 = _
      rw [hj]
      omega
    have a1 : ((srcIx j x) 1).val = (x 1).val := rfl
    congr 1
    funext a
    apply Fin.ext
    match a with
    | ⟨0, _⟩ => show ((srcIx j x) 0).val / 8 = k.val; rw [a0]; omega
    | ⟨1, _⟩ => show ((srcIx j x) 0).val % 8 * 128 + ((srcIx j x) 1).val = (x 0).val % 8 * 128 + (x 1).val; rw [a0, a1]; omega
  funext x
  have hc : (place x 0).val = (x 0).val / 8 := rfl
  unfold refOut
  rw [cast_at]
  by_cases hk1 : ∃ k : Fin 32768, (w1 (ix1 k)).toNat = (x 0).val / 8
  · obtain ⟨k, hk⟩ := hk1
    have hkl := k.isLt
    rw [Scatter.hit _ _ y w1 q1 r1 i1 (place x) k (hk.trans hc.symm), fill_on hd tok base le_rfl (j := 2 * k.val + 1) (by omega) x (by rw [d1, hk]),
      val x (2 * k.val + 1) k (by omega)]
  · have hk1' : ∀ k : Fin 32768, (w1 (ix1 k)).toNat ≠ (place x 0).val := fun k h => hk1 ⟨k, h⟩
    rw [Scatter.miss _ _ y w1 q1 r1 (place x) hk1']
    by_cases hk0 : ∃ k : Fin 32768, (w0 (ix1 k)).toNat = (x 0).val / 8
    · obtain ⟨k, hk⟩ := hk0
      have hkl := k.isLt
      rw [Scatter.hit _ _ y w0 q0 r0 i0 (place x) k (hk.trans hc.symm), fill_on hd tok base le_rfl (j := 2 * k.val) (by omega) x (by rw [d0, hk]),
        val x (2 * k.val) k (by omega)]
    · have hk0' : ∀ k : Fin 32768, (w0 (ix1 k)).toNat ≠ (place x 0).val := fun k h => hk0 ⟨k, h⟩
      rw [Scatter.miss _ _ y w0 q0 r0 (place x) hk0', fill_miss tok base x, hb]
      · rfl
      · rintro ⟨j, hj, hjx⟩
        by_cases p : j % 2 = 0
        · refine hk0 ⟨⟨j / 2, by omega⟩, ?_⟩
          rw [← d0, ← hjx]
          congr 1
          show 2 * (j / 2) = j
          omega
        · refine hk1 ⟨⟨j / 2, by omega⟩, ?_⟩
          rw [← d1, ← hjx]
          congr 1
          show 2 * (j / 2) + 1 = j
          omega

/-- The kernel's result is the reference's. -/
theorem out_eq (m : (ℓ : Loc Cert.KernelIdeal.nD Cert.KernelIdeal.τ Cert.KernelIdeal.sig) → Buf (Elt F) ℓ) (c : Dev Cert.KernelIdeal.nD)
    (h : Cert.Pre_pos_distinct.fn (F := F) (posOf m c) (tokOf m c) = fun _ => 1#1) :
    refOut (posOf m c) (tokOf m c) = fill (dests m c) (tokens m c) (before m c) 65536 :=
  refOut_eq _ _ _ _ (posOf m c) (tokOf m c) (words0_at m c) (words1_at m c) (tokens_at m c) (before_at m c)
    (fun ix => Pre.range (posOf m c) (tokOf m c) h ix) (fun ix ix' e => Pre.inj (posOf m c) (tokOf m c) h e)

end Cert.Proof.Dispatch

end
-- ==== Proof.Expert.Kit.lean ====
/- The expert product's launch: its host operations, the table the pipeline reads, the windows' blocks. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S256 .i32 := Memref.whole main_v19
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-! ## The staging memrefs and the scratch accumulator -/

/-- One staging buffer of output window 4, through which its contents are stated (`View.read_writes_of_cover`: the
    choice does not matter). -/
abbrev VO0_4 : View sig .tc .vmem S4096x128 .f32 := (Memref.whole cc0_stg4_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1792 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1792 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1792x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S512x1024 .f32 := Memref.whole cc0_scratch0
/-- The scratch `arg8` the kernel carries between points, as a view: what it holds is stated through it. -/
abbrev VS0_0 : View sig .tc .vmem S512x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Write-backs and the body at a point -/

/-- Window 4 (result 0 (%20)) is written back at the points ≡ 1 (mod 2), at any contents of the tables (its index map reads none). -/
theorem flush0_4 (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_v19) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

end Cert.Kernel2Ideal.Expert

end
-- ==== Proof.Expert.Rows.lean ====
/- What the expert product's body computes from a point's blocks, and how its row stores lay it out. -/
module

public import proofs.«01_k».proof.Proof.Expert.Kit
public import Idealize.ShloMosaic.Lib.Pipeline.Value
public import Idealize.ShloMosaic.Lib.VecWindow
public import Idealize.ShloMosaic.Lib.Pointwise

@[expose] public section

set_option maxRecDepth 16384

noncomputable section

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- Rows `k`, `k + 8`, … (512 of them, all lanes) lie inside a block. -/
abbrev Fits (k : ℕ) : Prop :=
  ∀ a, S512x128.size a = 0 ∨ (![k, 0] : Fin 2 → ℕ) a + (![8, 1] : Fin 2 → ℕ) a * (S512x128.size a - 1) < S4096x128.size a

/-- The rows of a block that sit at offset `k` in their group of eight: lane group `k` of the 512 tokens. -/
abbrev grp (k : ℕ) (h : Fits k) :
    LoadRect S4096x128 := ⟨![k, 0], S512x128.size, ![8, 1], h⟩

/-- A block's values along a load's coordinates. -/
abbrev along (x : Vec F S4096x128 .f32) (r : LoadRect S4096x128) : r.shape.Idx → F .f32 := fun y => x (r.idx y)

/-- The first half of the hidden units' contribution, from a point's blocks. -/
def first (x0 : Vec F S4096x128 .f32) (x1 x2 : Vec F S1x1024x1792 .bf16) (x3 : Vec F S1x1792x1024 .bf16) : FVec F S512x1024 .f32 :=
  k0_pay20 (along x0 (grp 0 inb_S4096x128_S512x128_0_0_s_8_1)) (along x0 (grp 1 inb_S4096x128_S512x128_1_0_s_8_1))
    (along x0 (grp 2 inb_S4096x128_S512x128_2_0_s_8_1)) (along x0 (grp 3 inb_S4096x128_S512x128_3_0_s_8_1))
    (along x0 (grp 4 inb_S4096x128_S512x128_4_0_s_8_1)) (along x0 (grp 5 inb_S4096x128_S512x128_5_0_s_8_1))
    (along x0 (grp 6 inb_S4096x128_S512x128_6_0_s_8_1)) (along x0 (grp 7 inb_S4096x128_S512x128_7_0_s_8_1)) x1 x2 x3

/-- The gated hidden units of a point's blocks. -/
def gated (x0 : Vec F S4096x128 .f32) (x1 x2 : Vec F S1x1024x1792 .bf16) : FVec F S512x1792 .bf16 :=
  k0_pay21 (along x0 (grp 0 inb_S4096x128_S512x128_0_0_s_8_1)) (along x0 (grp 1 inb_S4096x128_S512x128_1_0_s_8_1))
    (along x0 (grp 2 inb_S4096x128_S512x128_2_0_s_8_1)) (along x0 (grp 3 inb_S4096x128_S512x128_3_0_s_8_1))
    (along x0 (grp 4 inb_S4096x128_S512x128_4_0_s_8_1)) (along x0 (grp 5 inb_S4096x128_S512x128_5_0_s_8_1))
    (along x0 (grp 6 inb_S4096x128_S512x128_6_0_s_8_1)) (along x0 (grp 7 inb_S4096x128_S512x128_7_0_s_8_1)) x1 x2

/-- The accumulator's contents plus the second half's contribution. -/
def total (xs : Vec F S512x1024 .f32) (x0 : Vec F S4096x128 .f32) (x1 x2 : Vec F S1x1024x1792 .bf16) (x3 : Vec F S1x1792x1024 .bf16) :
    FVec F S512x1024 .f32 := k0_pay2 xs (gated x0 x1 x2) x3

/-- 512 rows of 1024 laid out as 4096 rows of 128: row `r` holds lanes `128·(r mod 8) …` of token `r / 8`. -/
def rowsOf (u : FVec F S512x1024 .f32) : Vec F S4096x128 .f32 := fun y =>
  u (ValueIdx.ix2 (⟨(y 0).val / 8, by have : (y 0).val < 4096 := (y 0).isLt; omega⟩ : Fin 512)
    (⟨(y 0).val % 8 * 128 + (y 1).val, by have : (y 1).val < 128 := (y 1).isLt; omega⟩ : Fin 1024))

/-- The rectangle of a store at offset `k` of every group of eight rows. -/
abbrev put (k : ℕ) (h : Fits k) :
    Rect S4096x128 := ⟨grp k h, spos_8_1⟩

/-- A lane slice of `u`, stored at offset `k` of every group of eight rows, holds what `rowsOf u` holds there. -/
theorem slice_rows (u : FVec F S512x1024 .f32) (k o : ℕ) (hk : k < 8) (ho : o = 128 * k) (h : Fits k) (hs : S512x1024.Slices ![0, o] S512x128)
    (x : (put k h).shape.Idx) : extractStridedSlice S512x128 ![0, o] u hs x = rowsOf u ((put k h).emb x) := by
  have h0 : (x 0).val < 512 := (x 0).isLt
  have h1 : (x 1).val < 128 := (x 1).isLt
  unfold rowsOf
  refine extractStridedSlice_apply _ _ _ x _ fun a => ?_
  match a with
  | ⟨0, _⟩ => show (k + 8 * (x 0).val) / 8 = 0 + (x 0).val; omega
  | ⟨1, _⟩ => show (k + 8 * (x 0).val) % 8 * 128 + (0 + 1 * (x 1).val) = o + (x 1).val; omega

/-- Row `r` of a block lies in the store at offset `r mod 8`. -/
theorem mem_put (k : ℕ) (h : Fits k) (y : S4096x128.Idx) (hy : (y 0).val % 8 = k) : y ∈ (put k h).set := by
  have h0 : (y 0).val < 4096 := (y 0).isLt
  have h1 : (y 1).val < 128 := (y 1).isLt
  have e : (put k h).emb (ValueIdx.ix2 (⟨(y 0).val / 8, by omega⟩ : Fin 512) (⟨(y 1).val, h1⟩ : Fin 128) : (put k h).shape.Idx) = y := by
    funext a
    match a with
    | ⟨0, _⟩ => exact Fin.ext (show k + 8 * ((y 0).val / 8) = (y 0).val by omega)
    | ⟨1, _⟩ => exact Fin.ext (show 0 + 1 * (y 1).val = (y 1).val by omega)
  rw [← e]
  exact (put k h).idx_mem _

/-- The store of `u`'s lanes at offset `k` of every group of eight rows. -/
abbrev piece (u : FVec F S512x1024 .f32) (k o : ℕ) (h : Fits k) (hs : S512x1024.Slices ![0, o] S512x128) : View.Piece (Elt F) S4096x128 .f32 :=
  ⟨put k h, extractStridedSlice S512x128 ![0, o] u hs⟩

/-- The eight stores of `u`'s lane slices leave the block at `rowsOf u`. -/
theorem read_stores (v : View sig .tc .vmem S4096x128 .f32) (f : v.ty.Contents (Elt F)) (u : FVec F S512x1024 .f32) :
    v.read (Elt F) (v.writes (Elt F) f
      [piece u 7 896 inb_S4096x128_S512x128_7_0_s_8_1 slices_S512x1024_o0_896_S512x128,
       piece u 6 768 inb_S4096x128_S512x128_6_0_s_8_1 slices_S512x1024_o0_768_S512x128,
       piece u 5 640 inb_S4096x128_S512x128_5_0_s_8_1 slices_S512x1024_o0_640_S512x128,
       piece u 4 512 inb_S4096x128_S512x128_4_0_s_8_1 slices_S512x1024_o0_512_S512x128,
       piece u 3 384 inb_S4096x128_S512x128_3_0_s_8_1 slices_S512x1024_o0_384_S512x128,
       piece u 2 256 inb_S4096x128_S512x128_2_0_s_8_1 slices_S512x1024_o0_256_S512x128,
       piece u 1 128 inb_S4096x128_S512x128_1_0_s_8_1 slices_S512x1024_o0_128_S512x128,
       piece u 0 0 inb_S4096x128_S512x128_0_0_s_8_1 slices_S512x1024_o0_0_S512x128]) = rowsOf u := by
  funext y
  refine View.read_writes_apply_of_pieces v f (rowsOf u) _ ?_ y ?_
  · rw [List.forall_mem_cons, List.forall_mem_cons, List.forall_mem_cons, List.forall_mem_cons, List.forall_mem_cons, List.forall_mem_cons,
      List.forall_mem_cons, List.forall_mem_cons]
    exact ⟨slice_rows u 7 896 (by decide) (by decide) inb_S4096x128_S512x128_7_0_s_8_1 slices_S512x1024_o0_896_S512x128, slice_rows u 6 768 (by decide) (by decide) inb_S4096x128_S512x128_6_0_s_8_1 slices_S512x1024_o0_768_S512x128,
      slice_rows u 5 640 (by decide) (by decide) inb_S4096x128_S512x128_5_0_s_8_1 slices_S512x1024_o0_640_S512x128, slice_rows u 4 512 (by decide) (by decide) inb_S4096x128_S512x128_4_0_s_8_1 slices_S512x1024_o0_512_S512x128,
      slice_rows u 3 384 (by decide) (by decide) inb_S4096x128_S512x128_3_0_s_8_1 slices_S512x1024_o0_384_S512x128, slice_rows u 2 256 (by decide) (by decide) inb_S4096x128_S512x128_2_0_s_8_1 slices_S512x1024_o0_256_S512x128,
      slice_rows u 1 128 (by decide) (by decide) inb_S4096x128_S512x128_1_0_s_8_1 slices_S512x1024_o0_128_S512x128, slice_rows u 0 0 (by decide) (by decide) inb_S4096x128_S512x128_0_0_s_8_1 slices_S512x1024_o0_0_S512x128,
      fun p hp => absurd hp (List.not_mem_nil)⟩
  · simp only [List.exists_mem_cons_iff, List.not_mem_nil, _root_.false_and, exists_false, _root_.or_false]
    have : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
    exact this.imp (mem_put 7 _ y) (Or.imp (mem_put 6 _ y) (Or.imp (mem_put 5 _ y) (Or.imp (mem_put 4 _ y) (Or.imp (mem_put 3 _ y)
      (Or.imp (mem_put 2 _ y) (Or.imp (mem_put 1 _ y) (mem_put 0 _ y)))))))

/-- A load through a whole memref holding `x` reads `x` at the load's coordinates. -/
theorem readAt_unread {s : Shape} {e : EltTy} {arg : Memref sig .tc .vmem s e} (h : arg.IsWhole) (x : s.Idx → Elt F e) (r : LoadRect s) :
    View.readAt (Elt F) arg.view r (h.unread x) = fun y => x (r.idx y) := by
  funext y; rw [View.readAt_apply, h.read_unread]

/-- A load of the whole of it reads `x`. -/
theorem readFull {s : Shape} {e : EltTy} {arg : Memref sig .tc .vmem s e} (h : arg.IsWhole) (x : s.Idx → Elt F e) {off : Fin s.rank → ℕ}
    (inb : ∀ a, off a + s.size a ≤ s.size a) :
    View.readAt (Elt F) arg.view (Rect.unit off s.size inb).toLoadRect (h.unread x) = x := by
  rw [View.readAt_full, h.read_unread]

/-- The origin of the accumulator's rectangle. -/
theorem off2 : (![0, 0] : Fin S512x1024.rank → ℕ) = fun _ => 0 := by
  funext a
  match a with
  | ⟨0, _⟩ => rfl
  | ⟨1, _⟩ => rfl

/-- One store over a whole buffer leaves its payload. -/
theorem read_whole {S : Shape} {e : EltTy} (v : View sig .tc .vmem S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

/-! ## The body's conditions, from the grid point and the number of tiles in use -/

/-- The condition of the first conditional: the tile is in use and this is the first half. -/
abbrev condA (i : grid0.Coords) (w : BitVec 32) : Prop :=
  (Scalar.cmpi .ne (Scalar.extui (Scalar.andi (Scalar.cmpi .slt (BitVec.ofNat 32 (i 0).val) w)
    (Scalar.cmpi .eq (BitVec.ofNat 32 (i 1).val) 0#32)) : BitVec 32) 0#32) = 1#1

/-- The number of tiles in use, as the body loads it from the table. -/
def word (c : Dev nD) (xt : TbBuf0 (F := F) c tbM0_0) : BitVec 32 :=
  View.readAt (Elt F) tbM0_0.view (Rect.unit (s := S256) ![255] S1.size inb_S256_S1_255).toLoadRect xt (Shape.Idx.first (lt_of_lt_of_eq Nat.one_pos numel1_S1.symm))

end Cert.Kernel2Ideal.Expert

end
-- ==== Proof.Expert.Run.lean ====
/- The expert product's body at one grid point, in each of the four cases of its conditions. -/
module

public import proofs.«01_k».proof.Proof.Expert.Rows
public import Idealize.ShloMosaic.Lib.Pipeline.Value
public import Idealize.ShloMosaic.Lib.VecWindow
public import Idealize.ShloMosaic.Lib.Pointwise

@[expose] public section

set_option maxRecDepth 16384

noncomputable section

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile in use, first half: the accumulator takes the half's contribution; the output block is left alone. -/
theorem runFirst (c : Dev nD) (i : grid0.Coords) (arg3 : Memref sig .tc .vmem S4096x128 .f32) (harg3 : arg3.IsWhole)
    (arg4 : Memref sig .tc .vmem S1x1024x1792 .bf16) (harg4 : arg4.IsWhole) (arg5 : Memref sig .tc .vmem S1x1024x1792 .bf16) (harg5 : arg5.IsWhole)
    (arg6 : Memref sig .tc .vmem S1x1792x1024 .bf16) (harg6 : arg6.IsWhole) (arg7 : Memref sig .tc .vmem S4096x128 .f32) (harg7 : arg7.IsWhole)
    (arg8 : Memref sig .tc .vmem S512x1024 .f32) (harg8 : arg8.IsWhole)
    (x0 : Vec F S4096x128 .f32) (x1 : Vec F S1x1024x1792 .bf16) (x2 : Vec F S1x1024x1792 .bf16) (x3 : Vec F S1x1792x1024 .bf16)
    (xs : Vec F S512x1024 .f32) (xo : Vec F S4096x128 .f32) (xt : TbBuf0 (F := F) c tbM0_0)
    (hA : condA i (word c xt)) (hB : ¬ k0_cond2 i (word c xt) = 1#1) (hC : ¬ k0_cond3 i (word c xt) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo ∗ owns (c : Thread nD τ) arg8 fullShare xs ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare (first x0 x1 x2 x3) ∗ tbPt0 c tbM0_0 xt) -∗ K ⟨⟩))
      ⊢ wp frame (wpE (defs₀ (F := F)) Variants.none c none) E
          (cc0_expert_ffn i tbM0_0 htbM0_0 arg3 harg3 arg4 harg4 arg5 harg5 arg6 harg6 arg7 harg7 arg8 harg8) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | sl_exact hA | sl_exact hB | sl_exact hC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact harg7.read_unread _
  isplitl [HS]
  · iexists _; isplitr
    swap; · iexact HS
    ipureintro
    refine (read_whole arg8.view _ off2 _ _).trans ?_
    unfold runFirst.sl.r_1 k0_pay1 first
    refine (shapeCast_self _ _).trans ?_
    simp only [readAt_unread harg3, readFull harg4, readFull harg5, readFull harg6]
  iexact HT

set_option maxHeartbeats 1000000 in
/-- A tile in use, second half: the output block takes the accumulator plus the half's contribution, row by row. -/
theorem runLast (c : Dev nD) (i : grid0.Coords) (arg3 : Memref sig .tc .vmem S4096x128 .f32) (harg3 : arg3.IsWhole)
    (arg4 : Memref sig .tc .vmem S1x1024x1792 .bf16) (harg4 : arg4.IsWhole) (arg5 : Memref sig .tc .vmem S1x1024x1792 .bf16) (harg5 : arg5.IsWhole)
    (arg6 : Memref sig .tc .vmem S1x1792x1024 .bf16) (harg6 : arg6.IsWhole) (arg7 : Memref sig .tc .vmem S4096x128 .f32) (harg7 : arg7.IsWhole)
    (arg8 : Memref sig .tc .vmem S512x1024 .f32) (harg8 : arg8.IsWhole)
    (x0 : Vec F S4096x128 .f32) (x1 : Vec F S1x1024x1792 .bf16) (x2 : Vec F S1x1024x1792 .bf16) (x3 : Vec F S1x1792x1024 .bf16)
    (xs : Vec F S512x1024 .f32) (xo : Vec F S4096x128 .f32) (xt : TbBuf0 (F := F) c tbM0_0)
    (hA : ¬ condA i (word c xt)) (hB : k0_cond2 i (word c xt) = 1#1) (hC : ¬ k0_cond3 i (word c xt) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo ∗ owns (c : Thread nD τ) arg8 fullShare xs ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (rowsOf (total xs x0 x1 x2 x3)) ∗ owns (c : Thread nD τ) arg8 fullShare xs ∗ tbPt0 c tbM0_0 xt) -∗ K ⟨⟩))
      ⊢ wp frame (wpE (defs₀ (F := F)) Variants.none c none) E
          (cc0_expert_ffn i tbM0_0 htbM0_0 arg3 harg3 arg4 harg4 arg5 harg5 arg6 harg6 arg7 harg7 arg8 harg8) K := by
  simp only [cc0_expert_ffn_eq_skeleton]; unfold cc0_expert_ffn_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | sl_exact hA | sl_exact hB | sl_exact hC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    have e : k0_pay2 (runLast.sl.r_1 c arg8 harg8 xs) (runLast.sl.r_2 c arg3 harg3 arg4 harg4 arg5 harg5 x0 x1 x2) (runLast.sl.r_3 c arg6 harg6 x3)
        = total xs x0 x1 x2 x3 := by
      unfold runLast.sl.r_1 runLast.sl.r_2 runLast.sl.r_3 total gated
      simp only [readAt_unread harg3, readFull harg4, readFull harg5, readFull harg6, readFull harg8]
    rw [← e]
    unfold k0_pay3 k0_pay4 k0_pay5 k0_pay6 k0_pay7 k0_pay8 k0_pay9 k0_pay10
    exact read_stores _ _ _
  isplitl [HS]
  · iexists _; isplitr
    swap; · iexact HS
    ipureintro
    exact harg8.read_unread _
  iexact HT

set_option maxHeartbeats 1000000 in
/-- A tile not in use, second half: the output block is zeroed. -/
theorem runZero (c : Dev nD) (i : grid0.Coords) (arg3 : Memref sig .tc .vmem S4096x128 .f32) (harg3 : arg3.IsWhole)
    (arg4 : Memref sig .tc .vmem S1x1024x1792 .bf16) (harg4 : arg4.IsWhole) (arg5 : Memref sig .tc .vmem S1x1024x1792 .bf16) (harg5 : arg5.IsWhole)
    (arg6 : Memref sig .tc .vmem S1x1792x1024 .bf16) (harg6 : arg6.IsWhole) (arg7 : Memref sig .tc .vmem S4096x128 .f32) (harg7 : arg7.IsWhole)
    (arg8 : Memref sig .tc .vmem S512x1024 .f32) (harg8 : arg8.IsWhole)
    (x0 : Vec F S4096x128 .f32) (x1 : Vec F S1x1024x1792 .bf16) (x2 : Vec F S1x1024x1792 .bf16) (x3 : Vec F S1x1792x1024 .bf16)
    (xs : Vec F S512x1024 .f32) (xo : Vec F S4096x128 .f32) (xt : TbBuf0 (F := F) c tbM0_0)
    (hA : ¬ condA i (word c xt)) (hB : ¬ k0_cond2 i (word c xt) = 1#1) (hC : k0_cond3 i (word c xt) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo ∗ owns (c : Thread nD τ) arg8 fullShare xs ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (rowsOf k0_pay11) ∗ owns (c : Thread nD τ) arg8 fullShare xs ∗ tbPt0 c tbM0_0 xt) -∗ K ⟨⟩))
      ⊢ wp frame (wpE (defs₀ (F := F)) Variants.none c none) E
          (cc0_expert_ffn i tbM0_0 htbM0_0 arg3 harg3 arg4 harg4 arg5 harg5 arg6 harg6 arg7 harg7 arg8 harg8) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | sl_exact hA | sl_exact hB | sl_exact hC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    unfold k0_pay12 k0_pay13 k0_pay14 k0_pay15 k0_pay16 k0_pay17 k0_pay18 k0_pay19
    exact read_stores _ _ _
  isplitl [HS]
  · iexists _; isplitr
    swap; · iexact HS
    ipureintro
    exact harg8.read_unread _
  iexact HT

set_option maxHeartbeats 1000000 in
/-- A tile not in use, first half: nothing changes. -/
theorem runNone (c : Dev nD) (i : grid0.Coords) (arg3 : Memref sig .tc .vmem S4096x128 .f32) (harg3 : arg3.IsWhole)
    (arg4 : Memref sig .tc .vmem S1x1024x1792 .bf16) (harg4 : arg4.IsWhole) (arg5 : Memref sig .tc .vmem S1x1024x1792 .bf16) (harg5 : arg5.IsWhole)
    (arg6 : Memref sig .tc .vmem S1x1792x1024 .bf16) (harg6 : arg6.IsWhole) (arg7 : Memref sig .tc .vmem S4096x128 .f32) (harg7 : arg7.IsWhole)
    (arg8 : Memref sig .tc .vmem S512x1024 .f32) (harg8 : arg8.IsWhole)
    (x0 : Vec F S4096x128 .f32) (x1 : Vec F S1x1024x1792 .bf16) (x2 : Vec F S1x1024x1792 .bf16) (x3 : Vec F S1x1792x1024 .bf16)
    (xs : Vec F S512x1024 .f32) (xo : Vec F S4096x128 .f32) (xt : TbBuf0 (F := F) c tbM0_0)
    (hA : ¬ condA i (word c xt)) (hB : ¬ k0_cond2 i (word c xt) = 1#1) (hC : ¬ k0_cond3 i (word c xt) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo ∗ owns (c : Thread nD τ) arg8 fullShare xs ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xs ∗ tbPt0 c tbM0_0 xt) -∗ K ⟨⟩))
      ⊢ wp frame (wpE (defs₀ (F := F)) Variants.none c none) E
          (cc0_expert_ffn i tbM0_0 htbM0_0 arg3 harg3 arg4 harg4 arg5 harg5 arg6 harg6 arg7 harg7 arg8 harg8) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | sl_exact hA | sl_exact hB | sl_exact hC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact harg7.read_unread _
  isplitl [HS]
  · iexists _; isplitr
    swap; · iexact HS
    ipureintro
    exact harg8.read_unread _
  iexact HT

end Cert.Kernel2Ideal.Expert

end
-- ==== Proof.Expert.Launch.lean ====
/- The expert product's launch as a whole: what each point leaves, and the run. -/
module

public import proofs.«01_k».proof.Proof.Expert.Run
public import Idealize.ShloMosaic.Lib.Claim

@[expose] public section

set_option maxRecDepth 16384

noncomputable section

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point -/

/-- The number of tiles in use, from the launch memory. -/
def tiles : BitVec 32 := word (0 : Dev nD) (tbl m 0)

/-- The tile of a grid point is in use. -/
abbrev InUse (i : grid0.Coords) (w : BitVec 32) : Prop := Scalar.cmpi .slt (BitVec.ofNat 32 (i 0).val) w = 1#1

theorem half_cases (i : grid0.Coords) : (i 1).val = 0 ∨ (i 1).val = 1 := by
  have : (i 1).val < 2 := (i 1).isLt
  omega

theorem condA_iff (i : grid0.Coords) (w : BitVec 32) : condA i w ↔ InUse i w ∧ (i 1).val = 0 := by
  unfold condA InUse
  generalize Scalar.cmpi .slt (BitVec.ofNat 32 (i 0).val) w = b
  rcases half_cases i with h | h <;> rw [h] <;> revert b <;> decide

theorem condB_iff (i : grid0.Coords) (w : BitVec 32) : k0_cond2 i w = 1#1 ↔ InUse i w ∧ (i 1).val = 1 := by
  unfold k0_cond2 InUse; dsimp only
  generalize Scalar.cmpi .slt (BitVec.ofNat 32 (i 0).val) w = b
  rcases half_cases i with h | h <;> rw [h] <;> revert b <;> decide

theorem condC_iff (i : grid0.Coords) (w : BitVec 32) : k0_cond3 i w = 1#1 ↔ ¬ InUse i w ∧ (i 1).val = 1 := by
  unfold k0_cond3 InUse; dsimp only
  generalize Scalar.cmpi .slt (BitVec.ofNat 32 (i 0).val) w = b
  rcases half_cases i with h | h <;> rw [h] <;> revert b <;> decide

theorem half_val (t : Fin grid0.N) : (grid0.coords t 1).val = t.val % 2 := by
  have e : (grid0.coords t 1).val = t.val / 1 % 2 := Pipeline.Grid.coords_val t 1 (by decide) rfl
  omega

theorem tile_val (t : Fin grid0.N) : (grid0.coords t 0).val = t.val / 2 := by
  have ht : t.val < 272 := Nat.lt_of_lt_of_eq t.isLt N_0
  have e : (grid0.coords t 0).val = t.val / 2 % 136 := Pipeline.Grid.coords_val t 0 (by decide) rfl
  omega

/-- The two halves of a tile are in use together. -/
theorem inUse_prev (s t : Fin grid0.N) (h : s.val + 1 = t.val) (ht : t.val % 2 = 1) (w : BitVec 32) (hu : InUse (grid0.coords t) w) :
    InUse (grid0.coords s) w := by
  unfold InUse at hu ⊢
  rw [tile_val] at hu ⊢
  rwa [show s.val / 2 = t.val / 2 by omega]

/-- The word the output's idle points are told by is the number of tiles in use. -/
theorem atD_eq (hO : Ok m) : (adm m hO).1.atD 0 ![255] = tiles m := by
  unfold tiles word
  rfl

/-- At a first half the output block is idle, -/
theorem idle_first (hO : Ok m) (t : Fin (cfgM m hO).N) (h : t.val % 2 = 0) : (cfgM m hO).idle 4 (grid0.coords t) = true := by
  have hv := half_val t
  have h2 : ¬ k0_cond2 (grid0.coords t) ((adm m hO).1.atD 0 ![255]) = 1#1 := fun e => by have := ((condB_iff _ _).mp e).2; omega
  have h3 : ¬ k0_cond3 (grid0.coords t) ((adm m hO).1.atD 0 ![255]) = 1#1 := fun e => by have := ((condC_iff _ _).mp e).2; omega
  show (!(k0_cond2 (grid0.coords t) ((adm m hO).1.atD 0 ![255]) == 1#1) && !(k0_cond3 (grid0.coords t) ((adm m hO).1.atD 0 ![255]) == 1#1)) = true
  simp only [beq_eq_false_iff_ne.mpr h2, beq_eq_false_iff_ne.mpr h3, Bool.not_false, Bool.and_self]

/-- and is not written back. -/
theorem noFlush_first (hO : Ok m) (t : Fin (cfgM m hO).N) (h : t.val % 2 = 0) : ((cfgM m hO).win 4).flush t = false := by
  rw [← Bool.not_eq_true, flush0_4]
  omega

/-- At a second half it is not idle. -/
theorem live_second (hO : Ok m) (t : Fin (cfgM m hO).N) (h : t.val % 2 = 1) : (cfgM m hO).idle 4 (grid0.coords t) = false := by
  have hv := half_val t
  show (!(k0_cond2 (grid0.coords t) ((adm m hO).1.atD 0 ![255]) == 1#1) && !(k0_cond3 (grid0.coords t) ((adm m hO).1.atD 0 ![255]) == 1#1)) = false
  by_cases hu : InUse (grid0.coords t) ((adm m hO).1.atD 0 ![255])
  · rw [(condB_iff _ _).mpr ⟨hu, by omega⟩]; rfl
  · rw [(condC_iff _ _).mpr ⟨hu, by omega⟩]; simp

/-! ## What each point leaves -/

/-- The point before. -/
abbrev prev {n : ℕ} (t : Fin n) : Fin n := ⟨t.val - 1, Nat.lt_of_le_of_lt (Nat.sub_le _ _) t.isLt⟩

/-- What the first half at point `t` leaves in the accumulator. -/
def accAt (hO : Ok m) (c : Dev nD) (t : Fin (cfgM m hO).N) : FVec F S512x1024 .f32 :=
  first (iblk m hO c 0 t) (iblk m hO c 1 t) (iblk m hO c 2 t) (iblk m hO c 3 t)

/-- What the second half at point `t` leaves in the output block. -/
def outAt (hO : Ok m) (c : Dev nD) (t : Fin (cfgM m hO).N) : Vec F S4096x128 .f32 :=
  if InUse (grid0.coords t) (tiles m) then
    rowsOf (total (accAt m hO c (prev t)) (iblk m hO c 0 t) (iblk m hO c 1 t) (iblk m hO c 2 t) (iblk m hO c 3 t))
  else rowsOf k0_pay11

/-- Before point `n`, if the point before was a first half of a tile in use, the accumulator holds what that half left. -/
def Good (hO : Ok m) (c : Dev nD) (n : ℕ) (d : Vec F S512x1024 .f32) : Prop :=
  ∀ s : Fin (cfgM m hO).N, s.val + 1 = n → s.val % 2 = 0 → InUse (grid0.coords s) (tiles m) → d = accAt m hO c s

/-- What is held between points: the accumulator, the generator register and the table. -/
def PhiS (hO : Ok m) (c : Dev nD) (n : ℕ) : sProp 𝕄 :=
  iprop(iprop((∃ d, iprop(⌜Good m hO c n d⌝ ∗ owns (c : Thread nD τ) scM0_0 fullShare d)) ∗ (∃ r, prngReg c r)) ∗ Pipeline.ΦT pre0 (tbl m) c)

/-- The pipeline's proof data: the arrays as the region finds them, each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val
  q _ := fullShare
  owed _ := 0

/-- Its arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- Each input's staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at a point -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves_in0 (hO : Ok m) (c : Dev nD) (t : Fin (cfgM m hO).N) :
    (dats m hO 0 c).leavesExact 0 t = owns (c : Thread nD τ) (ms0_0 m hO t) fullShare (iblk m hO c 0 t) := by
  rw [← after0_0]; unfold Dat.leavesExact; rw [liveAt0_0 m hO t]; try rfl
theorem leaves_in1 (hO : Ok m) (c : Dev nD) (t : Fin (cfgM m hO).N) :
    (dats m hO 0 c).leavesExact 1 t = owns (c : Thread nD τ) (ms0_1 m hO t) fullShare (iblk m hO c 1 t) := by
  rw [← after0_1]; unfold Dat.leavesExact; rw [liveAt0_1 m hO t]; try rfl
theorem leaves_in2 (hO : Ok m) (c : Dev nD) (t : Fin (cfgM m hO).N) :
    (dats m hO 0 c).leavesExact 2 t = owns (c : Thread nD τ) (ms0_2 m hO t) fullShare (iblk m hO c 2 t) := by
  rw [← after0_2]; unfold Dat.leavesExact; rw [liveAt0_2 m hO t]; try rfl
theorem leaves_in3 (hO : Ok m) (c : Dev nD) (t : Fin (cfgM m hO).N) :
    (dats m hO 0 c).leavesExact 3 t = owns (c : Thread nD τ) (ms0_3 m hO t) fullShare (iblk m hO c 3 t) := by
  rw [← after0_3]; unfold Dat.leavesExact; rw [liveAt0_3 m hO t]; try rfl
theorem leaves_out (hO : Ok m) (c : Dev nD) (t : Fin (cfgM m hO).N) (h : t.val % 2 = 1) :
    (dats m hO 0 c).leavesExact 4 t = owns (c : Thread nD τ) (ms0_4 m hO t) fullShare (outAt m hO c t) := by
  rw [← after0_4]; unfold Dat.leavesExact; rw [live_second m hO t h]; try rfl

set_option maxHeartbeats 3200000 in
/-- The body at any point, by the four cases of its conditions. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) from rfl, show (dats m hO 0 c).Φ t.castSucc = PhiS m hO c t.val from rfl]
  rw [leaves_in0, leaves_in1, leaves_in2, leaves_in3]
  unfold PhiS
  rw [PhiT0_eq]
  have hv := half_val t
  have hw : word c (tbl m 0) = tiles m := rfl
  by_cases h0 : t.val % 2 = 0
  · rw [Dat.leavesExact_idle (dats m hO 0 c) 4 t (idle_first m hO t h0) (noFlush_first m hO t h0)]
    by_cases hu : InUse (grid0.coords t) (tiles m)
    · iintro ⟨⟨⟨⟨%d, %hd, HS⟩, Hg⟩, HT⟩, Ho, ⟨%d0, H0⟩, ⟨%d1, H1⟩, ⟨%d2, H2⟩, ⟨%d3, H3⟩, ⟨%d4, H4⟩⟩
      iapply (runFirst c (grid0.coords t) _ _ _ _ _ _ _ _ _ _ _ _ (iblk m hO c 0 t) (iblk m hO c 1 t) (iblk m hO c 2 t) (iblk m hO c 3 t) d _ (tbl m 0)
        (by rw [hw]; exact (condA_iff _ _).mpr ⟨hu, by omega⟩) (by rw [hw]; exact fun e => by have := ((condB_iff _ _).mp e).2; omega)
        (by rw [hw]; exact fun e => by have := ((condC_iff _ _).mp e).2; omega) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro
            intro s hs _ _
            rw [show s = t from Fin.ext (by omega)]; rfl
          iexact Hg
        iexact HT
      isplitl [Ho]; · iexact Ho
      isplitl [H0]; · iexact H0
      isplitl [H1]; · iexact H1
      isplitl [H2]; · iexact H2
      isplitl [H3]; · iexact H3
      iexists _; iexact H4
    · iintro ⟨⟨⟨⟨%d, %hd, HS⟩, Hg⟩, HT⟩, Ho, ⟨%d0, H0⟩, ⟨%d1, H1⟩, ⟨%d2, H2⟩, ⟨%d3, H3⟩, ⟨%d4, H4⟩⟩
      iapply (runNone c (grid0.coords t) _ _ _ _ _ _ _ _ _ _ _ _ (iblk m hO c 0 t) (iblk m hO c 1 t) (iblk m hO c 2 t) (iblk m hO c 3 t) d _ (tbl m 0)
        (by rw [hw]; exact fun e => hu ((condA_iff _ _).mp e).1) (by rw [hw]; exact fun e => by have := ((condB_iff _ _).mp e).2; omega)
        (by rw [hw]; exact fun e => by have := ((condC_iff _ _).mp e).2; omega) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro
            intro s hs _ hus
            rw [show s = t from Fin.ext (by omega)] at hus
            exact absurd hus hu
          iexact Hg
        iexact HT
      isplitl [Ho]; · iexact Ho
      isplitl [H0]; · iexact H0
      isplitl [H1]; · iexact H1
      isplitl [H2]; · iexact H2
      isplitl [H3]; · iexact H3
      iexists _; iexact H4
  · have h1 : t.val % 2 = 1 := by omega
    rw [leaves_out m hO c t h1]
    by_cases hu : InUse (grid0.coords t) (tiles m)
    · iintro ⟨⟨⟨⟨%d, %hd, HS⟩, Hg⟩, HT⟩, Ho, ⟨%d0, H0⟩, ⟨%d1, H1⟩, ⟨%d2, H2⟩, ⟨%d3, H3⟩, ⟨%d4, H4⟩⟩
      have hp : (prev t).val + 1 = t.val := by show t.val - 1 + 1 = t.val; omega
      have ed : d = accAt m hO c (prev t) := hd (prev t) hp (by omega) (inUse_prev (prev t) t hp h1 _ hu)
      iapply (runLast c (grid0.coords t) _ _ _ _ _ _ _ _ _ _ _ _ (iblk m hO c 0 t) (iblk m hO c 1 t) (iblk m hO c 2 t) (iblk m hO c 3 t) d _ (tbl m 0)
        (by rw [hw]; exact fun e => by have := ((condA_iff _ _).mp e).2; omega) (by rw [hw]; exact (condB_iff _ _).mpr ⟨hu, by omega⟩)
        (by rw [hw]; exact fun e => ((condC_iff _ _).mp e).1 hu) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro
            intro s hs hs2 _
            omega
          iexact Hg
        iexact HT
      isplitl [Ho]; · iexact Ho
      isplitl [H0]; · iexact H0
      isplitl [H1]; · iexact H1
      isplitl [H2]; · iexact H2
      isplitl [H3]; · iexact H3
      rw [show outAt m hO c t = _ from if_pos hu, ← ed]
      iexact H4
    · iintro ⟨⟨⟨⟨%d, %hd, HS⟩, Hg⟩, HT⟩, Ho, ⟨%d0, H0⟩, ⟨%d1, H1⟩, ⟨%d2, H2⟩, ⟨%d3, H3⟩, ⟨%d4, H4⟩⟩
      iapply (runZero c (grid0.coords t) _ _ _ _ _ _ _ _ _ _ _ _ (iblk m hO c 0 t) (iblk m hO c 1 t) (iblk m hO c 2 t) (iblk m hO c 3 t) d _ (tbl m 0)
        (by rw [hw]; exact fun e => by have := ((condA_iff _ _).mp e).2; omega) (by rw [hw]; exact fun e => hu ((condB_iff _ _).mp e).1)
        (by rw [hw]; exact (condC_iff _ _).mpr ⟨hu, by omega⟩) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro
            intro s hs hs2 _
            omega
          iexact Hg
        iexact HT
      isplitl [Ho]; · iexact Ho
      isplitl [H0]; · iexact H0
      isplitl [H1]; · iexact H1
      isplitl [H2]; · iexact H2
      isplitl [H3]; · iexact H3
      rw [show outAt m hO c t = _ from if_neg hu]
      iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨%d, HS⟩, Hg⟩, HT⟩
  isplitl [HS Hg]
  · isplitl [HS]
    · iexists d; isplitr
      swap; · iexact HS
      ipureintro
      intro s hs
      omega
    iexact Hg
  iexact HT

/-- After the last point the accumulator's contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl, PhiA0_eq]
  unfold PhiS
  iintro ⟨⟨⟨%d, %hd, HS⟩, Hg⟩, -⟩
  isplitl [HS]
  · iexists d; iexact HS
  iexact Hg

/-! ## The run and the frame -/

set_option backward.isDefEq.respectTransparency.types false in
/-- The launch: every run ends in the pipeline's final state, every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the semaphores. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- Every run ends with the arguments unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: every run ends with the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel2Ideal.Expert

end
-- ==== Proof.Expert.Table.lean ====
/- The table of experts the pipeline reads, and its blocks' places under the precondition. -/
module

public import proofs.«01_k».proof.Proof.Expert.Kit
public import proofs.«01_k».proof.Pre_experts_known
public import Idealize.ShloMosaic.Lib.StableHlo.ReadAt
public import Idealize.ShloMosaic.Lib.Tactic.WordOmega
public import Idealize.ShloMosaic.Lib.Pointwise

@[expose] public section

set_option maxRecDepth 16384

noncomputable section

namespace Cert.Pre_experts_known.Gen

open Idealize.ShloMosaic

/-- The side condition the precondition's broadcasts take. -/
instance facts : Cert.Pre_experts_known.Facts := ⟨by decide⟩

end Cert.Pre_experts_known.Gen

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the precondition says -/

/-- A lane of the table. -/
abbrev lane (k : ℕ) (h : k < 256 := by decide) : S256.Idx := ValueIdx.ix1 (⟨k, h⟩ : Fin 256)

/-- The precondition, lane by lane. -/
def Known (info : IVec S256 32) : Prop :=
  ((1 ≤ (info (lane 255)).toNat) ∧ (info (lane 255)).toNat ≤ 136) ∧ ∀ k : Fin 255, (info (lane k.val (by omega))).toNat < 8

theorem both {a b : BitVec 1} (h : IntOp.andi a b = 1#1) : a = 1#1 ∧ b = 1#1 := by
  revert a b; decide

theorem word_last (w : BitVec 32) (h : Scalar.select (IntOp.cmpi .eq (BitVec.ofNat 32 255) 255#32)
      (IntOp.andi (IntOp.cmpi .sge w 1#32) (IntOp.cmpi .sle w 136#32)) (IntOp.andi (IntOp.cmpi .sge w 0#32) (IntOp.cmpi .slt w 8#32)) = 1#1) :
    1 ≤ w.toNat ∧ w.toNat ≤ 136 := by
  have h' : IntOp.andi (IntOp.cmpi .sge w 1#32) (IntOp.cmpi .sle w 136#32) = 1#1 := h
  obtain ⟨h1, h2⟩ := both h'
  clear h h'
  constructor <;> word_omega

theorem word_lane (n : ℕ) (hn : n < 255) (w : BitVec 32) (h : Scalar.select (IntOp.cmpi .eq (BitVec.ofNat 32 n) 255#32)
      (IntOp.andi (IntOp.cmpi .sge w 1#32) (IntOp.cmpi .sle w 136#32)) (IntOp.andi (IntOp.cmpi .sge w 0#32) (IntOp.cmpi .slt w 8#32)) = 1#1) :
    w.toNat < 8 := by
  have hc : ¬ IntOp.cmpi .eq (BitVec.ofNat 32 n) 255#32 = 1#1 := by
    intro hc; clear h; word_omega
  have h' : IntOp.andi (IntOp.cmpi .sge w 0#32) (IntOp.cmpi .slt w 8#32) = 1#1 := by
    exact (if_neg hc).symm.trans h
  obtain ⟨h1, h2⟩ := both h'
  clear h h' hc
  word_omega

theorem known_of (info : IVec S256 32) (a1 : FVec F S557056x128 .f32) (a2 a3 : FVec F S8x1024x3584 .f32) (a4 : FVec F S8x3584x1024 .f32)
    (h : Cert.Pre_experts_known.fn (F := F) info a1 a2 a3 a4 = fun _ => 1#1) : Known info := by
  have e : ∀ k : Fin 256, Scalar.select (IntOp.cmpi .eq (BitVec.ofNat 32 k.val) 255#32)
      (IntOp.andi (IntOp.cmpi .sge (info (lane k.val k.isLt)) 1#32) (IntOp.cmpi .sle (info (lane k.val k.isLt)) 136#32))
      (IntOp.andi (IntOp.cmpi .sge (info (lane k.val k.isLt)) 0#32) (IntOp.cmpi .slt (info (lane k.val k.isLt)) 8#32)) = 1#1 :=
    fun k => congrFun h (lane k.val k.isLt)
  exact ⟨word_last _ (e 255), fun k => word_lane k.val k.isLt _ (e ⟨k.val, by omega⟩)⟩

/-! ## The table -/

/-- The table the host hands the pipeline: the lanes of tiles in use and the last one as they are, the last used tile's in the rest. -/
def table (info : IVec S256 32) : IVec S256 32 :=
  select (ori (cmpi .slt (iotaInDim S256 32 0) (broadcastInDim S256 ![] bcast_S_S256 (shapeCast S_ (extractStridedSlice S1 ![255] info slices_S256_S1_255) shapeCasts_S1_S_)))
      (cmpi .eq (iotaInDim S256 32 0) (broadcastInDim S256 ![] bcast_S_S256 (constantI S_ 32 255#32)))) info
    (broadcastInDim S256 ![0] bcast_S1_S256_0 (Host.dynamicSlice S1 info (fun _ =>
      (select (cmpi .slt (subi (shapeCast S_ (extractStridedSlice S1 ![255] info slices_S256_S1_255) shapeCasts_S1_S_) (constantI S_ 32 1#32)) (constantI S_ 32 0#32))
        (addi (subi (shapeCast S_ (extractStridedSlice S1 ![255] info slices_S256_S1_255) shapeCasts_S1_S_) (constantI S_ 32 1#32)) (constantI S_ 32 256#32))
        (subi (shapeCast S_ (extractStridedSlice S1 ![255] info slices_S256_S1_255) shapeCasts_S1_S_) (constantI S_ 32 1#32)) (Shape.Idx.first h_S_)).toInt) sliceFits_S256_S1))

theorem read_v9 (W : (b : DevRef τ sig) → Buf (Elt F) ((0 : Dev nD), b)) {h : (Proc.devRef .tc ((![main_v9] : Fin 1 → Ref sig .tc) 0) : DevRef τ sig).ty.Contents (Elt F) = (⟨S_, .i32⟩ : BufTy).Contents (Elt F)} :
    BitVec.toInt ((cast h (W (Proc.devRef .tc ((![main_v9] : Fin 1 → Ref sig .tc) 0))) : IVec S_ 32) (Shape.Idx.first h_S_))
      = BitVec.toInt ((W (Proc.devRef .tc main_v9) : IVec S_ 32) (Shape.Idx.first h_S_)) := rfl

theorem after_table (V0 : (b : DevRef τ sig) → Buf (Elt F) ((0 : Dev nD), b)) :
    StableHlo.after hostOps0 V0 (Proc.devRef .tc main_v19) = table (V0 (Proc.devRef .tc main_arg0)) := by
  unfold hostOps0
  after_results_simp
  unfold table
  refine congrArg (fun d => select _ _ (broadcastInDim S256 ![0] bcast_S1_S256_0 (Host.dynamicSlice S1 _ d sliceFits_S256_S1))) (funext fun k => ?_)
  obtain rfl : k = 0 := Subsingleton.elim _ _
  refine (read_v9 _).trans ?_
  after_results_simp
  rfl

/-- The pipeline's table, from the argument's. -/
theorem tbl_eq : tbl m 0 = table (m ((0 : Dev nD).tc.loc main_arg0)) := after_table fun b => m ((0 : Dev nD), b)

theorem word_used (n : ℕ) (hn : n < 256) (w : BitVec 32) (h : w.toNat ≤ 136) :
    IntOp.ori (IntOp.cmpi .slt (BitVec.ofNat 32 n) w) (IntOp.cmpi .eq (BitVec.ofNat 32 n) 255#32) = 1#1 ↔ n < w.toNat ∨ n = 255 := by
  word_omega

theorem word_start (w : BitVec 32) (h1 : 1 ≤ w.toNat) (h : w.toNat ≤ 136) :
    (Scalar.select (IntOp.cmpi .slt (IntOp.subi w 1#32) 0#32) (IntOp.addi (IntOp.subi w 1#32) 256#32) (IntOp.subi w 1#32)).toInt = ((w.toNat - 1 : ℕ) : ℤ) := by
  have e : (IntOp.subi w 1#32).toNat = w.toNat - 1 := by
    show (w - 1#32).toNat = _
    rw [BitVec.toNat_sub_of_le (by rw [BitVec.le_def]; exact h1)]; rfl
  generalize IntOp.subi w 1#32 = u at e
  have hu : u.toInt = (u.toNat : ℤ) := BitVec.toInt_eq_toNat_of_lt (by omega)
  have hs : IntOp.cmpi .slt u 0#32 = 0#1 := by
    show BitVec.ofBool (u.slt 0#32) = 0#1
    rw [BitVec.slt_eq_decide, hu, decide_eq_false (by rw [show (0#32).toInt = 0 from rfl]; omega)]; rfl
  rw [hs, show ∀ a b : BitVec 32, Scalar.select 0#1 a b = b from fun _ _ => rfl, hu, e]

/-- The number of tiles in use. -/
abbrev used (info : IVec S256 32) : ℕ := (info (lane 255)).toNat

theorem clamp_eq (h : S1.rank = S256.rank) (start : Fin S256.rank → ℤ) (n : ℕ) (e : start 0 = (n : ℤ)) (hn : n + 1 ≤ 256) : Host.clampedStart S256 S1 h start 0 = n :=
  Host.clampedStart_of_le h start 0 n e hn

/-- The table at a lane. -/
theorem table_at (info : IVec S256 32) (hk : Known info) (k : ℕ) (h : k < 256) :
    table info (lane k h) = if k < used info ∨ k = 255 then info (lane k h)
      else info (lane (used info - 1) (by have : used info ≤ 136 := hk.1.2; omega)) := by
  unfold table
  pointwise
  have e := word_start (info (lane 255)) hk.1.1 hk.1.2
  have eI : (Idealize.ShloMosaic.ix1 255 : S256.Idx) = lane 255 := rfl
  refine (if_congr (word_used k h (info (lane 255)) hk.1.2) rfl rfl).trans ?_
  by_cases hc : k < used info ∨ k = 255
  · rw [if_pos hc, if_pos hc]
  · rw [if_neg hc, if_neg hc]
    refine congrArg info ?_
    refine congrArg (fun x : Fin 256 => (ValueIdx.ix1 x : S256.Idx)) (Fin.ext ?_)
    simp only [eI]
    generalize Scalar.select _ _ _ = u at e ⊢
    exact clamp_eq _ _ _ e (by have : used info ≤ 136 := hk.1.2; omega)

theorem table_last (info : IVec S256 32) (hk : Known info) : table info (lane 255) = info (lane 255) := by
  rw [table_at info hk]; exact if_pos (.inr rfl)

theorem table_lt (info : IVec S256 32) (hk : Known info) (k : ℕ) (h : k < 136) : (table info (lane k (by omega))).toNat < 8 := by
  rw [table_at info hk]
  by_cases hc : k < used info ∨ k = 255
  · rw [if_pos hc]; exact hk.2 ⟨k, by omega⟩
  · rw [if_neg hc]; exact hk.2 ⟨used info - 1, by have : used info ≤ 136 := hk.1.2; omega⟩

/-! ## The blocks' places -/

/-- The launch's table argument. -/
abbrev infoOf : IVec S256 32 := m ((0 : Dev nD).tc.loc main_arg0)

/-- The half of the hidden units a point takes: its own in a tile in use, the second elsewhere. -/
abbrev halfOf (i : grid0.Coords) (n : ℕ) : ℕ := if (i 0).val < n then (i 1).val else 1

theorem tile_lt (i : grid0.Coords) : (i 0).val < 136 := (i 0).isLt

theorem at_last : (tbl m).at 0 (Rect.unit (s := S256) ![255] S1.size inb_S256_S1_255) numel1_S1 = table (infoOf m) (lane 255) := by
  rw [← tbl_eq m]
  show tbl m 0 _ = tbl m 0 _
  congr 1
  funext a
  obtain rfl : a = (0 : Fin 1) := Subsingleton.elim (α := Fin 1) _ _
  rfl

theorem at_tile (i : grid0.Coords) (off) (h : off 0 = (i 0).val) (hb) : (tbl m).at 0 (Rect.unit (s := S256) off S1.size hb) numel1_S1
    = table (infoOf m) (lane (i 0).val (by have := tile_lt i; omega)) := by
  rw [← tbl_eq m]
  show tbl m 0 _ = tbl m 0 _
  congr 1
  funext a
  obtain rfl : a = (0 : Fin 1) := Subsingleton.elim (α := Fin 1) _ _
  exact Fin.ext (show off 0 + 1 * 0 = (i 0).val by omega)

theorem word_min (n : ℕ) (hn : n < 136) (w : BitVec 32) (h1 : 1 ≤ w.toNat) (h : w.toNat ≤ 136) :
    (Scalar.minsi (BitVec.ofNat 32 n) (Scalar.subi w 1#32)).toNat = min n (w.toNat - 1) := by
  have e : (Scalar.subi w 1#32).toNat = w.toNat - 1 := by
    show (w - 1#32).toNat = _
    rw [BitVec.toNat_sub_of_le (by rw [BitVec.le_def]; exact h1)]; rfl
  generalize Scalar.subi w 1#32 = u at e
  show (if (BitVec.ofNat 32 n).slt u then BitVec.ofNat 32 n else u).toNat = _
  have hx : (BitVec.ofNat 32 n).toNat = n := by rw [BitVec.toNat_ofNat]; omega
  have hs : (BitVec.ofNat 32 n).slt u = decide (n < w.toNat - 1) := by
    rw [BitVec.slt_eq_decide, BitVec.toInt_eq_toNat_of_lt (by omega), BitVec.toInt_eq_toNat_of_lt (by omega), hx, e]
    simp
  rw [hs]
  by_cases hd : n < w.toNat - 1
  · rw [decide_eq_true hd, if_pos rfl]; omega
  · rw [decide_eq_false hd, if_neg (by decide)]; omega

theorem word_inUse (n : ℕ) (hn : n < 136) (w : BitVec 32) (h : w.toNat ≤ 136) : Scalar.cmpi .slt (BitVec.ofNat 32 n) w = 1#1 ↔ n < w.toNat := by
  show IntOp.cmpi .slt (BitVec.ofNat 32 n) w = 1#1 ↔ _
  word_omega

theorem word_half (i : grid0.Coords) (w : BitVec 32) (h : w.toNat ≤ 136) :
    (Scalar.select (Scalar.cmpi .slt (BitVec.ofNat 32 (i 0).val) w) (BitVec.ofNat 32 (i 1).val) 1#32).toNat = halfOf i w.toNat := by
  have h1 : (i 1).val < 2 := (i 1).isLt
  rw [show Scalar.select (Scalar.cmpi .slt (BitVec.ofNat 32 (i 0).val) w) (BitVec.ofNat 32 (i 1).val) 1#32 = if (i 0).val < w.toNat then BitVec.ofNat 32 (i 1).val else 1#32 from
    if_congr (word_inUse _ (tile_lt i) w h) rfl rfl]
  unfold halfOf
  by_cases hc : (i 0).val < w.toNat
  · rw [if_pos hc, if_pos hc, BitVec.toNat_ofNat]; omega
  · rw [if_neg hc, if_neg hc]; rfl

theorem place0 (hk : Known (infoOf m)) (i : grid0.Coords) : cc0_transform_0 inb_S256_S1_255 numel1_S1 (tbl m) i = ![min (i 0).val (used (infoOf m) - 1), 0] := by
  unfold cc0_transform_0; dsimp only
  rw [at_last, table_last _ hk, word_min _ (tile_lt i) _ hk.1.1 hk.1.2]
  rfl

theorem place1 (hk : Known (infoOf m)) (i : grid0.Coords) : cc0_transform_1 k0_off1_inb numel1_S1 inb_S256_S1_255 (tbl m) i
    = ![(table (infoOf m) (lane (i 0).val (by have := tile_lt i; omega))).toNat, 0, halfOf i (used (infoOf m))] := by
  unfold cc0_transform_1; dsimp only
  rw [at_last, table_last _ hk, word_half _ _ hk.1.2]
  exact congrArg (fun w : BitVec 32 => (![w.toNat, 0, halfOf i (used (infoOf m))] : Fin 3 → ℕ)) (at_tile m i _ (by show (BitVec.ofNat 32 (i 0).val).toNat = _; rw [BitVec.toNat_ofNat]; have := tile_lt i; omega) _)

theorem place2 (hk : Known (infoOf m)) (i : grid0.Coords) : cc0_transform_2 k0_off1_inb numel1_S1 inb_S256_S1_255 (tbl m) i
    = ![(table (infoOf m) (lane (i 0).val (by have := tile_lt i; omega))).toNat, 0, halfOf i (used (infoOf m))] := place1 m hk i

theorem place3 (hk : Known (infoOf m)) (i : grid0.Coords) : cc0_transform_3 k0_off1_inb numel1_S1 inb_S256_S1_255 (tbl m) i
    = ![(table (infoOf m) (lane (i 0).val (by have := tile_lt i; omega))).toNat, halfOf i (used (infoOf m)), 0] := by
  unfold cc0_transform_3; dsimp only
  rw [at_last, table_last _ hk, word_half _ _ hk.1.2]
  exact congrArg (fun w : BitVec 32 => (![w.toNat, halfOf i (used (infoOf m)), 0] : Fin 3 → ℕ)) (at_tile m i _ (by show (BitVec.ofNat 32 (i 0).val).toNat = _; rw [BitVec.toNat_ofNat]; have := tile_lt i; omega) _)

/-- Under the precondition every block lies inside its array. -/
theorem ok (hk : Known (infoOf m)) : Ok m := by
  have hn := hk.1
  have hh : ∀ i : grid0.Coords, halfOf i (used (infoOf m)) < 2 := by
    intro i
    have h1 : (i 1).val < 2 := (i 1).isLt
    unfold halfOf
    by_cases hc : (i 0).val < used (infoOf m)
    · rw [if_pos hc]; exact h1
    · rw [if_neg hc]; exact Nat.one_lt_two
  refine ⟨fun i => ⟨fun a => ?_, .inl rfl⟩, fun i => ⟨fun a => ?_, .inr (.inl (.inr ⟨by decide, rfl, .inl ⟨?_, ⟨512, rfl⟩⟩⟩))⟩,
    fun i => ⟨fun a => ?_, .inr (.inl (.inr ⟨by decide, rfl, .inl ⟨?_, ⟨512, rfl⟩⟩⟩))⟩, fun i => ⟨fun a => ?_, .inr (.inl (.inr ⟨by decide, rfl, .inl ⟨?_, ⟨896, rfl⟩⟩⟩))⟩⟩
  · have h0 := tile_lt i
    rw [place0 m hk]
    match a with
    | ⟨0, _⟩ => show (min (i 0).val (used (infoOf m) - 1) + 1) * 4096 ≤ 557056; omega
    | ⟨1, _⟩ => exact Nat.le_of_eq (Nat.one_mul 128)
  · have h0 := table_lt (infoOf m) hk (i 0).val (tile_lt i)
    have h1 := hh i
    rw [place1 m hk]
    match a with
    | ⟨0, _⟩ => show ((table (infoOf m) (lane (i 0).val _)).toNat + 1) * 1 ≤ 8; omega
    | ⟨1, _⟩ => exact Nat.le_of_eq (Nat.one_mul 1024)
    | ⟨2, _⟩ => show (halfOf i (used (infoOf m)) + 1) * 1792 ≤ 3584; omega
  · show 2 ∣ cc0_transform_1 k0_off1_inb numel1_S1 inb_S256_S1_255 (tbl m) i 1 * 1024
    omega
  · have h0 := table_lt (infoOf m) hk (i 0).val (tile_lt i)
    have h1 := hh i
    rw [place2 m hk]
    match a with
    | ⟨0, _⟩ => show ((table (infoOf m) (lane (i 0).val _)).toNat + 1) * 1 ≤ 8; omega
    | ⟨1, _⟩ => exact Nat.le_of_eq (Nat.one_mul 1024)
    | ⟨2, _⟩ => show (halfOf i (used (infoOf m)) + 1) * 1792 ≤ 3584; omega
  · show 2 ∣ cc0_transform_2 k0_off1_inb numel1_S1 inb_S256_S1_255 (tbl m) i 1 * 1024
    omega
  · have h0 := table_lt (infoOf m) hk (i 0).val (tile_lt i)
    have h1 := hh i
    rw [place3 m hk]
    match a with
    | ⟨0, _⟩ => show ((table (infoOf m) (lane (i 0).val _)).toNat + 1) * 1 ≤ 8; omega
    | ⟨1, _⟩ => show (halfOf i (used (infoOf m)) + 1) * 1792 ≤ 3584; omega
    | ⟨2, _⟩ => exact Nat.le_of_eq (Nat.one_mul 1024)
  · show 2 ∣ cc0_transform_3 k0_off1_inb numel1_S1 inb_S256_S1_255 (tbl m) i 1 * 1792
    omega

end Cert.Kernel2Ideal.Expert

end
-- ==== Proof.Expert.Half.lean ====
/- One half of the hidden units of one expert, over the extended reals: what the body computes for a token. -/
module

public import Idealize.ShloMosaic.Lib.MatmulPlain
public import Idealize.ShloMosaic.Lib.StackMember
public import Idealize.ShloMosaic.Lib.Pipeline.Value
public import proofs.«01_k».proof.Proof.Expert.Rows

@[expose] public section

set_option maxRecDepth 16384

noncomputable section

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The formula -/

/-- The gated unit `silu g · u`. -/
def act (g u : EReal) : EReal := g * Ideal.div 1 (1 + Ideal.exp (-g)) * u

/-- What `n` hidden units add to one output lane: `x` is the token, `wg`, `wu` their columns, `wd` their weights in that lane. -/
def units {n : ℕ} (x : Fin 1024 → EReal) (wg wu : Fin 1024 → Fin n → EReal) (wd : Fin n → EReal) : EReal :=
  ∑ f : Fin n, act (∑ k : Fin 1024, x k * wg k f) (∑ k : Fin 1024, x k * wu k f) * wd f

/-- The units of an expert are those of its two halves. -/
theorem units_halves (x : Fin 1024 → EReal) (wg wu : Fin 1024 → Fin 3584 → EReal) (wd : Fin 3584 → EReal) :
    units x wg wu wd
      = units x (fun k (f : Fin 1792) => wg k ⟨f.val, by omega⟩) (fun k (f : Fin 1792) => wu k ⟨f.val, by omega⟩) (fun f : Fin 1792 => wd ⟨f.val, by omega⟩)
        + units x (fun k (f : Fin 1792) => wg k ⟨1792 + f.val, by omega⟩) (fun k (f : Fin 1792) => wu k ⟨1792 + f.val, by omega⟩)
          (fun f : Fin 1792 => wd ⟨1792 + f.val, by omega⟩) :=
  Fin.sum_univ_add (a := 1792) (b := 1792) (fun f : Fin (1792 + 1792) =>
    act (∑ k : Fin 1024, x k * wg k f) (∑ k : Fin 1024, x k * wu k f) * wd f)

/-! ## The operations at an index -/

/-- A plain matrix product into zeros, at an index. -/
theorem mm_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant (F := Ideal) ⟨2, ![M, N]⟩ .f32 0x00000000#32) (ValueIdx.ix2 r c)
      = ∑ k : Fin K, lhs (ValueIdx.ix2 r k) * rhs (ValueIdx.ix2 k c) := by
  subst hd
  refine (Ideal.matmul_plain_apply none lhs rhs _ r c).trans ?_
  show Ideal.ofBits .f32 0x00000000#32 + _ = _
  rw [Ideal.ofBits_zero_f32, zero_add]

/-- The word of one. -/
theorem ofBits_one : Ideal.ofBits .f32 0x3F800000#32 = 1 := by simp [Ideal.ofBits, Ideal.ieee, -EReal.coe_mul]; norm_num

/-- The body's gated product, at an index. -/
theorem act_apply {S : Shape} (g u : FVec Ideal S .f32) (i : S.Idx) :
    mulf (mulf g (divf (broadcast S (Scalar.ofBits (F := Ideal) .f32 0x3F800000#32)) (addf (broadcast S (Scalar.ofBits (F := Ideal) .f32 0x3F800000#32))
      (exp (subf (broadcast S (Scalar.ofBits (F := Ideal) .f32 0x00000000#32)) g))))) u i = act (g i) (u i) := by
  show g i * Ideal.div (Ideal.ofBits .f32 0x3F800000#32) (Ideal.ofBits .f32 0x3F800000#32 + Ideal.exp (Ideal.ofBits .f32 0x00000000#32 - g i)) * u i = _
  rw [ofBits_one, Ideal.ofBits_zero_f32, sub_eq_add_neg, zero_add]
  rfl

/-- A block with a leading unit axis dropped, at an index. -/
theorem drop_apply {A B : ℕ} {α : Type} (v : (⟨3, ![1, A, B]⟩ : Shape).Idx → α) (h : (⟨3, ![1, A, B]⟩ : Shape).ShapeCasts ⟨2, ![A, B]⟩) (a : Fin A) (b : Fin B) :
    shapeCast ⟨2, ![A, B]⟩ v h (ValueIdx.ix2 a b) = v (ValueIdx.ix3 (0 : Fin 1) a b) :=
  (shapeCast_dropUnit_apply ![A, B] v h (ValueIdx.ix2 a b)).trans (congrArg v (funext fun x => by
    match x with
    | ⟨0, _⟩ => rfl
    | ⟨1, _⟩ => rfl
    | ⟨2, _⟩ => rfl))

/-! ## A tile's tokens -/

/-- The 512 tokens of a block of 4096 rows. -/
def toks (x : Vec Ideal S4096x128 .f32) : FVec Ideal S512x1024 .f32 := fun y =>
  x (ValueIdx.ix2 (⟨8 * (y 0).val + (y 1).val / 128, by have h0 : (y 0).val < 512 := (y 0).isLt; have h1 : (y 1).val < 1024 := (y 1).isLt; omega⟩ : Fin 4096)
    (⟨(y 1).val % 128, Nat.mod_lt _ (by decide)⟩ : Fin 128))

/-- The eight strided loads side by side are the tokens. -/
theorem concat_toks (x : Vec Ideal S4096x128 .f32) (hf : ∀ n : Fin 8, Fits n.val)
    (h : Shape.Concatenates ((List.ofFn fun n : Fin 8 => (⟨S512x128, along x (grp n.val (hf n))⟩ : (s : Shape) × (s.Idx → EReal))).map (·.1)) S512x1024 1) :
    concatenate S512x1024 1 (List.ofFn fun n : Fin 8 => (⟨S512x128, along x (grp n.val (hf n))⟩ : (s : Shape) × (s.Idx → EReal))) h = toks x := by
  funext j
  have h0 : (j 0).val < 512 := (j 0).isLt
  have h1 : (j 1).val < 1024 := (j 1).isLt
  refine (concatenate_ofFn_apply (s₁ := S512x128) 1 (fun n : Fin 8 => along x (grp n.val (hf n))) h rfl 128 rfl j ⟨(j 1).val / 128, by omega⟩ rfl
    (ValueIdx.ix2 (⟨(j 0).val, h0⟩ : Fin 512) (⟨(j 1).val % 128, Nat.mod_lt _ (by decide)⟩ : Fin 128)) rfl ?_).trans ?_
  · intro b hb
    match b with
    | ⟨0, _⟩ => rfl
    | ⟨1, _⟩ => exact absurd rfl hb
  · unfold toks
    refine congrArg x (funext fun a => Fin.ext ?_)
    match a with
    | ⟨0, _⟩ => show (j 1).val / 128 + 8 * (j 0).val = 8 * (j 0).val + (j 1).val / 128; omega
    | ⟨1, _⟩ => show 0 + 1 * ((j 1).val % 128) = (j 1).val % 128; omega

/-- Every lane group fits. -/
theorem fits_all : ∀ n : Fin 8, Fits n.val := by
  intro n
  match n with
  | ⟨0, _⟩ => exact inb_S4096x128_S512x128_0_0_s_8_1
  | ⟨1, _⟩ => exact inb_S4096x128_S512x128_1_0_s_8_1
  | ⟨2, _⟩ => exact inb_S4096x128_S512x128_2_0_s_8_1
  | ⟨3, _⟩ => exact inb_S4096x128_S512x128_3_0_s_8_1
  | ⟨4, _⟩ => exact inb_S4096x128_S512x128_4_0_s_8_1
  | ⟨5, _⟩ => exact inb_S4096x128_S512x128_5_0_s_8_1
  | ⟨6, _⟩ => exact inb_S4096x128_S512x128_6_0_s_8_1
  | ⟨7, _⟩ => exact inb_S4096x128_S512x128_7_0_s_8_1

/-- The same, at the eight loads one by one. -/
theorem concat_loads (x : Vec Ideal S4096x128 .f32) :
    concatenate S512x1024 1 [⟨S512x128, along x (grp 0 inb_S4096x128_S512x128_0_0_s_8_1)⟩, ⟨S512x128, along x (grp 1 inb_S4096x128_S512x128_1_0_s_8_1)⟩,
      ⟨S512x128, along x (grp 2 inb_S4096x128_S512x128_2_0_s_8_1)⟩, ⟨S512x128, along x (grp 3 inb_S4096x128_S512x128_3_0_s_8_1)⟩,
      ⟨S512x128, along x (grp 4 inb_S4096x128_S512x128_4_0_s_8_1)⟩, ⟨S512x128, along x (grp 5 inb_S4096x128_S512x128_5_0_s_8_1)⟩,
      ⟨S512x128, along x (grp 6 inb_S4096x128_S512x128_6_0_s_8_1)⟩, ⟨S512x128, along x (grp 7 inb_S4096x128_S512x128_7_0_s_8_1)⟩]
      concatenates_S512x128_S512x128_S512x128_S512x128_S512x128_S512x128_S512x128_S512x128_S512x1024_d1 = toks x :=
  concat_toks x fits_all concatenates_S512x128_S512x128_S512x128_S512x128_S512x128_S512x128_S512x128_S512x128_S512x1024_d1

/-! ## What a point adds -/

/-- A gate or up product of a point, at a token and a hidden unit. -/
theorem proj_apply (x0 : Vec Ideal S4096x128 .f32) (w : Vec Ideal S1x1024x1792 .bf16) (r : Fin 512) (f : Fin 1792) :
    matmul dot_S512x1024_S1024x1792_S512x1792_1_0_0_1_n_n none (truncf .bf16 (toks x0) bitsLt_bf16_f32) (shapeCast S1024x1792 w shapeCasts_S1x1024x1792_S1024x1792 : FVec Ideal S1024x1792 .bf16)
      (constant S512x1792 .f32 0x00000000#32) (ValueIdx.ix2 r f) = ∑ k : Fin 1024, toks x0 (ValueIdx.ix2 r k) * w (ValueIdx.ix3 (0 : Fin 1) k f) := by
  refine (mm_apply _ rfl _ _ r f).trans (Finset.sum_congr rfl fun k _ => ?_)
  exact congrArg (toks x0 (ValueIdx.ix2 r k) * ·) (drop_apply w _ k f)

/-- The units of one point, at a token and an output lane. -/
def half (x0 : Vec Ideal S4096x128 .f32) (x1 x2 : Vec Ideal S1x1024x1792 .bf16) (x3 : Vec Ideal S1x1792x1024 .bf16) (r : Fin 512) (d : Fin 1024) : EReal :=
  units (fun k => toks x0 (ValueIdx.ix2 r k)) (fun k f => x1 (ValueIdx.ix3 (0 : Fin 1) k f)) (fun k f => x2 (ValueIdx.ix3 (0 : Fin 1) k f)) (fun f => x3 (ValueIdx.ix3 (0 : Fin 1) f d))

/-- The gated units. -/
theorem gated_apply (x0 : Vec Ideal S4096x128 .f32) (x1 x2 : Vec Ideal S1x1024x1792 .bf16) (r : Fin 512) (f : Fin 1792) :
    gated x0 x1 x2 (ValueIdx.ix2 r f) = act (∑ k : Fin 1024, toks x0 (ValueIdx.ix2 r k) * x1 (ValueIdx.ix3 (0 : Fin 1) k f)) (∑ k : Fin 1024, toks x0 (ValueIdx.ix2 r k) * x2 (ValueIdx.ix3 (0 : Fin 1) k f)) := by
  unfold gated k0_pay21
  rw [concat_loads]
  refine (act_apply _ _ (ValueIdx.ix2 r f)).trans ?_
  rw [proj_apply, proj_apply]

/-- The first point's product. -/
theorem first_apply (x0 : Vec Ideal S4096x128 .f32) (x1 x2 : Vec Ideal S1x1024x1792 .bf16) (x3 : Vec Ideal S1x1792x1024 .bf16) (r : Fin 512) (d : Fin 1024) :
    first x0 x1 x2 x3 (ValueIdx.ix2 r d) = half x0 x1 x2 x3 r d := by
  have e : first x0 x1 x2 x3 = matmul dot_S512x1792_S1792x1024_S512x1024_1_0_0_1_n_n none (gated x0 x1 x2) (shapeCast S1792x1024 x3 shapeCasts_S1x1792x1024_S1792x1024 : FVec Ideal S1792x1024 .bf16)
      (constant S512x1024 .f32 0x00000000#32) := by unfold first gated k0_pay20 k0_pay21; rfl
  rw [e]
  unfold half units
  refine (mm_apply _ rfl _ _ r d).trans (Finset.sum_congr rfl fun f _ => ?_)
  rw [gated_apply]
  exact congrArg (_ * ·) (drop_apply x3 _ f d)

/-- The second point's sum. -/
theorem total_apply (xs : Vec Ideal S512x1024 .f32) (x0 : Vec Ideal S4096x128 .f32) (x1 x2 : Vec Ideal S1x1024x1792 .bf16) (x3 : Vec Ideal S1x1792x1024 .bf16) (r : Fin 512) (d : Fin 1024) :
    total xs x0 x1 x2 x3 (ValueIdx.ix2 r d) = xs (ValueIdx.ix2 r d) + half x0 x1 x2 x3 r d := by
  unfold total k0_pay2 half units
  refine congrArg (xs (ValueIdx.ix2 r d) + ·) ?_
  refine (mm_apply _ rfl _ _ r d).trans (Finset.sum_congr rfl fun f _ => ?_)
  rw [gated_apply]
  exact congrArg (_ * ·) (drop_apply x3 _ f d)

/-- The token and the lane of a block's row and lane. -/
abbrev tokOf (y : S4096x128.Idx) : Fin 512 := ⟨(y 0).val / 8, by have : (y 0).val < 4096 := (y 0).isLt; omega⟩
abbrev laneOf (y : S4096x128.Idx) : Fin 1024 := ⟨(y 0).val % 8 * 128 + (y 1).val, by have : (y 1).val < 128 := (y 1).isLt; omega⟩

/-- A tile in use holds both halves. -/
theorem both_apply (a0 b0 : Vec Ideal S4096x128 .f32) (a1 a2 b1 b2 : Vec Ideal S1x1024x1792 .bf16) (a3 b3 : Vec Ideal S1x1792x1024 .bf16) (y : S4096x128.Idx) :
    rowsOf (total (first a0 a1 a2 a3) b0 b1 b2 b3) y = half a0 a1 a2 a3 (tokOf y) (laneOf y) + half b0 b1 b2 b3 (tokOf y) (laneOf y) := by
  unfold rowsOf
  rw [total_apply, first_apply]

/-- A tile out of use holds zeros. -/
theorem zeros_apply (y : S4096x128.Idx) : rowsOf (k0_pay11 (F := Ideal)) y = (0 : EReal) := Ideal.ofBits_zero_f32

end Cert.Kernel2Ideal.Expert

end
-- ==== Proof.Expert.Value.lean ====
/- The array the expert kernel leaves, over the extended reals. -/
module

public import Idealize.ShloMosaic.Lib.Pipeline.ValueKit
public import proofs.«01_k».proof.Proof.Expert.Launch
public import proofs.«01_k».proof.Proof.Expert.Table
public import proofs.«01_k».proof.Proof.Expert.Half

@[expose] public section

set_option maxRecDepth 16384

noncomputable section

namespace Cert.Kernel2Ideal.Expert

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value -/

/-- The expert of tile `i`. -/
def expertOf (info : IVec S256 32) (i : ℕ) (h : i < 136) : Fin 8 := ⟨(info (lane i (by omega))).toNat % 8, Nat.mod_lt _ (by decide)⟩

/-- Token `r` of the dispatched rows. -/
def token (xs : FVec Ideal S557056x128 .f32) (r : Fin 69632) : Fin 1024 → EReal := fun k =>
  xs (ValueIdx.ix2 (⟨8 * r.val + k.val / 128, by omega⟩ : Fin 557056) (⟨k.val % 128, Nat.mod_lt _ (by decide)⟩ : Fin 128))

/-- Token `r` put through expert `e`, in output lane `d`. -/
def ffn (xs : FVec Ideal S557056x128 .f32) (wg wu : FVec Ideal S8x1024x3584 .f32) (wd : FVec Ideal S8x3584x1024 .f32) (e : Fin 8) (r : Fin 69632) (d : Fin 1024) : EReal :=
  units (token xs r) (fun k (f : Fin 3584) => wg (ValueIdx.ix3 e k f)) (fun k (f : Fin 3584) => wu (ValueIdx.ix3 e k f)) (fun f : Fin 3584 => wd (ValueIdx.ix3 e f d))

/-- What token `r` ends as in lane `d`: its tile's expert where the tile is in use, zero elsewhere. -/
def mixed (info : IVec S256 32) (xs : FVec Ideal S557056x128 .f32) (wg wu : FVec Ideal S8x1024x3584 .f32) (wd : FVec Ideal S8x3584x1024 .f32) (r : Fin 69632) (d : Fin 1024) : EReal :=
  if r.val / 512 < used info then ffn xs wg wu wd (expertOf info (r.val / 512) (by omega)) r d else 0

/-- The result array: token `r`'s lanes over rows `8r … 8r + 7`. -/
def result (info : IVec S256 32) (xs : FVec Ideal S557056x128 .f32) (wg wu : FVec Ideal S8x1024x3584 .f32) (wd : FVec Ideal S8x3584x1024 .f32) : FVec Ideal S557056x128 .f32 := fun y =>
  mixed info xs wg wu wd (⟨(y 0).val / 8, by have h : (y 0).val < 557056 := (y 0).isLt; omega⟩ : Fin 69632)
    (⟨(y 0).val % 8 * 128 + (y 1).val, by have h : (y 1).val < 128 := (y 1).isLt; omega⟩ : Fin 1024)

/-! ## The blocks -/

variable (m : (ℓ : Loc nD τ sig) → Buf (Elt Ideal) ℓ) (ρ : Dev nD → PrngReg)

theorem V_main_v0 (c : Dev nD) : V m c main_v0 = m ((c : Thread nD τ).loc main_arg2) := by
  unfold V hostOps0
  after_results_simp
  rfl

theorem V_main_v1 (c : Dev nD) : V m c main_v1 = m ((c : Thread nD τ).loc main_arg3) := by
  unfold V hostOps0
  after_results_simp
  rfl

theorem V_main_v2 (c : Dev nD) : V m c main_v2 = m ((c : Thread nD τ).loc main_arg4) := by
  unfold V hostOps0
  after_results_simp
  rfl

/-- A block read at an index is the array at the block's index times its extents plus that index. -/
theorem read0 (hO : Ok m) (c : Dev nD) (t : Fin (cfgM m hO).N) (y : S4096x128.Idx) (i : S557056x128.Idx)
    (h : ∀ a, (i a).val = cc0_transform_0 inb_S256_S1_255 numel1_S1 (tbl m) (grid0.coords t) a * S4096x128.size a + (y a).val) :
    iblk m hO c 0 t y = m ((c : Thread nD τ).loc main_arg1) i := by
  refine Eq.trans ?_ (congrFun (V_main_arg1 m c) i)
  show V m c main_arg1 ((((cfgM m hO).win 0).blk t).view.emb y) = _
  refine congrArg (V m c main_arg1) (funext fun a => Fin.ext ?_)
  rw [h a]
  show _ + 1 * (y a).val = _
  rw [Nat.one_mul]
  rfl

theorem read1 (hO : Ok m) (c : Dev nD) (t : Fin (cfgM m hO).N) (y : S1x1024x1792.Idx) (i : S8x1024x3584.Idx)
    (h : ∀ a, (i a).val = cc0_transform_1 k0_off1_inb numel1_S1 inb_S256_S1_255 (tbl m) (grid0.coords t) a * S1x1024x1792.size a + (y a).val) :
    iblk m hO c 1 t y = m ((c : Thread nD τ).loc main_arg2) i := by
  refine Eq.trans ?_ (congrFun (V_main_v0 m c) i)
  show V m c main_v0 ((((cfgM m hO).win 1).blk t).view.emb y) = _
  refine congrArg (V m c main_v0) (funext fun a => Fin.ext ?_)
  rw [h a]
  show _ + 1 * (y a).val = _
  rw [Nat.one_mul]
  rfl

theorem read2 (hO : Ok m) (c : Dev nD) (t : Fin (cfgM m hO).N) (y : S1x1024x1792.Idx) (i : S8x1024x3584.Idx)
    (h : ∀ a, (i a).val = cc0_transform_2 k0_off1_inb numel1_S1 inb_S256_S1_255 (tbl m) (grid0.coords t) a * S1x1024x1792.size a + (y a).val) :
    iblk m hO c 2 t y = m ((c : Thread nD τ).loc main_arg3) i := by
  refine Eq.trans ?_ (congrFun (V_main_v1 m c) i)
  show V m c main_v1 ((((cfgM m hO).win 2).blk t).view.emb y) = _
  refine congrArg (V m c main_v1) (funext fun a => Fin.ext ?_)
  rw [h a]
  show _ + 1 * (y a).val = _
  rw [Nat.one_mul]
  rfl

theorem read3 (hO : Ok m) (c : Dev nD) (t : Fin (cfgM m hO).N) (y : S1x1792x1024.Idx) (i : S8x3584x1024.Idx)
    (h : ∀ a, (i a).val = cc0_transform_3 k0_off1_inb numel1_S1 inb_S256_S1_255 (tbl m) (grid0.coords t) a * S1x1792x1024.size a + (y a).val) :
    iblk m hO c 3 t y = m ((c : Thread nD τ).loc main_arg4) i := by
  refine Eq.trans ?_ (congrFun (V_main_v2 m c) i)
  show V m c main_v2 ((((cfgM m hO).win 3).blk t).view.emb y) = _
  refine congrArg (V m c main_v2) (funext fun a => Fin.ext ?_)
  rw [h a]
  show _ + 1 * (y a).val = _
  rw [Nat.one_mul]
  rfl

/-- One point of a tile in use: the units `q` of the tile's expert. -/
theorem half_eq (hO : Ok m) (hk : Known (infoOf m)) (c : Dev nD) (t : Fin (cfgM m hO).N) (hu : t.val / 2 < used (infoOf m)) (ht : t.val / 2 < 136)
    (q : Fin 1792 → Fin 3584) (hq : ∀ f, (q f).val = t.val % 2 * 1792 + f.val) (r : Fin 512) (R : Fin 69632) (hR : R.val = t.val / 2 * 512 + r.val) (d : Fin 1024) :
    half (iblk m hO c 0 t) (iblk m hO c 1 t) (iblk m hO c 2 t) (iblk m hO c 3 t) r d
      = units (token (m ((c : Thread nD τ).loc main_arg1)) R)
          (fun k f => (m ((c : Thread nD τ).loc main_arg2) : FVec Ideal S8x1024x3584 .f32) (ValueIdx.ix3 (expertOf (infoOf m) (t.val / 2) ht) k (q f)))
          (fun k f => (m ((c : Thread nD τ).loc main_arg3) : FVec Ideal S8x1024x3584 .f32) (ValueIdx.ix3 (expertOf (infoOf m) (t.val / 2) ht) k (q f)))
          (fun f => (m ((c : Thread nD τ).loc main_arg4) : FVec Ideal S8x3584x1024 .f32) (ValueIdx.ix3 (expertOf (infoOf m) (t.val / 2) ht) (q f) d)) := by
  have i0 : (grid0.coords t 0).val = t.val / 2 := tile_val t
  have i1 : (grid0.coords t 1).val = t.val % 2 := half_val t
  have eh : halfOf (grid0.coords t) (used (infoOf m)) = t.val % 2 := (if_pos (by rw [i0]; exact hu)).trans i1
  have el : (table (infoOf m) (lane (grid0.coords t 0).val (by have := tile_lt (grid0.coords t); omega))).toNat = (expertOf (infoOf m) (t.val / 2) ht).val := by
    rw [table_at _ hk, if_pos (.inl (by rw [i0]; exact hu))]
    have e8 := hk.2 ⟨t.val / 2, by omega⟩
    have e : lane (grid0.coords t 0).val (by have := tile_lt (grid0.coords t); omega) = lane (t.val / 2) (by omega) := by
      unfold lane; exact congrArg ValueIdx.ix1 (Fin.ext i0)
    rw [e]
    exact (Nat.mod_eq_of_lt e8).symm
  have hx : (fun k : Fin 1024 => toks (iblk m hO c 0 t) (ValueIdx.ix2 r k)) = token (m ((c : Thread nD τ).loc main_arg1)) R := by
    funext k
    refine read0 m hO c t _ _ fun a => ?_
    rw [place0 m hk]
    match a with
    | ⟨0, _⟩ =>
      show 8 * R.val + k.val / 128 = min (grid0.coords t 0).val (used (infoOf m) - 1) * 4096 + (8 * r.val + k.val / 128)
      rw [i0, Nat.min_eq_left (by omega)]; omega
    | ⟨1, _⟩ => show k.val % 128 = 0 * 128 + k.val % 128; omega
  have hg : (fun (k : Fin 1024) (f : Fin 1792) => (iblk m hO c 1 t : FVec Ideal S1x1024x1792 .bf16) (ValueIdx.ix3 (0 : Fin 1) k f))
      = fun k f => (m ((c : Thread nD τ).loc main_arg2) : FVec Ideal S8x1024x3584 .f32) (ValueIdx.ix3 (expertOf (infoOf m) (t.val / 2) ht) k (q f)) := by
    funext k f
    refine read1 m hO c t _ _ fun a => ?_
    rw [place1 m hk, el, eh]
    match a with
    | ⟨0, _⟩ => show (expertOf (infoOf m) (t.val / 2) ht).val = (expertOf (infoOf m) (t.val / 2) ht).val * 1 + 0; omega
    | ⟨1, _⟩ => show k.val = 0 * 1024 + k.val; omega
    | ⟨2, _⟩ => exact hq f
  have hw : (fun (k : Fin 1024) (f : Fin 1792) => (iblk m hO c 2 t : FVec Ideal S1x1024x1792 .bf16) (ValueIdx.ix3 (0 : Fin 1) k f))
      = fun k f => (m ((c : Thread nD τ).loc main_arg3) : FVec Ideal S8x1024x3584 .f32) (ValueIdx.ix3 (expertOf (infoOf m) (t.val / 2) ht) k (q f)) := by
    funext k f
    refine read2 m hO c t _ _ fun a => ?_
    rw [place2 m hk, el, eh]
    match a with
    | ⟨0, _⟩ => show (expertOf (infoOf m) (t.val / 2) ht).val = (expertOf (infoOf m) (t.val / 2) ht).val * 1 + 0; omega
    | ⟨1, _⟩ => show k.val = 0 * 1024 + k.val; omega
    | ⟨2, _⟩ => exact hq f
  have hd : (fun f : Fin 1792 => (iblk m hO c 3 t : FVec Ideal S1x1792x1024 .bf16) (ValueIdx.ix3 (0 : Fin 1) f d))
      = fun f => (m ((c : Thread nD τ).loc main_arg4) : FVec Ideal S8x3584x1024 .f32) (ValueIdx.ix3 (expertOf (infoOf m) (t.val / 2) ht) (q f) d) := by
    funext f
    refine read3 m hO c t _ _ fun a => ?_
    rw [place3 m hk, el, eh]
    match a with
    | ⟨0, _⟩ => show (expertOf (infoOf m) (t.val / 2) ht).val = (expertOf (infoOf m) (t.val / 2) ht).val * 1 + 0; omega
    | ⟨1, _⟩ => exact hq f
    | ⟨2, _⟩ => show d.val = 0 * 1024 + d.val; omega
  unfold half
  rw [hx, hg, hw, hd]

/-- Whether a point's tile is in use. -/
theorem inUse_iff (hO : Ok m) (hk : Known (infoOf m)) (t : Fin (cfgM m hO).N) : InUse (grid0.coords t) (tiles m) ↔ t.val / 2 < used (infoOf m) := by
  have e : tiles m = infoOf m (lane 255) := by
    rw [← table_last _ hk, ← tbl_eq m]
    unfold tiles word
    exact congrArg (tbl m 0) (funext fun a => Fin.ext (by match a with | ⟨0, _⟩ => rfl))
  have i0 : (grid0.coords t 0).val = t.val / 2 := tile_val t
  rw [e, ← i0]
  exact word_inUse _ (tile_lt _) _ hk.1.2

theorem joined {z a b c d e : EReal} (E : z = a + b) (A : a = c) (B : b = d) (C : e = c + d) : z = e := by rw [E, A, B, C]

/-- What a second point leaves in its block. -/
theorem outAt_apply (hO : Ok m) (hk : Known (infoOf m)) (c : Dev nD) (t : Fin (cfgM m hO).N) (h1 : t.val % 2 = 1) (ht : t.val / 2 < 136) (y : S4096x128.Idx)
    (i : S557056x128.Idx) (hi0 : (i 0).val = t.val / 2 * 4096 + (y 0).val) (hi1 : (i 1).val = (y 1).val) :
    outAt m hO c t y = result (infoOf m) (m ((c : Thread nD τ).loc main_arg1)) (m ((c : Thread nD τ).loc main_arg2)) (m ((c : Thread nD τ).loc main_arg3)) (m ((c : Thread nD τ).loc main_arg4)) i := by
  have hy0 : (y 0).val < 4096 := (y 0).isLt
  have hy1 : (y 1).val < 128 := (y 1).isLt
  have hr : (i 0).val / 8 / 512 = t.val / 2 := by omega
  by_cases hu : t.val / 2 < used (infoOf m)
  · unfold result mixed
    rw [if_pos (by show (i 0).val / 8 / 512 < _; rw [hr]; exact hu)]
    have E : outAt m hO c t y = half (iblk m hO c 0 (prev t)) (iblk m hO c 1 (prev t)) (iblk m hO c 2 (prev t)) (iblk m hO c 3 (prev t)) (tokOf y) (laneOf y)
        + half (iblk m hO c 0 t) (iblk m hO c 1 t) (iblk m hO c 2 t) (iblk m hO c 3 t) (tokOf y) (laneOf y) :=
      (congrFun (if_pos ((inUse_iff m hO hk t).mpr hu)) y).trans (both_apply _ _ _ _ _ _ _ _ y)
    have hp : (prev t).val / 2 = t.val / 2 := by show (t.val - 1) / 2 = _; omega
    have hp2 : (prev t).val % 2 = 0 := by show (t.val - 1) % 2 = _; omega
    have ee : expertOf (infoOf m) ((prev t).val / 2) (by omega) = expertOf (infoOf m) ((i 0).val / 8 / 512) (by omega) := by
      unfold expertOf lane; exact Fin.ext (congrArg (fun n : Fin 256 => (infoOf m (ValueIdx.ix1 n)).toNat % 8) (Fin.ext (hp.trans hr.symm)))
    have ee' : expertOf (infoOf m) (t.val / 2) ht = expertOf (infoOf m) ((i 0).val / 8 / 512) (by omega) := by
      unfold expertOf lane; exact Fin.ext (congrArg (fun n : Fin 256 => (infoOf m (ValueIdx.ix1 n)).toNat % 8) (Fin.ext hr.symm))
    have ed : laneOf y = ⟨(i 0).val % 8 * 128 + (i 1).val, by omega⟩ := Fin.ext (by show _ * 128 + _ = _ * 128 + _; omega)
    have A := half_eq m hO hk c (prev t) (by omega) (by omega) (fun f => ⟨f.val, by omega⟩) (fun f => by show f.val = _; omega) (tokOf y)
      (⟨(i 0).val / 8, by omega⟩ : Fin 69632) (by show (i 0).val / 8 = _ + (y 0).val / 8; omega) (laneOf y)
    have B := half_eq m hO hk c t hu ht (fun f => ⟨1792 + f.val, by omega⟩) (fun f => by show 1792 + f.val = _; omega) (tokOf y)
      (⟨(i 0).val / 8, by omega⟩ : Fin 69632) (by show (i 0).val / 8 = _ + (y 0).val / 8; omega) (laneOf y)
    rw [ed] at E
    rw [ee, ed] at A
    rw [ee', ed] at B
    have C := units_halves (token (m ((c : Thread nD τ).loc main_arg1)) (⟨(i 0).val / 8, by omega⟩ : Fin 69632))
      (fun k f => (m ((c : Thread nD τ).loc main_arg2) : FVec Ideal S8x1024x3584 .f32) (ValueIdx.ix3 (expertOf (infoOf m) ((i 0).val / 8 / 512) (by omega)) k f))
      (fun k f => (m ((c : Thread nD τ).loc main_arg3) : FVec Ideal S8x1024x3584 .f32) (ValueIdx.ix3 (expertOf (infoOf m) ((i 0).val / 8 / 512) (by omega)) k f))
      (fun f => (m ((c : Thread nD τ).loc main_arg4) : FVec Ideal S8x3584x1024 .f32) (ValueIdx.ix3 (expertOf (infoOf m) ((i 0).val / 8 / 512) (by omega)) f (⟨(i 0).val % 8 * 128 + (i 1).val, by omega⟩ : Fin 1024)))
    exact joined E A B C
  · unfold result mixed
    rw [if_neg (by show ¬ (i 0).val / 8 / 512 < _; rw [hr]; exact hu)]
    exact (congrFun (if_neg fun e => hu ((inUse_iff m hO hk t).mp e)) y).trans (zeros_apply y)

/-! ## The array -/

theorem place4 (i : grid0.Coords) : cc0_transform_4 i = ![(i 0).val, 0] := by
  unfold cc0_transform_4
  have e : (BitVec.ofNat 32 (i 0).val).toNat = (i 0).val := by rw [BitVec.toNat_ofNat]; have := tile_lt i; omega
  show ![(BitVec.ofNat 32 (i 0).val).toNat, (0#32).toNat] = _
  rw [e]
  rfl

/-- Where block `t` of the output lies. -/
theorem emb4 (hO : Ok m) (t : Fin (cfgM m hO).N) (y : S4096x128.Idx) (a : Fin 2) :
    ((((cfgM m hO).win 4).blk t).view.emb y a : ℕ) = cc0_transform_4 (grid0.coords t) a * S4096x128.size a + (y a).val := by
  show _ + 1 * (y a).val = _
  rw [Nat.one_mul]
  rfl

/-- What the last points write is the result's blocks. -/
theorem block_eq (hO : Ok m) (hk : Known (infoOf m)) (c : Dev nD) (t : Fin (cfgM m hO).N) (h1 : t.val % 2 = 1) (y : S4096x128.Idx) :
    outAt m hO c t y = result (infoOf m) (m ((c : Thread nD τ).loc main_arg1)) (m ((c : Thread nD τ).loc main_arg2)) (m ((c : Thread nD τ).loc main_arg3)) (m ((c : Thread nD τ).loc main_arg4))
      ((((cfgM m hO).win 4).blk t).view.emb y) := by
  have ht : t.val < 272 := Nat.lt_of_lt_of_eq t.isLt N_0
  have i0 : (grid0.coords t 0).val = t.val / 2 := tile_val t
  have e0 : cc0_transform_4 (grid0.coords t) 0 = t.val / 2 := (congrFun (place4 _) 0).trans i0
  refine outAt_apply m hO hk c t h1 (by omega) y _ ?_ ?_
  · refine (emb4 m hO t y 0).trans ?_
    rw [e0]
    rfl
  · refine (emb4 m hO t y 1).trans ?_
    show 0 * 128 + (y 1).val = _
    omega

/-- Every row lies in the block some second point writes. -/
theorem cover4 (hO : Ok m) (i : S557056x128.Idx) : ∃ t : Fin (cfgM m hO).N, ((cfgM m hO).win 4).flush t = true ∧ i ∈ (((cfgM m hO).win 4).blk t).view.set := by
  have hi : (i 0).val < 557056 := (i 0).isLt
  have hi1 : (i 1).val < 128 := (i 1).isLt
  obtain ⟨t, ht⟩ : ∃ t : Fin (cfgM m hO).N, t.val = 2 * ((i 0).val / 4096) + 1 := ⟨⟨_, Nat.lt_of_lt_of_eq (by omega) N_0.symm⟩, rfl⟩
  have e0 : cc0_transform_4 (grid0.coords t) 0 = (i 0).val / 4096 := (congrFun (place4 _) 0).trans ((tile_val t).trans (by rw [ht]; omega))
  refine ⟨t, (flush0_4 (adm m hO) t).mpr (by omega), ?_⟩
  have e : (((cfgM m hO).win 4).blk t).view.emb (ValueIdx.ix2 (⟨(i 0).val % 4096, Nat.mod_lt _ (by decide)⟩ : Fin 4096) (⟨(i 1).val, hi1⟩ : Fin 128) : S4096x128.Idx) = i := by
    funext a
    refine Fin.ext ((emb4 m hO t _ a).trans ?_)
    match a with
    | ⟨0, _⟩ =>
      show cc0_transform_4 (grid0.coords t) 0 * 4096 + (i 0).val % 4096 = (i 0).val
      rw [e0]; omega
    | ⟨1, _⟩ => show 0 * 128 + (i 1).val = (i 1).val; omega
  rw [← e]
  exact View.emb_mem_set _ _

/-- The array after the last point. -/
theorem out_eq (hO : Ok m) (hk : Known (infoOf m)) (c : Dev nD) :
    (dats m hO 0 c).arrAt 4 (cfgM m hO).N = result (infoOf m) (m ((c : Thread nD τ).loc main_arg1)) (m ((c : Thread nD τ).loc main_arg2)) (m ((c : Thread nD τ).loc main_arg3)) (m ((c : Thread nD τ).loc main_arg4)) := by
  refine (dats m hO 0 c).arrAt_eq_of_emb 4 _ (fun t hf y => ?_) fun i => ?_
  · exact (congrFun (after0_4 m hO c t) y).trans (block_eq m hO hk c t ((flush0_4 (adm m hO) t).mp hf) y)
  · exact cover4 m hO i

/-- Every run leaves the result and the arguments unchanged. -/
theorem value (hO : Ok m) (hk : Known (infoOf m)) : θ_run defs (onTc (τ := τ) (main (F := Ideal))) ⟨m, fun _ => 0, ρ⟩ (fun r => ∀ c : Dev nD,
      r.2.mem ((c.tc : Thread nD τ).loc main_v20) = result (infoOf m) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (out_eq m hO hk c), h.2 c⟩) (θ_run_and (run_main m ρ hO) (unchanged m ρ hO))

end Cert.Kernel2Ideal.Expert

end
-- ==== Proof.Expert.Reference.lean ====
/- The array the reference leaves, over the extended reals, and that it is the kernel's. -/
module

public import Idealize.ShloMosaic.Lib.StackMember
public import Idealize.ShloMosaic.Lib.Routing.OpsSet
public import Idealize.ShloMosaic.Lib.Routing.Words
public import proofs.«01_k».proof.Proof.Gen.Reference2Ideal.Run
public import proofs.«01_k».proof.Proof.Expert.Value

@[expose] public section

set_option maxRecDepth 16384

noncomputable section

namespace Cert.Reference2Ideal.Expert

open Cert.Reference2Ideal.Gen Cert.Reference2Ideal.Value
open Cert.Kernel2Ideal.Expert (act units token ffn mixed result expertOf used lane Known ofBits_one drop_apply)
open Idealize.ShloMosaic Idealize.ShloMosaic.TcCoe Idealize.ShloMosaic.Tactic

/-! ## The tile numbers -/

/-- The sign of a word below `2 ^ 31` that is not zero. -/
theorem sign_pos (r : ℕ) (h0 : r ≠ 0) (h : r < 2 ^ 31) : (if BitVec.ofNat 32 r = 0 then (0 : BitVec 32) else if (BitVec.ofNat 32 r).msb then -1 else 1) = 1#32 := by
  have e : (BitVec.ofNat 32 r).toNat = r := by rw [BitVec.toNat_ofNat]; omega
  rw [if_neg, if_neg]
  · rfl
  · rw [Bool.not_eq_true, BitVec.msb_eq_false_iff_two_mul_lt, e]; omega
  · intro h'
    have := congrArg BitVec.toNat h'
    rw [e] at this
    exact h0 this

/-- The sign of 512. -/
theorem sign_word : (if 512#32 = 0 then (0 : BitVec 32) else if (512#32).msb then -1 else 1) = 1#32 := sign_pos 512 (by decide) (by decide)

/-- The printed floor division of a row number by 512 is the division. -/
theorem floor_word (r : ℕ) (h : r < 2 ^ 31) :
    Scalar.select (IntOp.andi
        (IntOp.cmpi .ne (if BitVec.ofNat 32 r = 0 then (0 : BitVec 32) else if (BitVec.ofNat 32 r).msb then -1 else 1) 1#32)
        (IntOp.cmpi .ne (IntOp.remsi .host (BitVec.ofNat 32 r) 512#32) 0#32))
      (IntOp.subi (IntOp.divsi .host (BitVec.ofNat 32 r) 512#32) 1#32) (IntOp.divsi .host (BitVec.ofNat 32 r) 512#32) = BitVec.ofNat 32 (r / 512) := by
  have ed : IntOp.divsi .host (BitVec.ofNat 32 r) 512#32 = BitVec.ofNat 32 (r / 512) := Routing.divsi_word .host h (by decide) (by decide)
  have er : IntOp.remsi .host (BitVec.ofNat 32 r) 512#32 = BitVec.ofNat 32 (r % 512) := Routing.remsi_word .host h (by decide) (by decide)
  rw [ed, er]
  refine if_neg ?_
  show ¬_ = 1#1
  rw [IntOp.andi_eq_one, IntOp.cmpi_ne, IntOp.cmpi_ne]
  rintro ⟨h1, h2⟩
  by_cases h0 : r = 0
  · subst h0
    exact h2 rfl
  · exact h1 (sign_pos r h0 h)

variable (V : Valuation τ sig (Elt Ideal))

/-- Row `r`'s tile number. -/
theorem tile_apply (r : Fin 69632) : res_main_v2 V (ValueIdx.ix1 r) = BitVec.ofNat 32 (r.val / 512) :=
  (show res_main_v2 V (ValueIdx.ix1 r) = Scalar.select (IntOp.andi
        (IntOp.cmpi .ne (if BitVec.ofNat 32 r.val = 0 then (0 : BitVec 32) else if (BitVec.ofNat 32 r.val).msb then -1 else 1) (if 512#32 = 0 then (0 : BitVec 32) else if (512#32).msb then -1 else 1))
        (IntOp.cmpi .ne (IntOp.remsi .host (BitVec.ofNat 32 r.val) 512#32) 0#32))
      (IntOp.subi (IntOp.divsi .host (BitVec.ofNat 32 r.val) 512#32) 1#32) (IntOp.divsi .host (BitVec.ofNat 32 r.val) 512#32) from rfl).trans (by
    rw [sign_word]
    exact floor_word r.val (by omega))

/-! ## The expert of a row -/

/-- The table read at a row's tile. -/
theorem gather_apply (info : IVec S256 32) (idx : IVec S69632x1 32) (r : Fin 69632) (b : Fin 256) (hb : idx (ValueIdx.ix2 r (0 : Fin 1)) = BitVec.ofNat 32 b.val) :
    Host.gather gather_S256_S69632x1_S69632_n_0_n_n_0_1_1 info idx (ValueIdx.ix1 r) = info (ValueIdx.ix1 b) :=
  Routing.gather_take1 _ rfl rfl rfl rfl info idx r b hb (by decide)

/-- A word with the index's sign fixed up: a word that is not negative stays. -/
theorem wrap_word (t : ℕ) (h : t < 2 ^ 31) :
    Scalar.select (IntOp.cmpi .slt (BitVec.ofNat 32 t) 0#32) (IntOp.addi (BitVec.ofNat 32 t) 256#32) (BitVec.ofNat 32 t) = BitVec.ofNat 32 t := by
  refine if_neg ?_
  show ¬_ = 1#1
  rw [IntOp.cmpi_slt, BitVec.toInt_eq_toNat_of_lt (by rw [BitVec.toNat_ofNat]; omega)]
  have : (0#32 : BitVec 32).toInt = 0 := rfl
  omega

/-- A row's tile number, as an index of the table. -/
theorem index_apply (r : Fin 69632) :
    (broadcastInDim S69632x1 ![0] bcast_S69632_S69632x1_0 (select (cmpi .slt (res_main_v2 V) (broadcastInDim S69632 ![] bcast_S_S69632 (constantI S_ 32 0#32)))
      (addi (res_main_v2 V) (broadcastInDim S69632 ![] bcast_S_S69632 (constantI S_ 32 256#32))) (res_main_v2 V)) : IVec S69632x1 32) (ValueIdx.ix2 r (0 : Fin 1))
      = BitVec.ofNat 32 (r.val / 512) := by
  refine (broadcastInDim_apply (s := S69632) (t := S69632x1) ![0] bcast_S69632_S69632x1_0 _ (ValueIdx.ix2 r (0 : Fin 1)) (ValueIdx.ix1 r) ?_).trans ?_
  · intro a
    match a with
    | ⟨0, _⟩ => rfl
  · show Scalar.select (IntOp.cmpi .slt (res_main_v2 V (ValueIdx.ix1 r)) 0#32) (IntOp.addi (res_main_v2 V (ValueIdx.ix1 r)) 256#32) (res_main_v2 V (ValueIdx.ix1 r)) = _
    rw [tile_apply]
    exact wrap_word _ (by omega)

/-- The number of tiles in use, broadcast. -/
theorem used_apply (info : IVec S256 32) (r : Fin 69632) :
    (broadcastInDim S69632 ![] bcast_S_S69632 (shapeCast S_ (extractStridedSlice S1 ![255] info slices_S256_S1_255) shapeCasts_S1_S_) : IVec S69632 32) (ValueIdx.ix1 r)
      = info (lane 255) := by
  refine (broadcastInDim_apply (s := S_) (t := S69632) ![] bcast_S_S69632 _ (ValueIdx.ix1 r) (fun a => a.elim0) (fun a => a.elim0)).trans ?_
  refine (shapeCast_apply _ shapeCasts_S1_S_ _ (ValueIdx.ix1 (0 : Fin 1)) ?_).trans ?_
  · have h1 : (S1.rowMajor (ValueIdx.ix1 (0 : Fin 1))).val < 1 := (S1.rowMajor (ValueIdx.ix1 (0 : Fin 1))).isLt
    have h2 : ∀ j : S_.Idx, (S_.rowMajor j).val < 1 := fun j => (S_.rowMajor j).isLt
    have := h2 (fun a => a.elim0)
    omega
  · refine extractStridedSlice_apply ![255] info slices_S256_S1_255 (ValueIdx.ix1 (0 : Fin 1)) (lane 255) ?_
    intro a
    match a with
    | ⟨0, _⟩ => rfl

/-- A row's expert: its tile's, or 8 where the tile is not in use. -/
theorem expert_apply (info : IVec S256 32) (hV : V (Proc.devRef .tc main_arg0) = info) (hk : Known info) (r : Fin 69632) :
    res_main_v14 V (ValueIdx.ix1 r) = if r.val / 512 < used info then info (lane (r.val / 512) (by omega)) else 8#32 := by
  subst hV
  have hg := gather_apply (V (Proc.devRef .tc main_arg0)) _ r ⟨r.val / 512, by omega⟩ (index_apply V r)
  have hu := used_apply (V (Proc.devRef .tc main_arg0)) r
  have ht := tile_apply V r
  have hn : used (V (Proc.devRef .tc main_arg0)) ≤ 136 := hk.1.2
  refine (show res_main_v14 V (ValueIdx.ix1 r) = Scalar.select (IntOp.cmpi .slt (res_main_v2 V (ValueIdx.ix1 r)) (_ : BitVec 32)) (_ : BitVec 32) 8#32 from
    congrArg₂ (fun a b => Scalar.select (IntOp.cmpi .slt (res_main_v2 V (ValueIdx.ix1 r)) a) b 8#32) hu hg).trans ?_
  rw [ht]
  have hs : IntOp.cmpi .slt (BitVec.ofNat 32 (r.val / 512)) ((V (Proc.devRef .tc main_arg0) : IVec S256 32) (lane 255)) = 1#1 ↔ r.val / 512 < used (V (Proc.devRef .tc main_arg0)) := by
    have e : (BitVec.ofNat 32 (r.val / 512)).toNat = r.val / 512 := by rw [BitVec.toNat_ofNat]; omega
    rw [IntOp.cmpi_slt, BitVec.toInt_eq_toNat_of_lt (by rw [e]; omega), BitVec.toInt_eq_toNat_of_lt (by
      show 2 * used (V (Proc.devRef .tc main_arg0)) < 2 ^ 32; omega), e]
    exact Int.ofNat_lt
  by_cases h : r.val / 512 < used (V (Proc.devRef .tc main_arg0))
  · rw [if_pos h]
    exact if_pos (hs.2 h)
  · rw [if_neg h]
    exact if_neg (fun h' => h (hs.1 h'))

/-! ## One expert's rows -/

/-- A plain host product, at an index. -/
theorem host_mm {M K N : ℕ} {φ₁ φ₂ : FTy} (d : DotDims ⟨2, ![M, K]⟩ ⟨2, ![K, N]⟩ ⟨2, ![M, N]⟩) (hd : d = DotDims.plain M K N)
    (A : FVec Ideal ⟨2, ![M, K]⟩ φ₁) (B : FVec Ideal ⟨2, ![K, N]⟩ φ₂) (r : Fin M) (c : Fin N) :
    Host.dotGeneral d none A B (ValueIdx.ix2 r c) = ∑ k : Fin K, A (ValueIdx.ix2 r k) * B (ValueIdx.ix2 k c) := by
  subst hd
  exact StackMember.dotGeneral_plain_apply none A B r c

/-- The dispatched rows as tokens. -/
theorem token_apply (xs : FVec Ideal S557056x128 .f32) (r : Fin 69632) (k : Fin 1024) :
    (shapeCast S69632x1024 xs shapeCasts_S557056x128_S69632x1024 : FVec Ideal S69632x1024 .f32) (ValueIdx.ix2 r k) = token xs r k := by
  refine shapeCast_apply xs shapeCasts_S557056x128_S69632x1024 (ValueIdx.ix2 r k)
    (ValueIdx.ix2 (⟨8 * r.val + k.val / 128, by omega⟩ : Fin 557056) (⟨k.val % 128, Nat.mod_lt _ (by decide)⟩ : Fin 128)) ?_
  refine (Shape.rowMajor_val_two (d := ![557056, 128]) _).trans (Eq.trans ?_ (Shape.rowMajor_val_two (d := ![69632, 1024]) _).symm)
  show (8 * r.val + k.val / 128) * 128 + k.val % 128 = r.val * 1024 + k.val
  omega

/-- One expert's matrix out of the stack. -/
theorem member_apply {A B : ℕ} (W : (⟨3, ![8, A, B]⟩ : Shape).Idx → EReal) (e : Fin 8) (hs : (⟨3, ![8, A, B]⟩ : Shape).Slices ![e.val, 0, 0] ⟨3, ![1, A, B]⟩)
    (hc : (⟨3, ![1, A, B]⟩ : Shape).ShapeCasts ⟨2, ![A, B]⟩) (a : Fin A) (b : Fin B) :
    shapeCast ⟨2, ![A, B]⟩ (extractStridedSlice ⟨3, ![1, A, B]⟩ ![e.val, 0, 0] W hs) hc (ValueIdx.ix2 a b) = W (ValueIdx.ix3 e a b) := by
  refine (drop_apply _ hc a b).trans (extractStridedSlice_apply ![e.val, 0, 0] W hs (ValueIdx.ix3 (0 : Fin 1) a b) (ValueIdx.ix3 e a b) ?_)
  intro x
  match x with
  | ⟨0, _⟩ => rfl
  | ⟨1, _⟩ => show a.val = 0 + a.val; omega
  | ⟨2, _⟩ => show b.val = 0 + b.val; omega

/-- The gated product, at an index. -/
theorem host_act (g u : FVec Ideal S69632x3584 .f32) (i : S69632x3584.Idx) :
    mulf (mulf g (Host.divf (broadcastInDim S69632x3584 ![] bcast_S_S69632x3584 (constant (F := Ideal) S_ .f32 0x3F800000#32))
      (addf (broadcastInDim S69632x3584 ![] bcast_S_S69632x3584 (constant (F := Ideal) S_ .f32 0x3F800000#32)) (Host.exp (Host.negf g))))) u i = act (g i) (u i) := by
  show g i * Ideal.div (Ideal.ofBits .f32 0x3F800000#32) (Ideal.ofBits .f32 0x3F800000#32 + Ideal.exp (-(g i))) * u i = _
  rw [ofBits_one]
  rfl

/-- One expert's first product. -/
theorem up_apply (xs : FVec Ideal S557056x128 .f32) (W : FVec Ideal S8x1024x3584 .f32) (e : Fin 8) (hs : S8x1024x3584.Slices ![e.val, 0, 0] S1x1024x3584) (r : Fin 69632) (f : Fin 3584) :
    Host.dotGeneral dot_S69632x1024_S1024x3584_S69632x3584_1_0_0_1_n_n none (shapeCast S69632x1024 xs shapeCasts_S557056x128_S69632x1024 : FVec Ideal S69632x1024 .f32)
      (shapeCast S1024x3584 (extractStridedSlice S1x1024x3584 ![e.val, 0, 0] W hs) shapeCasts_S1x1024x3584_S1024x3584 : FVec Ideal S1024x3584 .f32) (ValueIdx.ix2 r f)
      = ∑ k : Fin 1024, token xs r k * W (ValueIdx.ix3 e k f) :=
  (host_mm _ rfl _ _ r f).trans (Finset.sum_congr rfl fun k _ => congrArg₂ (· * ·) (token_apply xs r k) (member_apply W e hs shapeCasts_S1x1024x3584_S1024x3584 k f))

/-- The gated units of one expert, for all the rows. -/
abbrev hidden (xs : FVec Ideal S557056x128 .f32) (wg wu : FVec Ideal S8x1024x3584 .f32) (e : Fin 8) (hs : S8x1024x3584.Slices ![e.val, 0, 0] S1x1024x3584) : FVec Ideal S69632x3584 .f32 :=
  mulf (mulf (Host.dotGeneral dot_S69632x1024_S1024x3584_S69632x3584_1_0_0_1_n_n none (shapeCast S69632x1024 xs shapeCasts_S557056x128_S69632x1024 : FVec Ideal S69632x1024 .f32)
      (shapeCast S1024x3584 (extractStridedSlice S1x1024x3584 ![e.val, 0, 0] wg hs) shapeCasts_S1x1024x3584_S1024x3584 : FVec Ideal S1024x3584 .f32))
    (Host.divf (broadcastInDim S69632x3584 ![] bcast_S_S69632x3584 (constant (F := Ideal) S_ .f32 0x3F800000#32))
      (addf (broadcastInDim S69632x3584 ![] bcast_S_S69632x3584 (constant (F := Ideal) S_ .f32 0x3F800000#32)) (Host.exp (Host.negf
        (Host.dotGeneral dot_S69632x1024_S1024x3584_S69632x3584_1_0_0_1_n_n none (shapeCast S69632x1024 xs shapeCasts_S557056x128_S69632x1024 : FVec Ideal S69632x1024 .f32)
          (shapeCast S1024x3584 (extractStridedSlice S1x1024x3584 ![e.val, 0, 0] wg hs) shapeCasts_S1x1024x3584_S1024x3584 : FVec Ideal S1024x3584 .f32)))))))
    (Host.dotGeneral dot_S69632x1024_S1024x3584_S69632x3584_1_0_0_1_n_n none (shapeCast S69632x1024 xs shapeCasts_S557056x128_S69632x1024 : FVec Ideal S69632x1024 .f32)
      (shapeCast S1024x3584 (extractStridedSlice S1x1024x3584 ![e.val, 0, 0] wu hs) shapeCasts_S1x1024x3584_S1024x3584 : FVec Ideal S1024x3584 .f32))

/-- The gated units, at an index. -/
theorem hidden_apply (xs : FVec Ideal S557056x128 .f32) (wg wu : FVec Ideal S8x1024x3584 .f32) (e : Fin 8) (hs : S8x1024x3584.Slices ![e.val, 0, 0] S1x1024x3584) (r : Fin 69632) (f : Fin 3584) :
    hidden xs wg wu e hs (ValueIdx.ix2 r f) = act (∑ k : Fin 1024, token xs r k * wg (ValueIdx.ix3 e k f)) (∑ k : Fin 1024, token xs r k * wu (ValueIdx.ix3 e k f)) :=
  (host_act _ _ (ValueIdx.ix2 r f)).trans (congrArg₂ act (up_apply xs wg e hs r f) (up_apply xs wu e hs r f))

/-- One expert's rows, zero where the row is not this expert's: what the reference adds for it. -/
abbrev share (ex : IVec S69632 32) (xs : FVec Ideal S557056x128 .f32) (wg wu : FVec Ideal S8x1024x3584 .f32) (wd : FVec Ideal S8x3584x1024 .f32) (e : Fin 8)
    (hs : S8x1024x3584.Slices ![e.val, 0, 0] S1x1024x3584) (hd : S8x3584x1024.Slices ![e.val, 0, 0] S1x3584x1024) (w : BitVec 32) : FVec Ideal S69632x1024 .f32 :=
  select (broadcastInDim S69632x1024 ![0, 1] bcast_S69632x1_S69632x1024_0_1 (broadcastInDim S69632x1 ![0] bcast_S69632_S69632x1_0
      (cmpi .eq ex (broadcastInDim S69632 ![] bcast_S_S69632 (constantI S_ 32 w)))))
    (Host.dotGeneral dot_S69632x3584_S3584x1024_S69632x1024_1_0_0_1_n_n none (hidden xs wg wu e hs)
      (shapeCast S3584x1024 (extractStridedSlice S1x3584x1024 ![e.val, 0, 0] wd hd) shapeCasts_S1x3584x1024_S3584x1024 : FVec Ideal S3584x1024 .f32))
    (broadcastInDim S69632x1024 ![] bcast_S_S69632x1024 (id (constant (F := Ideal) S_ .f32 0x00000000#32)))

/-- Whether a row is this expert's, at an index. -/
theorem mask_apply (ex : IVec S69632 32) (w : BitVec 32) (r : Fin 69632) (d : Fin 1024) :
    (broadcastInDim S69632x1024 ![0, 1] bcast_S69632x1_S69632x1024_0_1 (broadcastInDim S69632x1 ![0] bcast_S69632_S69632x1_0
      (cmpi .eq ex (broadcastInDim S69632 ![] bcast_S_S69632 (constantI S_ 32 w)))) : IVec S69632x1024 1) (ValueIdx.ix2 r d) = IntOp.cmpi .eq (ex (ValueIdx.ix1 r)) w := by
  refine (broadcastInDim_apply (s := S69632x1) (t := S69632x1024) ![0, 1] bcast_S69632x1_S69632x1024_0_1 _ (ValueIdx.ix2 r d) (ValueIdx.ix2 r (0 : Fin 1)) ?_).trans ?_
  · intro a
    match a with
    | ⟨0, _⟩ => rfl
    | ⟨1, _⟩ => rfl
  refine (broadcastInDim_apply (s := S69632) (t := S69632x1) ![0] bcast_S69632_S69632x1_0 _ (ValueIdx.ix2 r (0 : Fin 1)) (ValueIdx.ix1 r) ?_).trans ?_
  · intro a
    match a with
    | ⟨0, _⟩ => rfl
  · rfl

/-- An expert's share, at an index. -/
theorem share_apply (ex : IVec S69632 32) (xs : FVec Ideal S557056x128 .f32) (wg wu : FVec Ideal S8x1024x3584 .f32) (wd : FVec Ideal S8x3584x1024 .f32) (e : Fin 8)
    (hs : S8x1024x3584.Slices ![e.val, 0, 0] S1x1024x3584) (hd : S8x3584x1024.Slices ![e.val, 0, 0] S1x3584x1024) (w : BitVec 32) (r : Fin 69632) (d : Fin 1024) :
    share ex xs wg wu wd e hs hd w (ValueIdx.ix2 r d) = if ex (ValueIdx.ix1 r) = w then ffn xs wg wu wd e r d else 0 := by
  have h1 := mask_apply ex w r d
  have h2 : Host.dotGeneral dot_S69632x3584_S3584x1024_S69632x1024_1_0_0_1_n_n none (hidden xs wg wu e hs)
      (shapeCast S3584x1024 (extractStridedSlice S1x3584x1024 ![e.val, 0, 0] wd hd) shapeCasts_S1x3584x1024_S3584x1024 : FVec Ideal S3584x1024 .f32) (ValueIdx.ix2 r d) = ffn xs wg wu wd e r d :=
    (host_mm _ rfl _ _ r d).trans (Finset.sum_congr rfl fun f _ => congrArg₂ (· * ·) (hidden_apply xs wg wu e hs r f) (member_apply wd e hd shapeCasts_S1x3584x1024_S3584x1024 f d))
  refine (show share ex xs wg wu wd e hs hd w (ValueIdx.ix2 r d) = Scalar.select (IntOp.cmpi .eq (ex (ValueIdx.ix1 r)) w) (ffn xs wg wu wd e r d) (Ideal.ofBits .f32 0x00000000#32) from
    congrArg₂ (fun a b => Scalar.select a b (Ideal.ofBits .f32 0x00000000#32)) h1 h2).trans ?_
  rw [Ideal.ofBits_zero_f32]
  by_cases h : ex (ValueIdx.ix1 r) = w
  · rw [if_pos h]
    exact if_pos (IntOp.cmpi_eq.2 h)
  · rw [if_neg h]
    exact if_neg (fun h' => h (IntOp.cmpi_eq.1 h'))

/-! ## The sum over the experts -/

/-- Of eight masked terms only the expert's own is left. -/
theorem only_own (w : BitVec 32) (hw : w.toNat < 8) (g : Fin 8 → EReal) :
    0 + (if w = 0#32 then g 0 else 0) + (if w = 1#32 then g 1 else 0) + (if w = 2#32 then g 2 else 0) + (if w = 3#32 then g 3 else 0)
      + (if w = 4#32 then g 4 else 0) + (if w = 5#32 then g 5 else 0) + (if w = 6#32 then g 6 else 0) + (if w = 7#32 then g 7 else 0)
      = g ⟨w.toNat % 8, Nat.mod_lt _ (by decide)⟩ := by
  have e : w = 0#32 ∨ w = 1#32 ∨ w = 2#32 ∨ w = 3#32 ∨ w = 4#32 ∨ w = 5#32 ∨ w = 6#32 ∨ w = 7#32 := by
    simp only [← BitVec.toNat_inj, BitVec.toNat_ofNat]
    omega
  rcases e with e | e | e | e | e | e | e | e <;> subst e <;> simp only [zero_add, add_zero, reduceIte, BitVec.reduceEq, BitVec.ofNat_eq_ofNat] <;> rfl

/-- The same where the row has no expert. -/
theorem no_own (w : BitVec 32) (hw : w = 8#32) (g : Fin 8 → EReal) :
    0 + (if w = 0#32 then g 0 else 0) + (if w = 1#32 then g 1 else 0) + (if w = 2#32 then g 2 else 0) + (if w = 3#32 then g 3 else 0)
      + (if w = 4#32 then g 4 else 0) + (if w = 5#32 then g 5 else 0) + (if w = 6#32 then g 6 else 0) + (if w = 7#32 then g 7 else 0) = 0 := by
  subst hw
  simp only [zero_add, add_zero, reduceIte, BitVec.reduceEq, BitVec.ofNat_eq_ofNat]

/-- Both together: the word is `a` where `p` holds, 8 elsewhere. -/
theorem own (p : Prop) [Decidable p] (a w : BitVec 32) (hw : w = if p then a else 8#32) (ha : p → a.toNat < 8) (g : Fin 8 → EReal) :
    0 + (if w = 0#32 then g 0 else 0) + (if w = 1#32 then g 1 else 0) + (if w = 2#32 then g 2 else 0) + (if w = 3#32 then g 3 else 0)
      + (if w = 4#32 then g 4 else 0) + (if w = 5#32 then g 5 else 0) + (if w = 6#32 then g 6 else 0) + (if w = 7#32 then g 7 else 0)
      = if p then g ⟨a.toNat % 8, Nat.mod_lt _ (by decide)⟩ else 0 := by
  by_cases h : p
  · rw [if_pos h] at hw ⊢
    subst hw
    exact only_own w (ha h) g
  · rw [if_neg h] at hw ⊢
    exact no_own w hw g

/-- The masked terms of one row and lane, summed as the reference sums them. -/
theorem first_four (r : Fin 69632) (d : Fin 1024) :
    res_main_v79 V (ValueIdx.ix2 r d)
      = 0 + (if res_main_v14 V (ValueIdx.ix1 r) = 0#32 then ffn (V (Proc.devRef .tc main_arg1)) (V (Proc.devRef .tc main_arg2)) (V (Proc.devRef .tc main_arg3)) (V (Proc.devRef .tc main_arg4)) 0 r d else 0)
        + (if res_main_v14 V (ValueIdx.ix1 r) = 1#32 then ffn (V (Proc.devRef .tc main_arg1)) (V (Proc.devRef .tc main_arg2)) (V (Proc.devRef .tc main_arg3)) (V (Proc.devRef .tc main_arg4)) 1 r d else 0)
        + (if res_main_v14 V (ValueIdx.ix1 r) = 2#32 then ffn (V (Proc.devRef .tc main_arg1)) (V (Proc.devRef .tc main_arg2)) (V (Proc.devRef .tc main_arg3)) (V (Proc.devRef .tc main_arg4)) 2 r d else 0)
        + (if res_main_v14 V (ValueIdx.ix1 r) = 3#32 then ffn (V (Proc.devRef .tc main_arg1)) (V (Proc.devRef .tc main_arg2)) (V (Proc.devRef .tc main_arg3)) (V (Proc.devRef .tc main_arg4)) 3 r d else 0) := by
  have z : (constant (F := Ideal) S_ .f32 0x00000000#32 : FVec Ideal S_ .f32) (fun a => a.elim0) = 0 := Ideal.ofBits_zero_f32
  have t0 := share_apply (res_main_v14 V) (V (Proc.devRef .tc main_arg1)) (V (Proc.devRef .tc main_arg2)) (V (Proc.devRef .tc main_arg3)) (V (Proc.devRef .tc main_arg4)) 0 slices_S8x1024x3584_S1x1024x3584_0_0_0 slices_S8x3584x1024_S1x3584x1024_0_0_0 0#32 r d
  have t1 := share_apply (res_main_v14 V) (V (Proc.devRef .tc main_arg1)) (V (Proc.devRef .tc main_arg2)) (V (Proc.devRef .tc main_arg3)) (V (Proc.devRef .tc main_arg4)) 1 slices_S8x1024x3584_S1x1024x3584_1_0_0 slices_S8x3584x1024_S1x3584x1024_1_0_0 1#32 r d
  have t2 := share_apply (res_main_v14 V) (V (Proc.devRef .tc main_arg1)) (V (Proc.devRef .tc main_arg2)) (V (Proc.devRef .tc main_arg3)) (V (Proc.devRef .tc main_arg4)) 2 slices_S8x1024x3584_S1x1024x3584_2_0_0 slices_S8x3584x1024_S1x3584x1024_2_0_0 2#32 r d
  have t3 := share_apply (res_main_v14 V) (V (Proc.devRef .tc main_arg1)) (V (Proc.devRef .tc main_arg2)) (V (Proc.devRef .tc main_arg3)) (V (Proc.devRef .tc main_arg4)) 3 slices_S8x1024x3584_S1x1024x3584_3_0_0 slices_S8x3584x1024_S1x3584x1024_3_0_0 3#32 r d
  exact congrArg₂ (· + ·) (congrArg₂ (· + ·) (congrArg₂ (· + ·) (congrArg₂ (· + ·) z t0) t1) t2) t3

/-- The other four on top of them. -/
theorem all_eight (r : Fin 69632) (d : Fin 1024) (p : EReal) (hp : res_main_v79 V (ValueIdx.ix2 r d) = p) :
    res_main_v143 V (ValueIdx.ix2 r d)
      = p
        + (if res_main_v14 V (ValueIdx.ix1 r) = 4#32 then ffn (V (Proc.devRef .tc main_arg1)) (V (Proc.devRef .tc main_arg2)) (V (Proc.devRef .tc main_arg3)) (V (Proc.devRef .tc main_arg4)) 4 r d else 0)
        + (if res_main_v14 V (ValueIdx.ix1 r) = 5#32 then ffn (V (Proc.devRef .tc main_arg1)) (V (Proc.devRef .tc main_arg2)) (V (Proc.devRef .tc main_arg3)) (V (Proc.devRef .tc main_arg4)) 5 r d else 0)
        + (if res_main_v14 V (ValueIdx.ix1 r) = 6#32 then ffn (V (Proc.devRef .tc main_arg1)) (V (Proc.devRef .tc main_arg2)) (V (Proc.devRef .tc main_arg3)) (V (Proc.devRef .tc main_arg4)) 6 r d else 0)
        + (if res_main_v14 V (ValueIdx.ix1 r) = 7#32 then ffn (V (Proc.devRef .tc main_arg1)) (V (Proc.devRef .tc main_arg2)) (V (Proc.devRef .tc main_arg3)) (V (Proc.devRef .tc main_arg4)) 7 r d else 0) := by
  have t0 := share_apply (res_main_v14 V) (V (Proc.devRef .tc main_arg1)) (V (Proc.devRef .tc main_arg2)) (V (Proc.devRef .tc main_arg3)) (V (Proc.devRef .tc main_arg4)) 4 slices_S8x1024x3584_S1x1024x3584_4_0_0 slices_S8x3584x1024_S1x3584x1024_4_0_0 4#32 r d
  have t1 := share_apply (res_main_v14 V) (V (Proc.devRef .tc main_arg1)) (V (Proc.devRef .tc main_arg2)) (V (Proc.devRef .tc main_arg3)) (V (Proc.devRef .tc main_arg4)) 5 slices_S8x1024x3584_S1x1024x3584_5_0_0 slices_S8x3584x1024_S1x3584x1024_5_0_0 5#32 r d
  have t2 := share_apply (res_main_v14 V) (V (Proc.devRef .tc main_arg1)) (V (Proc.devRef .tc main_arg2)) (V (Proc.devRef .tc main_arg3)) (V (Proc.devRef .tc main_arg4)) 6 slices_S8x1024x3584_S1x1024x3584_6_0_0 slices_S8x3584x1024_S1x3584x1024_6_0_0 6#32 r d
  have t3 := share_apply (res_main_v14 V) (V (Proc.devRef .tc main_arg1)) (V (Proc.devRef .tc main_arg2)) (V (Proc.devRef .tc main_arg3)) (V (Proc.devRef .tc main_arg4)) 7 slices_S8x1024x3584_S1x1024x3584_7_0_0 slices_S8x3584x1024_S1x3584x1024_7_0_0 7#32 r d
  exact congrArg₂ (· + ·) (congrArg₂ (· + ·) (congrArg₂ (· + ·) (congrArg₂ (· + ·) hp t0) t1) t2) t3

/-- A row and lane of the reference is the row's expert's, zero where its tile is not in use. -/
theorem mixed_eq (info : IVec S256 32) (hV : V (Proc.devRef .tc main_arg0) = info) (hk : Known info) (r : Fin 69632) (d : Fin 1024) :
    res_main_v143 V (ValueIdx.ix2 r d) = mixed info (V (Proc.devRef .tc main_arg1)) (V (Proc.devRef .tc main_arg2)) (V (Proc.devRef .tc main_arg3)) (V (Proc.devRef .tc main_arg4)) r d := by
  have hn : used info ≤ 136 := hk.1.2
  exact (all_eight V r d _ (first_four V r d)).trans (own (r.val / 512 < used info) (info (lane (r.val / 512) (by omega))) (res_main_v14 V (ValueIdx.ix1 r)) (expert_apply V info hV hk r)
    (fun h => hk.2 ⟨r.val / 512, by omega⟩)
    (fun e => ffn (V (Proc.devRef .tc main_arg1)) (V (Proc.devRef .tc main_arg2)) (V (Proc.devRef .tc main_arg3)) (V (Proc.devRef .tc main_arg4)) e r d))

/-- The reference's result is the kernel's. -/
theorem result_eq (info : IVec S256 32) (hV : V (Proc.devRef .tc main_arg0) = info) (hk : Known info) :
    (shapeCast S557056x128 (res_main_v143 V) shapeCasts_S69632x1024_S557056x128 : FVec Ideal S557056x128 .f32)
      = result info (V (Proc.devRef .tc main_arg1)) (V (Proc.devRef .tc main_arg2)) (V (Proc.devRef .tc main_arg3)) (V (Proc.devRef .tc main_arg4)) := by
  funext y
  have h0 : (y 0).val < 557056 := (y 0).isLt
  have h1 : (y 1).val < 128 := (y 1).isLt
  refine (shapeCast_apply (res_main_v143 V) shapeCasts_S69632x1024_S557056x128 y
    (ValueIdx.ix2 (⟨(y 0).val / 8, by omega⟩ : Fin 69632) (⟨(y 0).val % 8 * 128 + (y 1).val, by omega⟩ : Fin 1024)) ?_).trans (mixed_eq V info hV hk _ _)
  refine (Shape.rowMajor_val_two (d := ![69632, 1024]) _).trans (Eq.trans ?_ (Shape.rowMajor_val_two (d := ![557056, 128]) _).symm)
  show (y 0).val / 8 * 1024 + ((y 0).val % 8 * 128 + (y 1).val) = (y 0).val * 128 + (y 1).val
  omega

end Cert.Reference2Ideal.Expert
-- ==== Proof.Dense.Body.lean ====
/- The body of the dense feed-forward call, over the extended reals. -/
module

public import Idealize.ShloMosaic.Lib.MatmulPlain
public import Idealize.ShloMosaic.Lib.Pipeline.Value
public import Idealize.ShloMosaic.Lib.Pipeline.ValueKit
public import Idealize.ShloMosaic.Lib.ValueLayout
public import Idealize.ShloMosaic.Lib.Pointwise.Reduce
public import proofs.«01_k».proof.Proof.Gen.Kernel3Ideal.Value
public import proofs.«01_k».proof.Proof.Expert.Half

@[expose] public section

set_option maxRecDepth 16384

noncomputable section

namespace Cert.Kernel3Ideal.Dense

open Cert.Kernel3Ideal Cert.Kernel3Ideal.Gen
open Idealize.ShloMosaic Idealize.ShloMosaic.TcCoe
open Cert.Kernel2Ideal.Expert (act units mm_apply act_apply)

/-! ## The formula -/

/-- A row divided by its root mean square and scaled by the gain `g`, in lane `d`. -/
def normed (a : Fin 1024 → EReal) (g : EReal) (d : Fin 1024) : EReal :=
  a d * Ideal.rsqrt (Ideal.div (∑ k : Fin 1024, a k * a k) (Ideal.ofBits .f32 0x44800000#32) + Ideal.ofBits .f32 0x358637BD#32) * g

/-! ## The eleven groups of hidden units -/

/-- One more group of 256. -/
theorem peel (G : Fin 2816 → EReal) (a : ℕ) (h : a + 256 ≤ 2816) :
    ∑ f : Fin (a + 256), G ⟨f.val, by omega⟩ = (∑ f : Fin a, G ⟨f.val, by omega⟩) + ∑ f : Fin 256, G ⟨a + f.val, by omega⟩ :=
  Fin.sum_univ_add (a := a) (b := 256) (fun f : Fin (a + 256) => G ⟨f.val, by omega⟩)

/-- The hidden units are those of the eleven groups, summed from zero in order. -/
theorem groups (G : Fin 2816 → EReal) :
    ∑ f : Fin 2816, G f = 0 + (∑ f : Fin 256, G ⟨0 + f.val, by omega⟩) + (∑ f : Fin 256, G ⟨256 + f.val, by omega⟩) + (∑ f : Fin 256, G ⟨512 + f.val, by omega⟩)
      + (∑ f : Fin 256, G ⟨768 + f.val, by omega⟩) + (∑ f : Fin 256, G ⟨1024 + f.val, by omega⟩) + (∑ f : Fin 256, G ⟨1280 + f.val, by omega⟩)
      + (∑ f : Fin 256, G ⟨1536 + f.val, by omega⟩) + (∑ f : Fin 256, G ⟨1792 + f.val, by omega⟩) + (∑ f : Fin 256, G ⟨2048 + f.val, by omega⟩)
      + (∑ f : Fin 256, G ⟨2304 + f.val, by omega⟩) + (∑ f : Fin 256, G ⟨2560 + f.val, by omega⟩) := by
  refine (peel G 2560 (by omega)).trans (congrArg (· + _) ?_)
  refine (peel G 2304 (by omega)).trans (congrArg (· + _) ?_)
  refine (peel G 2048 (by omega)).trans (congrArg (· + _) ?_)
  refine (peel G 1792 (by omega)).trans (congrArg (· + _) ?_)
  refine (peel G 1536 (by omega)).trans (congrArg (· + _) ?_)
  refine (peel G 1280 (by omega)).trans (congrArg (· + _) ?_)
  refine (peel G 1024 (by omega)).trans (congrArg (· + _) ?_)
  refine (peel G 768 (by omega)).trans (congrArg (· + _) ?_)
  refine (peel G 512 (by omega)).trans (congrArg (· + _) ?_)
  refine (peel G 256 (by omega)).trans (congrArg (· + _) ?_)
  exact (peel G 0 (by omega)).trans (congrArg (· + _) (Finset.sum_empty))

/-! ## One group -/

/-- A gate or up product of a group. -/
abbrev proj (x : FVec Ideal S512x1024 .bf16) (w : FVec Ideal S1024x256 .bf16) : FVec Ideal S512x256 .f32 :=
  matmul dot_S512x1024_S1024x256_S512x256_1_0_0_1_n_n none x (shapeCast S1024x256 w shapeCasts_S1024x256_S1024x256 : FVec Ideal S1024x256 .bf16) (constant S512x256 .f32 0x00000000#32)

/-- The gated units of a group. -/
abbrev gated (x : FVec Ideal S512x1024 .bf16) (wg wu : FVec Ideal S1024x256 .bf16) : FVec Ideal S512x256 .f32 :=
  mulf (mulf (proj x wg) (divf (broadcast S512x256 (Scalar.ofBits (F := Ideal) .f32 0x3F800000#32)) (addf (broadcast S512x256 (Scalar.ofBits (F := Ideal) .f32 0x3F800000#32))
    (exp (subf (broadcast S512x256 (Scalar.ofBits (F := Ideal) .f32 0x00000000#32)) (proj x wg)))))) (proj x wu)

/-- What a group adds. -/
def chunk (x : FVec Ideal S512x1024 .bf16) (wg wu : FVec Ideal S1024x256 .bf16) (wd : FVec Ideal S256x1024 .bf16) : FVec Ideal S512x1024 .f32 :=
  matmul dot_S512x256_S256x1024_S512x1024_1_0_0_1_n_n none (truncf .bf16 (gated x wg wu) bitsLt_bf16_f32 : FVec Ideal S512x256 .bf16)
    (shapeCast S256x1024 wd shapeCasts_S256x1024_S256x1024 : FVec Ideal S256x1024 .bf16) (constant S512x1024 .f32 0x00000000#32)

theorem proj_apply (x : FVec Ideal S512x1024 .bf16) (w : FVec Ideal S1024x256 .bf16) (r : Fin 512) (f : Fin 256) :
    proj x w (ValueIdx.ix2 r f) = ∑ k : Fin 1024, x (ValueIdx.ix2 r k) * w (ValueIdx.ix2 k f) := by
  refine (mm_apply _ rfl _ _ r f).trans (Finset.sum_congr rfl fun k _ => ?_)
  rw [shapeCast_self]

theorem gated_apply (x : FVec Ideal S512x1024 .bf16) (wg wu : FVec Ideal S1024x256 .bf16) (r : Fin 512) (f : Fin 256) :
    gated x wg wu (ValueIdx.ix2 r f) = act (∑ k : Fin 1024, x (ValueIdx.ix2 r k) * wg (ValueIdx.ix2 k f)) (∑ k : Fin 1024, x (ValueIdx.ix2 r k) * wu (ValueIdx.ix2 k f)) :=
  (act_apply (proj x wg) (proj x wu) (ValueIdx.ix2 r f)).trans (congrArg₂ act (proj_apply x wg r f) (proj_apply x wu r f))

theorem chunk_apply (x : FVec Ideal S512x1024 .bf16) (wg wu : FVec Ideal S1024x256 .bf16) (wd : FVec Ideal S256x1024 .bf16) (r : Fin 512) (d : Fin 1024) :
    chunk x wg wu wd (ValueIdx.ix2 r d) = ∑ f : Fin 256, act (∑ k : Fin 1024, x (ValueIdx.ix2 r k) * wg (ValueIdx.ix2 k f)) (∑ k : Fin 1024, x (ValueIdx.ix2 r k) * wu (ValueIdx.ix2 k f)) * wd (ValueIdx.ix2 f d) := by
  refine (mm_apply _ rfl _ _ r d).trans (Finset.sum_congr rfl fun f _ => ?_)
  rw [shapeCast_self]
  exact congrArg (· * _) (gated_apply x wg wu r f)

/-- One hidden unit's share of row `r`, lane `d`. -/
def unit (x : Vec Ideal S512x1024 .bf16) (wg wu : Vec Ideal S1024x2816 .bf16) (wd : Vec Ideal S2816x1024 .bf16) (r : Fin 512) (d : Fin 1024) (f : Fin 2816) : EReal :=
  act (∑ k : Fin 1024, x (ValueIdx.ix2 r k) * wg (ValueIdx.ix2 k f)) (∑ k : Fin 1024, x (ValueIdx.ix2 r k) * wu (ValueIdx.ix2 k f)) * wd (ValueIdx.ix2 f d)

/-- A group of columns, loaded. -/
theorem cols_apply (w : Vec Ideal S1024x2816 .bf16) (o : ℕ) (ho : o + 256 ≤ 2816) (inb : ∀ a, (![0, o] : Fin 2 → ℕ) a + S1024x256.size a ≤ S1024x2816.size a) (k : Fin 1024) (f : Fin 256) :
    (View.ld (Val := Elt Ideal) w (Rect.unit (s := S1024x2816) ![0, o] S1024x256.size inb) : Vec Ideal S1024x256 .bf16) (ValueIdx.ix2 k f) = w (ValueIdx.ix2 k (⟨o + f.val, by omega⟩ : Fin 2816)) := by
  refine congrArg w (funext fun a => Fin.ext ?_)
  match a with
  | ⟨0, _⟩ => show 0 + 1 * k.val = k.val; omega
  | ⟨1, _⟩ => show o + 1 * f.val = o + f.val; omega

/-- A group of rows, loaded. -/
theorem rows_apply (w : Vec Ideal S2816x1024 .bf16) (o : ℕ) (ho : o + 256 ≤ 2816) (inb : ∀ a, (![o, 0] : Fin 2 → ℕ) a + S256x1024.size a ≤ S2816x1024.size a) (f : Fin 256) (d : Fin 1024) :
    (View.ld (Val := Elt Ideal) w (Rect.unit (s := S2816x1024) ![o, 0] S256x1024.size inb) : Vec Ideal S256x1024 .bf16) (ValueIdx.ix2 f d) = w (ValueIdx.ix2 (⟨o + f.val, by omega⟩ : Fin 2816) d) := by
  refine congrArg w (funext fun a => Fin.ext ?_)
  match a with
  | ⟨0, _⟩ => show o + 1 * f.val = o + f.val; omega
  | ⟨1, _⟩ => show 0 + 1 * d.val = d.val; omega

/-- A group of the weights adds its hidden units. -/
theorem group_apply (x : Vec Ideal S512x1024 .bf16) (wg wu : Vec Ideal S1024x2816 .bf16) (wd : Vec Ideal S2816x1024 .bf16) (o : ℕ) (ho : o + 256 ≤ 2816)
    (inb : ∀ a, (![0, o] : Fin 2 → ℕ) a + S1024x256.size a ≤ S1024x2816.size a) (inb' : ∀ a, (![o, 0] : Fin 2 → ℕ) a + S256x1024.size a ≤ S2816x1024.size a) (r : Fin 512) (d : Fin 1024) :
    chunk x (View.ld (Val := Elt Ideal) wg (Rect.unit (s := S1024x2816) ![0, o] S1024x256.size inb)) (View.ld (Val := Elt Ideal) wu (Rect.unit (s := S1024x2816) ![0, o] S1024x256.size inb))
      (View.ld (Val := Elt Ideal) wd (Rect.unit (s := S2816x1024) ![o, 0] S256x1024.size inb')) (ValueIdx.ix2 r d)
      = ∑ f : Fin 256, unit x wg wu wd r d ⟨o + f.val, by omega⟩ := by
  refine (chunk_apply _ _ _ _ r d).trans (Finset.sum_congr rfl fun f _ => ?_)
  exact congrArg₂ (· * ·) (congrArg₂ act (Finset.sum_congr rfl fun k _ => congrArg (x (ValueIdx.ix2 r k) * ·) (cols_apply wg o ho inb k f))
    (Finset.sum_congr rfl fun k _ => congrArg (x (ValueIdx.ix2 r k) * ·) (cols_apply wu o ho inb k f))) (rows_apply wd o ho inb' f d)

/-! ## The accumulated groups -/

theorem pay2_eq (x : Vec Ideal S512x1024 .bf16) (g u : Vec Ideal S1024x256 .bf16) (w : Vec Ideal S256x1024 .bf16) :
    k0_pay2 x g u w = addf (broadcast S512x1024 (Scalar.ofBits (F := Ideal) .f32 0x00000000#32)) (chunk x g u w) := rfl

theorem pay5_eq (x : Vec Ideal S512x1024 .bf16) (a : FVec Ideal S512x1024 .f32) (g u g' u' : Vec Ideal S1024x256 .bf16) (w w' : Vec Ideal S256x1024 .bf16) :
    k0_pay5 x a (k0_pay3 x g) (k0_pay4 u) (constant S512x256 .f32 0x00000000#32) w g' u' w' = addf (addf a (chunk x g u w)) (chunk x g' u' w') := rfl

theorem pay7_eq (x : Vec Ideal S512x1024 .bf16) (a : FVec Ideal S512x1024 .f32) (g u g' u' : Vec Ideal S1024x256 .bf16) (w w' : Vec Ideal S256x1024 .bf16) :
    k0_pay7 x a (k0_pay6 x g) u w g' u' w' = addf (addf a (chunk x g u w)) (chunk x g' u' w') := rfl

theorem pay10_eq (x : Vec Ideal S512x1024 .bf16) (a : FVec Ideal S512x1024 .f32) (g u g' u' : Vec Ideal S1024x256 .bf16) (w w' : Vec Ideal S256x1024 .bf16) :
    k0_pay10 x a (k0_pay8 x g) (k0_pay9 x g) (Scalar.ofBits .f32 0x3F800000#32) u w g' u' w' = addf (addf a (chunk x g u w)) (chunk x g' u' w') := rfl

theorem pay13_eq (x : Vec Ideal S512x1024 .bf16) (a : FVec Ideal S512x1024 .f32) (g u g' u' : Vec Ideal S1024x256 .bf16) (w w' : Vec Ideal S256x1024 .bf16) :
    k0_pay13 x a (k0_pay11 x g) (k0_pay12 x g) u w g' u' w' = addf (addf a (chunk x g u w)) (chunk x g' u' w') := rfl

theorem pay15_eq (x : Vec Ideal S512x1024 .bf16) (a : FVec Ideal S512x1024 .f32) (g u g' u' : Vec Ideal S1024x256 .bf16) (w w' : Vec Ideal S256x1024 .bf16) :
    k0_pay15 x a (k0_pay14 x g) u w g' u' w' = addf (addf a (chunk x g u w)) (chunk x g' u' w') := rfl

/-- The accumulator after the eleven groups. -/
def acc (x : Vec Ideal S512x1024 .bf16) (wg wu : Vec Ideal S1024x2816 .bf16) (wd : Vec Ideal S2816x1024 .bf16) : FVec Ideal S512x1024 .f32 :=
  addf (addf (addf (addf (addf (addf (addf (addf (addf (addf (addf (broadcast S512x1024 (Scalar.ofBits (F := Ideal) .f32 0x00000000#32))
    (chunk x (View.ld wg r0_1) (View.ld wu r0_1) (View.ld wd r0_2))) (chunk x (View.ld wg r0_3) (View.ld wu r0_3) (View.ld wd r0_4)))
    (chunk x (View.ld wg r0_5) (View.ld wu r0_5) (View.ld wd r0_6))) (chunk x (View.ld wg r0_7) (View.ld wu r0_7) (View.ld wd r0_8)))
    (chunk x (View.ld wg r0_9) (View.ld wu r0_9) (View.ld wd r0_10))) (chunk x (View.ld wg r0_11) (View.ld wu r0_11) (View.ld wd r0_12)))
    (chunk x (View.ld wg r0_13) (View.ld wu r0_13) (View.ld wd r0_14))) (chunk x (View.ld wg r0_15) (View.ld wu r0_15) (View.ld wd r0_16)))
    (chunk x (View.ld wg r0_17) (View.ld wu r0_17) (View.ld wd r0_18))) (chunk x (View.ld wg r0_19) (View.ld wu r0_19) (View.ld wd r0_20)))
    (chunk x (View.ld wg r0_21) (View.ld wu r0_21) (View.ld wd r0_22))

/-- It holds the whole feed-forward product. -/
theorem acc_apply (x : Vec Ideal S512x1024 .bf16) (wg wu : Vec Ideal S1024x2816 .bf16) (wd : Vec Ideal S2816x1024 .bf16) (r : Fin 512) (d : Fin 1024) :
    acc x wg wu wd (ValueIdx.ix2 r d)
      = units (fun k => x (ValueIdx.ix2 r k)) (fun k (f : Fin 2816) => wg (ValueIdx.ix2 k f)) (fun k (f : Fin 2816) => wu (ValueIdx.ix2 k f)) (fun f : Fin 2816 => wd (ValueIdx.ix2 f d)) := by
  refine Eq.trans ?_ (groups (unit x wg wu wd r d)).symm
  refine congrArg₂ (· + ·) ?_ (group_apply x wg wu wd 2560 (by omega) _ _ r d)
  refine congrArg₂ (· + ·) ?_ (group_apply x wg wu wd 2304 (by omega) _ _ r d)
  refine congrArg₂ (· + ·) ?_ (group_apply x wg wu wd 2048 (by omega) _ _ r d)
  refine congrArg₂ (· + ·) ?_ (group_apply x wg wu wd 1792 (by omega) _ _ r d)
  refine congrArg₂ (· + ·) ?_ (group_apply x wg wu wd 1536 (by omega) _ _ r d)
  refine congrArg₂ (· + ·) ?_ (group_apply x wg wu wd 1280 (by omega) _ _ r d)
  refine congrArg₂ (· + ·) ?_ (group_apply x wg wu wd 1024 (by omega) _ _ r d)
  refine congrArg₂ (· + ·) ?_ (group_apply x wg wu wd 768 (by omega) _ _ r d)
  refine congrArg₂ (· + ·) ?_ (group_apply x wg wu wd 512 (by omega) _ _ r d)
  refine congrArg₂ (· + ·) ?_ (group_apply x wg wu wd 256 (by omega) _ _ r d)
  exact congrArg₂ (· + ·) Ideal.ofBits_zero_f32 (group_apply x wg wu wd 0 (by omega) _ _ r d)

/-! ## The norm -/

/-- A column laid along every lane. -/
theorem lay_apply (v : FVec Ideal S512x1 .f32) (r : Fin 512) (d : Fin 1024) : broadcastTo S512x1024 v broadcasts_S512x1_S512x1024 (ValueIdx.ix2 r d) = v (ValueIdx.ix2 r (0 : Fin 1)) := by
  refine broadcastTo_apply v broadcasts_S512x1_S512x1024 (ValueIdx.ix2 r d) (ValueIdx.ix2 r (0 : Fin 1)) fun a => ?_
  match a with
  | ⟨0, _⟩ => rfl
  | ⟨1, _⟩ => rfl

/-- The sum of a row's squares, kept as a column. -/
theorem squares_apply (v : FVec Ideal S512x1024 .f32) (r : Fin 512) :
    (shapeCast S512x1 (multiReduction .add [1] S512 (mulf v v) 0x00000000#32 reduces_S512x1024_S512 (.inl rfl) rfl : FVec Ideal S512 .f32) shapeCasts_S512_S512x1 : FVec Ideal S512x1 .f32)
      (ValueIdx.ix2 r (0 : Fin 1)) = ∑ k : Fin 1024, v (ValueIdx.ix2 r k) * v (ValueIdx.ix2 r k) := by
  refine (shapeCast_apply _ shapeCasts_S512_S512x1 (ValueIdx.ix2 r (0 : Fin 1)) (ValueIdx.ix1 r) ?_).trans ?_
  · refine (Shape.rowMajor_val_one (d := ![512]) _).trans (Eq.trans ?_ (Shape.rowMajor_val_two (d := ![512, 1]) _).symm)
    show r.val = r.val * 1 + 0
    omega
  · exact Ideal.reduceAdd_r2_a1 reduces_S512x1024_S512 (mulf v v) (ValueIdx.ix1 r)

/-- The last part of the body. -/
theorem pay1_apply (v : FVec Ideal S512x1024 .f32) (h : Vec Ideal S512x1024 .f32) (g : Vec Ideal S1x1024 .f32) (r : Fin 512) (d : Fin 1024) :
    k0_pay1 v h g (ValueIdx.ix2 r d) = h (ValueIdx.ix2 r d) + normed (fun k => v (ValueIdx.ix2 r k)) (g (ValueIdx.ix2 (0 : Fin 1) d)) d := by
  refine congrArg (h (ValueIdx.ix2 r d) + ·) (congrArg₂ (· * ·) (congrArg (v (ValueIdx.ix2 r d) * ·) ((lay_apply _ r d).trans ?_)) ?_)
  · exact congrArg (fun z : EReal => Ideal.rsqrt (Ideal.div z (Ideal.ofBits .f32 0x44800000#32) + Ideal.ofBits .f32 0x358637BD#32)) (squares_apply v r)
  · refine (ValueIdx.broadcastTo_1b_ab_apply _ broadcasts_S1x1024_S512x1024 r d).trans ?_
    rw [shapeCast_self]

/-! ## The block -/

/-- The body's block, as its last part over the accumulator. -/
theorem out_form (x0 : Vec Ideal S512x1024 .bf16) (x1 : Vec Ideal S512x1024 .f32) (x2 x3 : Vec Ideal S1024x2816 .bf16) (x4 : Vec Ideal S2816x1024 .bf16) (x5 : Vec Ideal S1x1024 .f32) :
    out0_6 x0 x1 x2 x3 x4 x5 = k0_pay1 (acc x0 x2 x3 x4) x1 x5 := by
  have e0 : View.ld x0 r0_0 = x0 := View.ld_unit_lit _ x0 (by decide)
  have e1 : View.ld x1 r0_0 = x1 := View.ld_unit_lit _ x1 (by decide)
  have e5 : View.ld x5 r0_23 = x5 := View.ld_unit_lit _ x5 (by decide)
  unfold out0_6
  refine (View.canon_cons_unit_lit _ _ _ (by decide)).trans ?_
  rw [e0, e1, e5, pay2_eq, pay5_eq, pay7_eq, pay10_eq, pay13_eq, pay15_eq]
  rfl

/-- The body's block, at an index. -/
theorem out_apply (x0 : Vec Ideal S512x1024 .bf16) (x1 : Vec Ideal S512x1024 .f32) (x2 x3 : Vec Ideal S1024x2816 .bf16) (x4 : Vec Ideal S2816x1024 .bf16) (x5 : Vec Ideal S1x1024 .f32)
    (r : Fin 512) (d : Fin 1024) :
    out0_6 x0 x1 x2 x3 x4 x5 (ValueIdx.ix2 r d) = x1 (ValueIdx.ix2 r d) + normed (fun j => units (fun k => x0 (ValueIdx.ix2 r k)) (fun k (f : Fin 2816) => x2 (ValueIdx.ix2 k f))
      (fun k (f : Fin 2816) => x3 (ValueIdx.ix2 k f)) (fun f : Fin 2816 => x4 (ValueIdx.ix2 f j))) (x5 (ValueIdx.ix2 (0 : Fin 1) d)) d := by
  rw [out_form]
  refine (pay1_apply _ x1 x5 r d).trans ?_
  exact congrArg (fun a : Fin 1024 → EReal => x1 (ValueIdx.ix2 r d) + normed a (x5 (ValueIdx.ix2 (0 : Fin 1) d)) d) (funext fun j => acc_apply x0 x2 x3 x4 r j)

end Cert.Kernel3Ideal.Dense

end
-- ==== Proof.Dense.Value.lean ====
/- The array the dense feed-forward call leaves, over the extended reals. -/
module

public import Idealize.ShloMosaic.Lib.Pipeline.ValueKit
public import proofs.«01_k».proof.Proof.Dense.Body

@[expose] public section

set_option maxRecDepth 16384

noncomputable section

namespace Cert.Kernel3Ideal.Dense

open Cert.Kernel3Ideal Cert.Kernel3Ideal.Gen
open Idealize.ShloMosaic Idealize.ShloMosaic.TcCoe Idealize.ShloMosaic.Tactic Idealize.SL.Sem
open Idealize.ShloMosaic.Pipeline (Dat Cfg Window)
open Cert.Kernel2Ideal.Expert (act units)

/-! ## The value -/

/-- Row `r` put through the feed-forward product, in lane `d`. -/
def ffn (y : FVec Ideal S32768x1024 .bf16) (wg wu : FVec Ideal S1024x2816 .f32) (wd : FVec Ideal S2816x1024 .f32) (r : Fin 32768) (d : Fin 1024) : EReal :=
  units (fun k => y (ValueIdx.ix2 r k)) (fun k (f : Fin 2816) => wg (ValueIdx.ix2 k f)) (fun k (f : Fin 2816) => wu (ValueIdx.ix2 k f)) (fun f : Fin 2816 => wd (ValueIdx.ix2 f d))

/-- Row `r`'s result in lane `d`: the product, normed and scaled, added to what came in beside it. -/
def outRow (y : FVec Ideal S32768x1024 .bf16) (h : FVec Ideal S32768x1024 .f32) (wg wu : FVec Ideal S1024x2816 .f32) (wd : FVec Ideal S2816x1024 .f32) (g : FVec Ideal S1024 .f32)
    (r : Fin 32768) (d : Fin 1024) : EReal :=
  h (ValueIdx.ix2 r d) + normed (fun j => ffn y wg wu wd r j) (g (ValueIdx.ix1 d)) d

/-- The result array. -/
def result (y : FVec Ideal S32768x1024 .bf16) (h : FVec Ideal S32768x1024 .f32) (wg wu : FVec Ideal S1024x2816 .f32) (wd : FVec Ideal S2816x1024 .f32) (g : FVec Ideal S1024 .f32) :
    FVec Ideal S32768x1024 .f32 := fun i => outRow y h wg wu wd g (⟨(i 0).val, (i 0).isLt⟩ : Fin 32768) (⟨(i 1).val, (i 1).isLt⟩ : Fin 1024)

/-! ## The blocks -/

variable (m : (ℓ : Loc nD τ sig) → Buf (Elt Ideal) ℓ) (ρ : Dev nD → PrngReg)

theorem V_main_v0 (c : Dev nD) : V m c main_v0 = m ((c : Thread nD τ).loc main_arg2) := by
  unfold V hostOps0
  after_results_simp
  rfl

theorem V_main_v1 (c : Dev nD) : V m c main_v1 = m ((c : Thread nD τ).loc main_arg3) := by
  unfold V hostOps0
  after_results_simp
  rfl

theorem V_main_v2 (c : Dev nD) : V m c main_v2 = m ((c : Thread nD τ).loc main_arg4) := by
  unfold V hostOps0
  after_results_simp
  rfl

theorem V_main_v3 (c : Dev nD) : V m c main_v3 = (shapeCast S1x1024 (m ((c : Thread nD τ).loc main_arg5) : FVec Ideal S1024 .f32) shapeCasts_S1024_S1x1024 : FVec Ideal S1x1024 .f32) := by
  unfold V hostOps0
  after_results_simp
  rfl

/-- A point's coordinate is its number. -/
theorem point_val (t : Fin grid0.N) : (grid0.coords t 0).val = t.val := by
  have ht : t.val < 64 := Nat.lt_of_lt_of_eq t.isLt N_0
  have e : (grid0.coords t 0).val = t.val / 1 % 64 := Pipeline.Grid.coords_val t 0 (by decide) rfl
  omega

theorem word_val (t : Fin grid0.N) : (BitVec.ofNat 32 (grid0.coords t 0).val).toNat = t.val := by
  have ht : t.val < 64 := Nat.lt_of_lt_of_eq t.isLt N_0
  rw [point_val, BitVec.toNat_ofNat]
  omega

theorem read0 (c : Dev nD) (t : Fin cfg0.N) (r : Fin 512) (k : Fin 1024) (R : Fin 32768) (hR : R.val = t.val * 512 + r.val) :
    iblk m c 0 t (ValueIdx.ix2 r k : S512x1024.Idx) = m ((c : Thread nD τ).loc main_arg0) (ValueIdx.ix2 R k : S32768x1024.Idx) := by
  refine Eq.trans ?_ (congrFun (V_main_arg0 m c) (ValueIdx.ix2 R k : S32768x1024.Idx))
  show V m c main_arg0 (((cfg0.win 0).blk t).view.emb (ValueIdx.ix2 r k : S512x1024.Idx)) = _
  refine congrArg (V m c main_arg0) (funext fun a => Fin.ext ?_)
  show cc0_transform_0 (grid0.coords t) a * S512x1024.size a + 1 * ((ValueIdx.ix2 r k : S512x1024.Idx) a).val = _
  match a with
  | ⟨0, _⟩ =>
    show (BitVec.ofNat 32 (grid0.coords t 0).val).toNat * 512 + 1 * r.val = R.val
    rw [word_val t, hR]; omega
  | ⟨1, _⟩ => show 0 * 1024 + 1 * k.val = k.val; omega

theorem read1 (c : Dev nD) (t : Fin cfg0.N) (r : Fin 512) (k : Fin 1024) (R : Fin 32768) (hR : R.val = t.val * 512 + r.val) :
    iblk m c 1 t (ValueIdx.ix2 r k : S512x1024.Idx) = m ((c : Thread nD τ).loc main_arg1) (ValueIdx.ix2 R k : S32768x1024.Idx) := by
  refine Eq.trans ?_ (congrFun (V_main_arg1 m c) (ValueIdx.ix2 R k : S32768x1024.Idx))
  show V m c main_arg1 (((cfg0.win 1).blk t).view.emb (ValueIdx.ix2 r k : S512x1024.Idx)) = _
  refine congrArg (V m c main_arg1) (funext fun a => Fin.ext ?_)
  show cc0_transform_1 (grid0.coords t) a * S512x1024.size a + 1 * ((ValueIdx.ix2 r k : S512x1024.Idx) a).val = _
  match a with
  | ⟨0, _⟩ =>
    show (BitVec.ofNat 32 (grid0.coords t 0).val).toNat * 512 + 1 * r.val = R.val
    rw [word_val t, hR]; omega
  | ⟨1, _⟩ => show 0 * 1024 + 1 * k.val = k.val; omega

theorem read2 (c : Dev nD) (t : Fin cfg0.N) (a : Fin 1024) (b : Fin 2816) :
    iblk m c 2 t (ValueIdx.ix2 a b : S1024x2816.Idx) = m ((c : Thread nD τ).loc main_arg2) (ValueIdx.ix2 a b : S1024x2816.Idx) := by
  refine Eq.trans ?_ (congrFun (V_main_v0 m c) (ValueIdx.ix2 a b : S1024x2816.Idx))
  show V m c main_v0 (((cfg0.win 2).blk t).view.emb (ValueIdx.ix2 a b : S1024x2816.Idx)) = _
  refine congrArg (V m c main_v0) (funext fun x => Fin.ext ?_)
  show cc0_transform_2 (grid0.coords t) x * S1024x2816.size x + 1 * ((ValueIdx.ix2 a b : S1024x2816.Idx) x).val = _
  match x with
  | ⟨0, _⟩ => show 0 * 1024 + 1 * a.val = a.val; omega
  | ⟨1, _⟩ => show 0 * 2816 + 1 * b.val = b.val; omega

theorem read3 (c : Dev nD) (t : Fin cfg0.N) (a : Fin 1024) (b : Fin 2816) :
    iblk m c 3 t (ValueIdx.ix2 a b : S1024x2816.Idx) = m ((c : Thread nD τ).loc main_arg3) (ValueIdx.ix2 a b : S1024x2816.Idx) := by
  refine Eq.trans ?_ (congrFun (V_main_v1 m c) (ValueIdx.ix2 a b : S1024x2816.Idx))
  show V m c main_v1 (((cfg0.win 3).blk t).view.emb (ValueIdx.ix2 a b : S1024x2816.Idx)) = _
  refine congrArg (V m c main_v1) (funext fun x => Fin.ext ?_)
  show cc0_transform_3 (grid0.coords t) x * S1024x2816.size x + 1 * ((ValueIdx.ix2 a b : S1024x2816.Idx) x).val = _
  match x with
  | ⟨0, _⟩ => show 0 * 1024 + 1 * a.val = a.val; omega
  | ⟨1, _⟩ => show 0 * 2816 + 1 * b.val = b.val; omega

theorem read4 (c : Dev nD) (t : Fin cfg0.N) (a : Fin 2816) (b : Fin 1024) :
    iblk m c 4 t (ValueIdx.ix2 a b : S2816x1024.Idx) = m ((c : Thread nD τ).loc main_arg4) (ValueIdx.ix2 a b : S2816x1024.Idx) := by
  refine Eq.trans ?_ (congrFun (V_main_v2 m c) (ValueIdx.ix2 a b : S2816x1024.Idx))
  show V m c main_v2 (((cfg0.win 4).blk t).view.emb (ValueIdx.ix2 a b : S2816x1024.Idx)) = _
  refine congrArg (V m c main_v2) (funext fun x => Fin.ext ?_)
  show cc0_transform_4 (grid0.coords t) x * S2816x1024.size x + 1 * ((ValueIdx.ix2 a b : S2816x1024.Idx) x).val = _
  match x with
  | ⟨0, _⟩ => show 0 * 2816 + 1 * a.val = a.val; omega
  | ⟨1, _⟩ => show 0 * 1024 + 1 * b.val = b.val; omega

theorem read5 (c : Dev nD) (t : Fin cfg0.N) (d : Fin 1024) :
    iblk m c 5 t (ValueIdx.ix2 (0 : Fin 1) d : S1x1024.Idx) = m ((c : Thread nD τ).loc main_arg5) (ValueIdx.ix1 d : S1024.Idx) := by
  have e : iblk m c 5 t (ValueIdx.ix2 (0 : Fin 1) d : S1x1024.Idx) = V m c main_v3 (ValueIdx.ix2 (0 : Fin 1) d : S1x1024.Idx) := by
    show V m c main_v3 (((cfg0.win 5).blk t).view.emb (ValueIdx.ix2 (0 : Fin 1) d : S1x1024.Idx)) = _
    refine congrArg (V m c main_v3) (funext fun x => Fin.ext ?_)
    show cc0_transform_5 (grid0.coords t) x * S1x1024.size x + 1 * ((ValueIdx.ix2 (0 : Fin 1) d : S1x1024.Idx) x).val = _
    match x with
    | ⟨0, _⟩ => rfl
    | ⟨1, _⟩ => show 0 * 1024 + 1 * d.val = d.val; omega
  refine e.trans ((congrFun (V_main_v3 m c) (ValueIdx.ix2 (0 : Fin 1) d : S1x1024.Idx)).trans ?_)
  refine shapeCast_apply (s := S1024) (t := S1x1024) (m ((c : Thread nD τ).loc main_arg5) : FVec Ideal S1024 .f32) shapeCasts_S1024_S1x1024 (ValueIdx.ix2 (0 : Fin 1) d) (ValueIdx.ix1 d) ?_
  refine (Shape.rowMajor_val_one (d := ![1024]) _).trans (Eq.trans ?_ (Shape.rowMajor_val_two (d := ![1, 1024]) _).symm)
  show d.val = 0 * 1024 + d.val
  omega

/-- What point `t` leaves in its block. -/
theorem block_apply (c : Dev nD) (t : Fin cfg0.N) (r : Fin 512) (d : Fin 1024) (R : Fin 32768) (hR : R.val = t.val * 512 + r.val) :
    out0_6 (iblk m c 0 t) (iblk m c 1 t) (iblk m c 2 t) (iblk m c 3 t) (iblk m c 4 t) (iblk m c 5 t) (ValueIdx.ix2 r d : S512x1024.Idx)
      = outRow (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) R d := by
  refine (out_apply _ _ _ _ _ _ r d).trans ?_
  have hx : (fun k : Fin 1024 => (iblk m c 0 t : Vec Ideal S512x1024 .bf16) (ValueIdx.ix2 r k)) = fun k => (m ((c : Thread nD τ).loc main_arg0) : FVec Ideal S32768x1024 .bf16) (ValueIdx.ix2 R k) :=
    funext fun k => read0 m c t r k R hR
  have hg : (fun (k : Fin 1024) (f : Fin 2816) => (iblk m c 2 t : Vec Ideal S1024x2816 .bf16) (ValueIdx.ix2 k f)) = fun k f => (m ((c : Thread nD τ).loc main_arg2) : FVec Ideal S1024x2816 .f32) (ValueIdx.ix2 k f) :=
    funext fun k => funext fun f => read2 m c t k f
  have hu : (fun (k : Fin 1024) (f : Fin 2816) => (iblk m c 3 t : Vec Ideal S1024x2816 .bf16) (ValueIdx.ix2 k f)) = fun k f => (m ((c : Thread nD τ).loc main_arg3) : FVec Ideal S1024x2816 .f32) (ValueIdx.ix2 k f) :=
    funext fun k => funext fun f => read3 m c t k f
  have hd : (fun (j : Fin 1024) (f : Fin 2816) => (iblk m c 4 t : Vec Ideal S2816x1024 .bf16) (ValueIdx.ix2 f j)) = fun j f => (m ((c : Thread nD τ).loc main_arg4) : FVec Ideal S2816x1024 .f32) (ValueIdx.ix2 f j) :=
    funext fun j => funext fun f => read4 m c t f j
  unfold outRow ffn
  refine congrArg₂ (· + ·) (read1 m c t r d R hR) ?_
  refine congrArg₂ (fun (a : Fin 1024 → EReal) (g : EReal) => normed a g d) (funext fun j => ?_) (read5 m c t d)
  rw [hx, hg, hu, congrFun hd j]

/-! ## The array -/

/-- Where block `t` of the result lies. -/
theorem emb6 (t : Fin cfg0.N) (y : S512x1024.Idx) (a : Fin 2) :
    (((cfg0.win 6).blk t).view.emb y a : ℕ) = cc0_transform_6 (grid0.coords t) a * S512x1024.size a + 1 * (y a).val := rfl

theorem emb6_row (t : Fin cfg0.N) (y : S512x1024.Idx) : (((cfg0.win 6).blk t).view.emb y (0 : Fin 2) : ℕ) = t.val * 512 + (y 0).val := by
  refine (emb6 t y 0).trans ?_
  show (BitVec.ofNat 32 (grid0.coords t 0).val).toNat * 512 + 1 * (y 0).val = _
  rw [word_val t]
  omega

theorem emb6_lane (t : Fin cfg0.N) (y : S512x1024.Idx) : (((cfg0.win 6).blk t).view.emb y (1 : Fin 2) : ℕ) = (y 1).val := by
  refine (emb6 t y 1).trans ?_
  show 0 * 1024 + 1 * (y 1).val = _
  omega

/-- What a point writes is the result's block. -/
theorem block_eq (c : Dev nD) (t : Fin cfg0.N) (y : S512x1024.Idx) :
    out0_6 (iblk m c 0 t) (iblk m c 1 t) (iblk m c 2 t) (iblk m c 3 t) (iblk m c 4 t) (iblk m c 5 t) y
      = result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (((cfg0.win 6).blk t).view.emb y) := by
  have h0 : (y 0).val < 512 := (y 0).isLt
  have h1 : (y 1).val < 1024 := (y 1).isLt
  have ht : t.val < 64 := Nat.lt_of_lt_of_eq t.isLt N_0
  have ey : y = (ValueIdx.ix2 (⟨(y 0).val, h0⟩ : Fin 512) (⟨(y 1).val, h1⟩ : Fin 1024) : S512x1024.Idx) := funext fun a => by
    match a with
    | ⟨0, _⟩ => rfl
    | ⟨1, _⟩ => rfl
  have A := block_apply m c t ⟨(y 0).val, h0⟩ ⟨(y 1).val, h1⟩ ⟨t.val * 512 + (y 0).val, by omega⟩ rfl
  rw [← ey] at A
  refine A.trans ?_
  unfold result
  exact congrArg₂ (outRow _ _ _ _ _ _) (Fin.ext (emb6_row t y).symm) (Fin.ext (emb6_lane t y).symm)

/-- Every row lies in the block some point writes. -/
theorem cover6 (i : S32768x1024.Idx) : ∃ t : Fin cfg0.N, (cfg0.win 6).flush t = true ∧ i ∈ ((cfg0.win 6).blk t).view.set := by
  have hi : (i 0).val < 32768 := (i 0).isLt
  have hi1 : (i 1).val < 1024 := (i 1).isLt
  obtain ⟨t, ht⟩ : ∃ t : Fin cfg0.N, t.val = (i 0).val / 512 := ⟨⟨_, Nat.lt_of_lt_of_eq (by omega) N_0.symm⟩, rfl⟩
  refine ⟨t, flush0_6 t, ?_⟩
  have e : ((cfg0.win 6).blk t).view.emb (ValueIdx.ix2 (⟨(i 0).val % 512, Nat.mod_lt _ (by decide)⟩ : Fin 512) (⟨(i 1).val, hi1⟩ : Fin 1024) : S512x1024.Idx) = i := by
    funext a
    refine Fin.ext ?_
    match a with
    | ⟨0, _⟩ =>
      refine (emb6_row t _).trans ?_
      show t.val * 512 + (i 0).val % 512 = (i 0).val
      rw [ht]; omega
    | ⟨1, _⟩ => exact emb6_lane t _
  rw [← e]
  exact View.emb_mem_set _ _

/-- The array after the last point. -/
theorem out_eq (c : Dev nD) : (dats m 0 c).arrAt 6 cfg0.N
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_emb 6 _ (fun t _ y => ?_) fun i => ?_
  · exact (congrFun (after0_6 m c t) y).trans (block_eq m c t y)
  · exact cover6 i

/-- Every run leaves the result and the arguments unchanged. -/
theorem value : θ_run defs (onTc (τ := τ) (main (F := Ideal))) ⟨m, fun _ => 0, ρ⟩ (fun r => ∀ c : Dev nD,
      r.2.mem ((c.tc : Thread nD τ).loc main_v4) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m c), (h c).2⟩) (Cert.Kernel3Ideal.Value.run_blocks (F := Ideal) m ρ)

end Cert.Kernel3Ideal.Dense

end
-- ==== Proof.Dense.Reference.lean ====
/- The array the dense reference leaves, over the extended reals, and that it is the kernel's. -/
module

public import Idealize.ShloMosaic.Lib.Pointwise.Reduce
public import proofs.«01_k».proof.Proof.Gen.Reference3Ideal.Run
public import proofs.«01_k».proof.Proof.Dense.Value
public import proofs.«01_k».proof.Proof.Expert.Reference

@[expose] public section

set_option maxRecDepth 16384

noncomputable section

namespace Cert.Reference3Ideal.Dense

open Cert.Reference3Ideal Cert.Reference3Ideal.Gen
open Cert.Kernel2Ideal.Expert (act units ofBits_one)
open Cert.Reference2Ideal.Expert (host_mm)
open Cert.Kernel3Ideal.Dense (normed ffn outRow result)
open Idealize.ShloMosaic Idealize.ShloMosaic.TcCoe

/-- The gated product, at an index. -/
theorem host_act (g u : FVec Ideal S32768x2816 .f32) (i : S32768x2816.Idx) :
    mulf (mulf g (Host.divf (broadcastInDim S32768x2816 ![] bcast_S_S32768x2816 (constant (F := Ideal) S_ .f32 0x3F800000#32))
      (addf (broadcastInDim S32768x2816 ![] bcast_S_S32768x2816 (constant (F := Ideal) S_ .f32 0x3F800000#32)) (Host.exp (Host.negf g))))) u i = act (g i) (u i) := by
  show g i * Ideal.div (Ideal.ofBits .f32 0x3F800000#32) (Ideal.ofBits .f32 0x3F800000#32 + Ideal.exp (-(g i))) * u i = _
  rw [ofBits_one]
  rfl

/-- A gate or up product of all the rows. -/
abbrev proj (y : FVec Ideal S32768x1024 .bf16) (w : FVec Ideal S1024x2816 .f32) : FVec Ideal S32768x2816 .f32 :=
  Host.dotGeneral dot_S32768x1024_S1024x2816_S32768x2816_1_0_0_1_n_n none (extf .f32 y bitsLt_bf16_f32 : FVec Ideal S32768x1024 .f32) w

/-- The gated units of all the rows. -/
abbrev hidden (y : FVec Ideal S32768x1024 .bf16) (wg wu : FVec Ideal S1024x2816 .f32) : FVec Ideal S32768x2816 .f32 :=
  mulf (mulf (proj y wg) (Host.divf (broadcastInDim S32768x2816 ![] bcast_S_S32768x2816 (constant (F := Ideal) S_ .f32 0x3F800000#32))
      (addf (broadcastInDim S32768x2816 ![] bcast_S_S32768x2816 (constant (F := Ideal) S_ .f32 0x3F800000#32)) (Host.exp (Host.negf (proj y wg)))))) (proj y wu)

/-- The feed-forward product of all the rows. -/
def prod (y : FVec Ideal S32768x1024 .bf16) (wg wu : FVec Ideal S1024x2816 .f32) (wd : FVec Ideal S2816x1024 .f32) : FVec Ideal S32768x1024 .f32 :=
  Host.dotGeneral dot_S32768x2816_S2816x1024_S32768x1024_1_0_0_1_n_n none (hidden y wg wu) wd

/-- The product, at an index. -/
theorem prod_apply (y : FVec Ideal S32768x1024 .bf16) (wg wu : FVec Ideal S1024x2816 .f32) (wd : FVec Ideal S2816x1024 .f32) (r : Fin 32768) (d : Fin 1024) :
    prod y wg wu wd (ValueIdx.ix2 r d) = ffn y wg wu wd r d := by
  unfold ffn units
  refine (host_mm _ rfl _ _ r d).trans (Finset.sum_congr rfl fun f _ => congrArg (· * wd (ValueIdx.ix2 f d)) ?_)
  exact (host_act (proj y wg) (proj y wu) (ValueIdx.ix2 r f)).trans (congrArg₂ act (host_mm _ rfl _ _ r f) (host_mm _ rfl _ _ r f))

/-- The reference's norm of the rows, over the gain, added to what came in beside it. -/
def finish (v h : FVec Ideal S32768x1024 .f32) (g : FVec Ideal S1024 .f32) : FVec Ideal S32768x1024 .f32 :=
  addf h (mulf (mulf v (broadcastInDim S32768x1024 ![0, 1] bcast_S32768x1_S32768x1024_0_1 (Host.rsqrt (addf (Host.divf
      (broadcastInDim S32768x1 ![0] bcast_S32768_S32768x1_0 (Host.reduceAdd (mulf v v) (constant (F := Ideal) S_ .f32 0x00000000#32) reducesTo_S32768x1024_S32768_d1 h_S_))
      (broadcastInDim S32768x1 ![] bcast_S_S32768x1 (constant (F := Ideal) S_ .f32 0x44800000#32))) (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1 g)))

/-- The sum of a row's squares, kept as a column. -/
theorem squares_apply (v : FVec Ideal S32768x1024 .f32) (r : Fin 32768) :
    (broadcastInDim S32768x1 ![0] bcast_S32768_S32768x1_0 (Host.reduceAdd (mulf v v) (constant (F := Ideal) S_ .f32 0x00000000#32) reducesTo_S32768x1024_S32768_d1 h_S_ : FVec Ideal S32768 .f32) : FVec Ideal S32768x1 .f32)
      (ValueIdx.ix2 r (0 : Fin 1)) = ∑ k : Fin 1024, v (ValueIdx.ix2 r k) * v (ValueIdx.ix2 r k) := by
  refine (broadcastInDim_apply (s := S32768) (t := S32768x1) ![0] bcast_S32768_S32768x1_0 _ (ValueIdx.ix2 r (0 : Fin 1)) (ValueIdx.ix1 r) ?_).trans ?_
  · intro a
    match a with
    | ⟨0, _⟩ => rfl
  · refine (Ideal.hostReduceAdd_r2_a1 reducesTo_S32768x1024_S32768_d1 (mulf v v) (Ideal.ofBits .f32 0x00000000#32) (ValueIdx.ix1 r)).trans ?_
    rw [Ideal.ofBits_zero_f32, zero_add]
    rfl

/-- The norm, at an index. -/
theorem finish_apply (v h : FVec Ideal S32768x1024 .f32) (g : FVec Ideal S1024 .f32) (r : Fin 32768) (d : Fin 1024) :
    finish v h g (ValueIdx.ix2 r d) = h (ValueIdx.ix2 r d) + normed (fun k => v (ValueIdx.ix2 r k)) (g (ValueIdx.ix1 d)) d := by
  refine congrArg (h (ValueIdx.ix2 r d) + ·) (congrArg₂ (· * ·) (congrArg (v (ValueIdx.ix2 r d) * ·) ?_) ?_)
  · refine (broadcastInDim_apply (s := S32768x1) (t := S32768x1024) ![0, 1] bcast_S32768x1_S32768x1024_0_1 _ (ValueIdx.ix2 r d) (ValueIdx.ix2 r (0 : Fin 1)) ?_).trans ?_
    · intro a
      match a with
      | ⟨0, _⟩ => rfl
      | ⟨1, _⟩ => rfl
    · exact congrArg (fun z : EReal => Ideal.rsqrt (Ideal.div z (Ideal.ofBits .f32 0x44800000#32) + Ideal.ofBits .f32 0x358637BD#32)) (squares_apply v r)
  · refine (broadcastInDim_apply (s := S1x1024) (t := S32768x1024) ![0, 1] bcast_S1x1024_S32768x1024_0_1 _ (ValueIdx.ix2 r d) (ValueIdx.ix2 (0 : Fin 1) d) ?_).trans ?_
    · intro a
      match a with
      | ⟨0, _⟩ => rfl
      | ⟨1, _⟩ => rfl
    · refine broadcastInDim_apply (s := S1024) (t := S1x1024) ![1] bcast_S1024_S1x1024_1 g (ValueIdx.ix2 (0 : Fin 1) d) (ValueIdx.ix1 d) ?_
      intro a
      match a with
      | ⟨0, _⟩ => rfl

/-- The reference's result is the kernel's. -/
theorem result_eq (y : FVec Ideal S32768x1024 .bf16) (h : FVec Ideal S32768x1024 .f32) (wg wu : FVec Ideal S1024x2816 .f32) (wd : FVec Ideal S2816x1024 .f32) (g : FVec Ideal S1024 .f32) :
    finish (prod y wg wu wd) h g = result y h wg wu wd g := by
  funext i
  have h0 : (i 0).val < 32768 := (i 0).isLt
  have h1 : (i 1).val < 1024 := (i 1).isLt
  have e : i = (ValueIdx.ix2 (⟨(i 0).val, h0⟩ : Fin 32768) (⟨(i 1).val, h1⟩ : Fin 1024) : S32768x1024.Idx) := funext fun a => by
    match a with
    | ⟨0, _⟩ => rfl
    | ⟨1, _⟩ => rfl
  have A := finish_apply (prod y wg wu wd) h g ⟨(i 0).val, h0⟩ ⟨(i 1).val, h1⟩
  rw [← e] at A
  refine A.trans ?_
  unfold result outRow
  refine congrArg₂ (· + ·) (congrArg h e) ?_
  exact congrArg (fun a : Fin 1024 → EReal => normed a (g (ValueIdx.ix1 (⟨(i 1).val, h1⟩ : Fin 1024))) ⟨(i 1).val, h1⟩) (funext fun j => prod_apply y wg wu wd _ j)

end Cert.Reference3Ideal.Dense

end
-- ==== Proof.Input.Body.lean ====
/- The spatial gate's half of the input projection in the body of the call, over the extended reals. -/
module

public import Idealize.ShloMosaic.Lib.Writes
public import proofs.«01_k».proof.Proof.Gen.Kernel4Ideal.Value
public import proofs.«01_k».proof.Proof.Dense.Body

@[expose] public section

set_option maxRecDepth 16384

noncomputable section

namespace Cert.Kernel4Ideal.Input

open Cert.Kernel4Ideal Cert.Kernel4Ideal.Gen
open Idealize.ShloMosaic Idealize.ShloMosaic.TcCoe
open Cert.Kernel2Ideal.Expert (mm_apply)
open Cert.Kernel3Ideal.Dense (normed)

/-! ## The formula -/

/-- The hyperbolic-tangent form of the gelu. -/
def gelu (z : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * z * z)))))

/-- A row, normed and scaled by the gain, times a column of the weights. -/
def proj (x g w : Fin 1024 → EReal) : EReal := ∑ k : Fin 1024, normed x (g k) k * w k

/-! ## Half a block -/

/-- A column laid along every lane. -/
theorem lay_apply (v : FVec Ideal S256x1 .f32) (r : Fin 256) (d : Fin 1024) : broadcastTo S256x1024 v broadcasts_S256x1_S256x1024 (ValueIdx.ix2 r d) = v (ValueIdx.ix2 r (0 : Fin 1)) := by
  refine broadcastTo_apply v broadcasts_S256x1_S256x1024 (ValueIdx.ix2 r d) (ValueIdx.ix2 r (0 : Fin 1)) fun a => ?_
  match a with
  | ⟨0, _⟩ => rfl
  | ⟨1, _⟩ => rfl

/-- The sum of a row's squares, kept as a column. -/
theorem squares_apply (v : FVec Ideal S256x1024 .f32) (r : Fin 256) :
    (shapeCast S256x1 (multiReduction .add [1] S256 (mulf v v) 0x00000000#32 reduces_S256x1024_S256 (.inl rfl) rfl : FVec Ideal S256 .f32) shapeCasts_S256_S256x1 : FVec Ideal S256x1 .f32)
      (ValueIdx.ix2 r (0 : Fin 1)) = ∑ k : Fin 1024, v (ValueIdx.ix2 r k) * v (ValueIdx.ix2 r k) := by
  refine (shapeCast_apply _ shapeCasts_S256_S256x1 (ValueIdx.ix2 r (0 : Fin 1)) (ValueIdx.ix1 r) ?_).trans ?_
  · refine (Shape.rowMajor_val_one (d := ![256]) _).trans (Eq.trans ?_ (Shape.rowMajor_val_two (d := ![256, 1]) _).symm)
    show r.val = r.val * 1 + 0
    omega
  · exact Ideal.reduceAdd_r2_a1 reduces_S256x1024_S256 (mulf v v) (ValueIdx.ix1 r)

/-- The normed rows. -/
theorem rows_apply (x : Vec Ideal S256x1024 .f32) (g : Vec Ideal S1x1024 .f32) (r : Fin 256) (k : Fin 1024) :
    k0_pay6 x g (ValueIdx.ix2 r k) = normed (fun j => x (ValueIdx.ix2 r j)) (g (ValueIdx.ix2 (0 : Fin 1) k)) k := by
  refine congrArg₂ (· * ·) (congrArg (x (ValueIdx.ix2 r k) * ·) ((lay_apply _ r k).trans ?_)) ?_
  · exact congrArg (fun z : EReal => Ideal.rsqrt (Ideal.div z (Ideal.ofBits .f32 0x44800000#32) + Ideal.ofBits .f32 0x358637BD#32)) (squares_apply x r)
  · refine (ValueIdx.broadcastTo_1b_ab_apply _ broadcasts_S1x1024_S256x1024 r k).trans ?_
    rw [shapeCast_self]

/-- The projected rows. -/
theorem proj_apply (x : Vec Ideal S256x1024 .f32) (g : Vec Ideal S1x1024 .f32) (w : Vec Ideal S1024x1280 .bf16) (r : Fin 256) (f : Fin 1280) :
    k0_pay7 x g w (ValueIdx.ix2 r f) = proj (fun j => x (ValueIdx.ix2 r j)) (fun k => g (ValueIdx.ix2 (0 : Fin 1) k)) (fun k => w (ValueIdx.ix2 k f)) := by
  refine (mm_apply _ rfl _ _ r f).trans (Finset.sum_congr rfl fun k _ => ?_)
  rw [shapeCast_self]
  exact congrArg (· * _) (rows_apply x g r k)

/-- The second half of the rows is projected alike. -/
theorem proj_again (x : Vec Ideal S256x1024 .f32) (g : Vec Ideal S1x1024 .f32) (w : Vec Ideal S1024x1280 .bf16) : k0_pay30 x g w = k0_pay7 x g w := rfl

/-- The gelu of the columns from 768 on. -/
theorem gelu_apply (z : FVec Ideal S256x1280 .f32) (r : Fin 256) (j : Fin 512) :
    k0_pay22 z (ValueIdx.ix2 r j) = gelu (z (ValueIdx.ix2 r (⟨768 + j.val, by omega⟩ : Fin 1280))) := by
  refine Eq.trans (b := gelu ((extractStridedSlice S256x512 ![0, 768] z slices_S256x1280_o0_768_S256x512 : FVec Ideal S256x512 .f32) (ValueIdx.ix2 r j))) rfl (congrArg gelu ?_)
  refine extractStridedSlice_apply _ z slices_S256x1280_o0_768_S256x512 (ValueIdx.ix2 r j) _ fun a => ?_
  match a with
  | ⟨0, _⟩ => show r.val = 0 + r.val; omega
  | ⟨1, _⟩ => rfl

theorem gelu_again (z : FVec Ideal S256x1280 .f32) : k0_pay49 z = k0_pay22 z := rfl

/-! ## The block -/

/-- Half a block's rows, loaded. -/
theorem half_apply (x : Vec Ideal S512x1024 .f32) (o : ℕ) (inb : ∀ a, (![o, 0] : Fin 2 → ℕ) a + S256x1024.size a ≤ S512x1024.size a) (r : Fin 256) (k : Fin 1024) (R : Fin 512) (hR : R.val = o + r.val) :
    (View.ld (Val := Elt Ideal) x (Rect.unit (s := S512x1024) ![o, 0] S256x1024.size inb) : Vec Ideal S256x1024 .f32) (ValueIdx.ix2 r k) = x (ValueIdx.ix2 R k) := by
  refine congrArg x (funext fun a => Fin.ext ?_)
  match a with
  | ⟨0, _⟩ => show o + 1 * r.val = R.val; omega
  | ⟨1, _⟩ => show 0 + 1 * k.val = k.val; omega

/-- Row `r` of a block, put through the gate's half of the projection. -/
def gate (x0 : Vec Ideal S512x1024 .f32) (x3 : Vec Ideal S1x1024 .f32) (x4 : Vec Ideal S1024x1280 .bf16) (r : Fin 512) (j : Fin 512) : EReal :=
  gelu (proj (fun k => x0 (ValueIdx.ix2 r k)) (fun k => x3 (ValueIdx.ix2 (0 : Fin 1) k)) (fun k => x4 (ValueIdx.ix2 k (⟨768 + j.val, by omega⟩ : Fin 1280))))

/-- What one half stores. -/
theorem store_apply (x0 : Vec Ideal S512x1024 .f32) (x3 : Vec Ideal S1x1024 .f32) (x4 : Vec Ideal S1024x1280 .bf16) (o : ℕ) (inb : ∀ a, (![o, 0] : Fin 2 → ℕ) a + S256x1024.size a ≤ S512x1024.size a)
    (r : Fin 256) (j : Fin 512) (R : Fin 512) (hR : R.val = o + r.val) :
    k0_pay22 (k0_pay7 (View.ld (Val := Elt Ideal) x0 (Rect.unit (s := S512x1024) ![o, 0] S256x1024.size inb)) x3 x4) (ValueIdx.ix2 r j) = gate x0 x3 x4 R j := by
  refine (gelu_apply _ r j).trans (congrArg gelu ((proj_apply _ _ _ r _).trans ?_))
  exact congrArg (fun a : Fin 1024 → EReal => proj a (fun k => x3 (ValueIdx.ix2 (0 : Fin 1) k)) (fun k => x4 (ValueIdx.ix2 k (⟨768 + j.val, by omega⟩ : Fin 1280)))) (funext fun k => half_apply x0 o inb r k R hR)

/-- Row `r` of two stacked halves, in the first one. -/
theorem stacked_low (w0 w1 : Vec Ideal S256x512 .f32) (r : Fin 512) (j : Fin 512) (h : r.val < 256) :
    (View.canon ([⟨r0_19, w1⟩, ⟨r0_8, w0⟩] : List (View.Piece (Elt Ideal) S512x512 .f32)) : Vec Ideal S512x512 .f32) (ValueIdx.ix2 r j) = w0 (ValueIdx.ix2 (⟨r.val, h⟩ : Fin 256) j) := by
  have hm : (ValueIdx.ix2 r j : S512x512.Idx) ∉ r0_19.set := Rect.not_mem_set_of_axis r0_19 (ValueIdx.ix2 r j) (0 : Fin 2) 256 256 rfl rfl rfl (.inl h)
  have e : r0_8.emb (ValueIdx.ix2 (⟨r.val, h⟩ : Fin 256) j : S256x512.Idx) = (ValueIdx.ix2 r j : S512x512.Idx) := funext fun a => Fin.ext (by
    match a with
    | ⟨0, _⟩ => show 0 + 1 * r.val = r.val; omega
    | ⟨1, _⟩ => show 0 + 1 * j.val = j.val; omega)
  refine (View.canon_cons_of_not_mem (⟨r0_19, w1⟩ : View.Piece (Elt Ideal) S512x512 .f32) _ hm).trans ?_
  exact (congrArg _ e.symm).trans (View.canon_cons_emb (Val := Elt Ideal) (e := .f32) r0_8 w0 [] _)

/-- Row `r` of two stacked halves, in the second one. -/
theorem stacked_high (w0 w1 : Vec Ideal S256x512 .f32) (r : Fin 512) (j : Fin 512) (h : r.val - 256 < 256) (h' : 256 ≤ r.val) :
    (View.canon ([⟨r0_19, w1⟩, ⟨r0_8, w0⟩] : List (View.Piece (Elt Ideal) S512x512 .f32)) : Vec Ideal S512x512 .f32) (ValueIdx.ix2 r j) = w1 (ValueIdx.ix2 (⟨r.val - 256, h⟩ : Fin 256) j) := by
  have e : r0_19.emb (ValueIdx.ix2 (⟨r.val - 256, h⟩ : Fin 256) j : S256x512.Idx) = (ValueIdx.ix2 r j : S512x512.Idx) := funext fun a => Fin.ext (by
    match a with
    | ⟨0, _⟩ => show 256 + 1 * (r.val - 256) = r.val; omega
    | ⟨1, _⟩ => show 0 + 1 * j.val = j.val; omega)
  exact (congrArg _ e.symm).trans (View.canon_cons_emb (Val := Elt Ideal) (e := .f32) r0_19 w1 _ _)

/-- The block of the gate, at an index. -/
theorem out_apply (x0 : Vec Ideal S512x1024 .f32) (x1 x2 : Vec Ideal S512x128 .f32) (x3 : Vec Ideal S1x1024 .f32) (x4 : Vec Ideal S1024x1280 .bf16) (x5 : Vec Ideal S512x1024 .bf16)
    (x6 x7 : Vec Ideal S512x128 .f32) (r : Fin 512) (j : Fin 512) : out0_10 x0 x1 x2 x3 x4 x5 x6 x7 (ValueIdx.ix2 r j) = gate x0 x3 x4 r j := by
  have e3 : View.ld x3 r0_1 = x3 := View.ld_unit_lit _ x3 (by decide)
  have e4 : View.ld x4 r0_2 = x4 := View.ld_unit_lit _ x4 (by decide)
  unfold out0_10 k0_pay64 k0_pay55
  rw [e3, e4, gelu_again, proj_again]
  by_cases h : r.val < 256
  · exact (stacked_low _ _ r j h).trans (store_apply x0 x3 x4 0 _ ⟨r.val, h⟩ j r (Nat.zero_add _).symm)
  · have h' : r.val - 256 < 256 := by omega
    have e : r.val = 256 + (r.val - 256) := by omega
    exact (stacked_high _ _ r j h' (by omega)).trans (store_apply x0 x3 x4 256 _ ⟨r.val - 256, h'⟩ j r e)

end Cert.Kernel4Ideal.Input

end
-- ==== Proof.Input.Value.lean ====
/- The array of the gate's half that the projection call leaves, over the extended reals. -/
module

public import Idealize.ShloMosaic.Lib.Pipeline.ValueKit
public import proofs.«01_k».proof.Proof.Input.Body

@[expose] public section

set_option maxRecDepth 16384

noncomputable section

namespace Cert.Kernel4Ideal.Input

open Cert.Kernel4Ideal Cert.Kernel4Ideal.Gen
open Idealize.ShloMosaic Idealize.ShloMosaic.TcCoe Idealize.ShloMosaic.Tactic Idealize.SL.Sem
open Idealize.ShloMosaic.Pipeline (Dat Cfg Window)

/-! ## The value -/

/-- Row `r`'s gelu of its product with column `768 + j` of the weights. -/
def gateRow (h : FVec Ideal S32768x1024 .f32) (g : FVec Ideal S1024 .f32) (w : FVec Ideal S1024x1792 .f32) (r : Fin 32768) (j : Fin 512) : EReal :=
  gelu (proj (fun k => h (ValueIdx.ix2 r k)) (fun k => g (ValueIdx.ix1 k)) (fun k => w (ValueIdx.ix2 k (⟨768 + j.val, by omega⟩ : Fin 1792))))

/-- The result array. -/
def result (h : FVec Ideal S32768x1024 .f32) (g : FVec Ideal S1024 .f32) (w : FVec Ideal S1024x1792 .f32) : FVec Ideal S32768x512 .f32 := fun i =>
  gateRow h g w (⟨(i 0).val, (i 0).isLt⟩ : Fin 32768) (⟨(i 1).val, (i 1).isLt⟩ : Fin 512)

/-! ## The blocks -/

variable (m : (ℓ : Loc nD τ sig) → Buf (Elt Ideal) ℓ) (ρ : Dev nD → PrngReg)

theorem V_main_v1 (c : Dev nD) : V m c main_v1 = (shapeCast S1x1024 (m ((c : Thread nD τ).loc main_arg3) : FVec Ideal S1024 .f32) shapeCasts_S1024_S1x1024 : FVec Ideal S1x1024 .f32) := by
  unfold V hostOps0
  after_results_simp
  rfl

theorem V_main_v2 (c : Dev nD) : V m c main_v2 = (extractStridedSlice S1024x1280 ![0, 0] (m ((c : Thread nD τ).loc main_arg4) : FVec Ideal S1024x1792 .f32) slices_S1024x1792_S1024x1280_0_0 : FVec Ideal S1024x1280 .f32) := by
  unfold V hostOps0
  after_results_simp
  rfl

/-- A point's coordinate is its number. -/
theorem word_val (t : Fin grid0.N) : (BitVec.ofNat 32 (grid0.coords t 0).val).toNat = t.val := by
  have ht : t.val < 64 := Nat.lt_of_lt_of_eq t.isLt N_0
  have e : (grid0.coords t 0).val = t.val / 1 % 64 := Pipeline.Grid.coords_val t 0 (by decide) rfl
  rw [BitVec.toNat_ofNat]
  omega

theorem read0 (c : Dev nD) (t : Fin cfg0.N) (r : Fin 512) (k : Fin 1024) (R : Fin 32768) (hR : R.val = t.val * 512 + r.val) :
    iblk m c 0 t (ValueIdx.ix2 r k : S512x1024.Idx) = m ((c : Thread nD τ).loc main_arg0) (ValueIdx.ix2 R k : S32768x1024.Idx) := by
  refine Eq.trans ?_ (congrFun (V_main_arg0 m c) (ValueIdx.ix2 R k : S32768x1024.Idx))
  show V m c main_arg0 (((cfg0.win 0).blk t).view.emb (ValueIdx.ix2 r k : S512x1024.Idx)) = _
  refine congrArg (V m c main_arg0) (funext fun a => Fin.ext ?_)
  show cc0_transform_0 (grid0.coords t) a * S512x1024.size a + 1 * ((ValueIdx.ix2 r k : S512x1024.Idx) a).val = _
  match a with
  | ⟨0, _⟩ =>
    show (BitVec.ofNat 32 (grid0.coords t 0).val).toNat * 512 + 1 * r.val = R.val
    rw [word_val t, hR]; omega
  | ⟨1, _⟩ => show 0 * 1024 + 1 * k.val = k.val; omega

theorem read3 (c : Dev nD) (t : Fin cfg0.N) (d : Fin 1024) :
    iblk m c 3 t (ValueIdx.ix2 (0 : Fin 1) d : S1x1024.Idx) = m ((c : Thread nD τ).loc main_arg3) (ValueIdx.ix1 d : S1024.Idx) := by
  have e : iblk m c 3 t (ValueIdx.ix2 (0 : Fin 1) d : S1x1024.Idx) = V m c main_v1 (ValueIdx.ix2 (0 : Fin 1) d : S1x1024.Idx) := by
    show V m c main_v1 (((cfg0.win 3).blk t).view.emb (ValueIdx.ix2 (0 : Fin 1) d : S1x1024.Idx)) = _
    refine congrArg (V m c main_v1) (funext fun x => Fin.ext ?_)
    show cc0_transform_3 (grid0.coords t) x * S1x1024.size x + 1 * ((ValueIdx.ix2 (0 : Fin 1) d : S1x1024.Idx) x).val = _
    match x with
    | ⟨0, _⟩ => rfl
    | ⟨1, _⟩ => show 0 * 1024 + 1 * d.val = d.val; omega
  refine e.trans ((congrFun (V_main_v1 m c) (ValueIdx.ix2 (0 : Fin 1) d : S1x1024.Idx)).trans ?_)
  refine shapeCast_apply (s := S1024) (t := S1x1024) (m ((c : Thread nD τ).loc main_arg3) : FVec Ideal S1024 .f32) shapeCasts_S1024_S1x1024 (ValueIdx.ix2 (0 : Fin 1) d) (ValueIdx.ix1 d) ?_
  refine (Shape.rowMajor_val_one (d := ![1024]) _).trans (Eq.trans ?_ (Shape.rowMajor_val_two (d := ![1, 1024]) _).symm)
  show d.val = 0 * 1024 + d.val
  omega

theorem read4 (c : Dev nD) (t : Fin cfg0.N) (a : Fin 1024) (b : Fin 1280) :
    iblk m c 4 t (ValueIdx.ix2 a b : S1024x1280.Idx) = m ((c : Thread nD τ).loc main_arg4) (ValueIdx.ix2 a (⟨b.val, by omega⟩ : Fin 1792) : S1024x1792.Idx) := by
  have e : iblk m c 4 t (ValueIdx.ix2 a b : S1024x1280.Idx) = V m c main_v2 (ValueIdx.ix2 a b : S1024x1280.Idx) := by
    show V m c main_v2 (((cfg0.win 4).blk t).view.emb (ValueIdx.ix2 a b : S1024x1280.Idx)) = _
    refine congrArg (V m c main_v2) (funext fun x => Fin.ext ?_)
    show cc0_transform_4 (grid0.coords t) x * S1024x1280.size x + 1 * ((ValueIdx.ix2 a b : S1024x1280.Idx) x).val = _
    match x with
    | ⟨0, _⟩ => show 0 * 1024 + 1 * a.val = a.val; omega
    | ⟨1, _⟩ => show 0 * 1280 + 1 * b.val = b.val; omega
  refine e.trans ((congrFun (V_main_v2 m c) (ValueIdx.ix2 a b : S1024x1280.Idx)).trans ?_)
  refine extractStridedSlice_apply (s := S1024x1792) (t := S1024x1280) _ (m ((c : Thread nD τ).loc main_arg4) : FVec Ideal S1024x1792 .f32) slices_S1024x1792_S1024x1280_0_0 (ValueIdx.ix2 a b) _ fun x => ?_
  match x with
  | ⟨0, _⟩ => show a.val = 0 + a.val; omega
  | ⟨1, _⟩ => show b.val = 0 + b.val; omega

/-- What point `t` leaves in its block. -/
theorem block_apply (c : Dev nD) (t : Fin cfg0.N) (r : Fin 512) (j : Fin 512) (R : Fin 32768) (hR : R.val = t.val * 512 + r.val) :
    out0_10 (iblk m c 0 t) (iblk m c 1 t) (iblk m c 2 t) (iblk m c 3 t) (iblk m c 4 t) (iblk m c 5 t) (iblk m c 6 t) (iblk m c 7 t) (ValueIdx.ix2 r j : S512x512.Idx)
      = gateRow (m ((c : Thread nD τ).loc main_arg0)) (m ((c : Thread nD τ).loc main_arg3)) (m ((c : Thread nD τ).loc main_arg4)) R j := by
  refine (out_apply _ _ _ _ _ _ _ _ r j).trans ?_
  have hx : (fun k : Fin 1024 => (iblk m c 0 t : Vec Ideal S512x1024 .f32) (ValueIdx.ix2 r k)) = fun k => (m ((c : Thread nD τ).loc main_arg0) : FVec Ideal S32768x1024 .f32) (ValueIdx.ix2 R k) :=
    funext fun k => read0 m c t r k R hR
  have hg : (fun k : Fin 1024 => (iblk m c 3 t : Vec Ideal S1x1024 .f32) (ValueIdx.ix2 (0 : Fin 1) k)) = fun k => (m ((c : Thread nD τ).loc main_arg3) : FVec Ideal S1024 .f32) (ValueIdx.ix1 k) :=
    funext fun k => read3 m c t k
  have hw : (fun k : Fin 1024 => (iblk m c 4 t : Vec Ideal S1024x1280 .bf16) (ValueIdx.ix2 k (⟨768 + j.val, by omega⟩ : Fin 1280)))
      = fun k => (m ((c : Thread nD τ).loc main_arg4) : FVec Ideal S1024x1792 .f32) (ValueIdx.ix2 k (⟨768 + j.val, by omega⟩ : Fin 1792)) :=
    funext fun k => read4 m c t k ⟨768 + j.val, by omega⟩
  unfold gate gateRow
  rw [hx, hg, hw]

/-! ## The array -/

/-- Where block `t` of the result lies. -/
theorem emb10 (t : Fin cfg0.N) (y : S512x512.Idx) (a : Fin 2) :
    (((cfg0.win 10).blk t).view.emb y a : ℕ) = cc0_transform_10 (grid0.coords t) a * S512x512.size a + 1 * (y a).val := rfl

theorem emb10_row (t : Fin cfg0.N) (y : S512x512.Idx) : (((cfg0.win 10).blk t).view.emb y (0 : Fin 2) : ℕ) = t.val * 512 + (y 0).val := by
  refine (emb10 t y 0).trans ?_
  show (BitVec.ofNat 32 (grid0.coords t 0).val).toNat * 512 + 1 * (y 0).val = _
  rw [word_val t]
  omega

theorem emb10_lane (t : Fin cfg0.N) (y : S512x512.Idx) : (((cfg0.win 10).blk t).view.emb y (1 : Fin 2) : ℕ) = (y 1).val := by
  refine (emb10 t y 1).trans ?_
  show 0 * 512 + 1 * (y 1).val = _
  omega

/-- What a point writes is the result's block. -/
theorem block_eq (c : Dev nD) (t : Fin cfg0.N) (y : S512x512.Idx) :
    out0_10 (iblk m c 0 t) (iblk m c 1 t) (iblk m c 2 t) (iblk m c 3 t) (iblk m c 4 t) (iblk m c 5 t) (iblk m c 6 t) (iblk m c 7 t) y
      = result (m ((c : Thread nD τ).loc main_arg0)) (m ((c : Thread nD τ).loc main_arg3)) (m ((c : Thread nD τ).loc main_arg4)) (((cfg0.win 10).blk t).view.emb y) := by
  have h0 : (y 0).val < 512 := (y 0).isLt
  have h1 : (y 1).val < 512 := (y 1).isLt
  have ht : t.val < 64 := Nat.lt_of_lt_of_eq t.isLt N_0
  have ey : y = (ValueIdx.ix2 (⟨(y 0).val, h0⟩ : Fin 512) (⟨(y 1).val, h1⟩ : Fin 512) : S512x512.Idx) := funext fun a => by
    match a with
    | ⟨0, _⟩ => rfl
    | ⟨1, _⟩ => rfl
  have A := block_apply m c t ⟨(y 0).val, h0⟩ ⟨(y 1).val, h1⟩ ⟨t.val * 512 + (y 0).val, by omega⟩ rfl
  rw [← ey] at A
  refine A.trans ?_
  unfold result
  exact congrArg₂ (gateRow _ _ _) (Fin.ext (emb10_row t y).symm) (Fin.ext (emb10_lane t y).symm)

/-- Every row lies in the block some point writes. -/
theorem cover10 (i : S32768x512.Idx) : ∃ t : Fin cfg0.N, (cfg0.win 10).flush t = true ∧ i ∈ ((cfg0.win 10).blk t).view.set := by
  have hi : (i 0).val < 32768 := (i 0).isLt
  have hi1 : (i 1).val < 512 := (i 1).isLt
  obtain ⟨t, ht⟩ : ∃ t : Fin cfg0.N, t.val = (i 0).val / 512 := ⟨⟨_, Nat.lt_of_lt_of_eq (by omega) N_0.symm⟩, rfl⟩
  refine ⟨t, flush0_10 t, ?_⟩
  have e : ((cfg0.win 10).blk t).view.emb (ValueIdx.ix2 (⟨(i 0).val % 512, Nat.mod_lt _ (by decide)⟩ : Fin 512) (⟨(i 1).val, hi1⟩ : Fin 512) : S512x512.Idx) = i := by
    funext a
    refine Fin.ext ?_
    match a with
    | ⟨0, _⟩ =>
      refine (emb10_row t _).trans ?_
      show t.val * 512 + (i 0).val % 512 = (i 0).val
      rw [ht]; omega
    | ⟨1, _⟩ => exact emb10_lane t _
  rw [← e]
  exact View.emb_mem_set _ _

/-- The array after the last point. -/
theorem out_eq (c : Dev nD) : (dats m 0 c).arrAt 10 cfg0.N
    = result (m ((c : Thread nD τ).loc main_arg0)) (m ((c : Thread nD τ).loc main_arg3)) (m ((c : Thread nD τ).loc main_arg4)) := by
  refine (dats m 0 c).arrAt_eq_of_emb 10 _ (fun t _ y => ?_) fun i => ?_
  · exact (congrFun (after0_10 m c t) y).trans (block_eq m c t y)
  · exact cover10 i

/-- Every run leaves the result and the arguments unchanged. -/
theorem value : θ_run defs (onTc (τ := τ) (main (F := Ideal))) ⟨m, fun _ => 0, ρ⟩ (fun r => ∀ c : Dev nD,
      r.2.mem ((c.tc : Thread nD τ).loc main_v9_2) = result (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).2.2.1.trans (out_eq m c), (h c).2.2.2.2⟩) (Cert.Kernel4Ideal.Value.run_blocks (F := Ideal) m ρ)

end Cert.Kernel4Ideal.Input

end
-- ==== Proof.Input.Reference.lean ====
/- The array the reference of the projection leaves, over the extended reals, and that it is the kernel's. -/
module

public import Idealize.ShloMosaic.Lib.Pointwise.Reduce
public import proofs.«01_k».proof.Proof.Gen.Reference4Ideal.Run
public import proofs.«01_k».proof.Proof.Input.Value
public import proofs.«01_k».proof.Proof.Expert.Reference

@[expose] public section

set_option maxRecDepth 16384

noncomputable section

namespace Cert.Reference4Ideal.Input

open Cert.Reference4Ideal Cert.Reference4Ideal.Gen
open Cert.Reference2Ideal.Expert (host_mm)
open Cert.Kernel3Ideal.Dense (normed)
open Cert.Kernel4Ideal.Input (gelu proj gateRow result)
open Idealize.ShloMosaic Idealize.ShloMosaic.TcCoe

/-- The normed rows, scaled by the gain. -/
def rows (h : FVec Ideal S32768x1024 .f32) (g : FVec Ideal S1024 .f32) : FVec Ideal S32768x1024 .f32 :=
  mulf (mulf h (broadcastInDim S32768x1024 ![0, 1] bcast_S32768x1_S32768x1024_0_1 (Host.rsqrt (addf (Host.divf
      (broadcastInDim S32768x1 ![0] bcast_S32768_S32768x1_0 (Host.reduceAdd (mulf h h) (constant (F := Ideal) S_ .f32 0x00000000#32) reducesTo_S32768x1024_S32768_d1 h_S_))
      (broadcastInDim S32768x1 ![] bcast_S_S32768x1 (constant (F := Ideal) S_ .f32 0x44800000#32))) (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1 g))

/-- The sum of a row's squares, kept as a column. -/
theorem squares_apply (v : FVec Ideal S32768x1024 .f32) (r : Fin 32768) :
    (broadcastInDim S32768x1 ![0] bcast_S32768_S32768x1_0 (Host.reduceAdd (mulf v v) (constant (F := Ideal) S_ .f32 0x00000000#32) reducesTo_S32768x1024_S32768_d1 h_S_ : FVec Ideal S32768 .f32) : FVec Ideal S32768x1 .f32)
      (ValueIdx.ix2 r (0 : Fin 1)) = ∑ k : Fin 1024, v (ValueIdx.ix2 r k) * v (ValueIdx.ix2 r k) := by
  refine (broadcastInDim_apply (s := S32768) (t := S32768x1) ![0] bcast_S32768_S32768x1_0 _ (ValueIdx.ix2 r (0 : Fin 1)) (ValueIdx.ix1 r) ?_).trans ?_
  · intro a
    match a with
    | ⟨0, _⟩ => rfl
  · refine (Ideal.hostReduceAdd_r2_a1 reducesTo_S32768x1024_S32768_d1 (mulf v v) (Ideal.ofBits .f32 0x00000000#32) (ValueIdx.ix1 r)).trans ?_
    rw [Ideal.ofBits_zero_f32, zero_add]
    rfl

/-- The normed rows, at an index. -/
theorem rows_apply (h : FVec Ideal S32768x1024 .f32) (g : FVec Ideal S1024 .f32) (r : Fin 32768) (d : Fin 1024) :
    rows h g (ValueIdx.ix2 r d) = normed (fun k => h (ValueIdx.ix2 r k)) (g (ValueIdx.ix1 d)) d := by
  refine congrArg₂ (· * ·) (congrArg (h (ValueIdx.ix2 r d) * ·) ?_) ?_
  · refine (broadcastInDim_apply (s := S32768x1) (t := S32768x1024) ![0, 1] bcast_S32768x1_S32768x1024_0_1 _ (ValueIdx.ix2 r d) (ValueIdx.ix2 r (0 : Fin 1)) ?_).trans ?_
    · intro a
      match a with
      | ⟨0, _⟩ => rfl
      | ⟨1, _⟩ => rfl
    · exact congrArg (fun z : EReal => Ideal.rsqrt (Ideal.div z (Ideal.ofBits .f32 0x44800000#32) + Ideal.ofBits .f32 0x358637BD#32)) (squares_apply h r)
  · refine (broadcastInDim_apply (s := S1x1024) (t := S32768x1024) ![0, 1] bcast_S1x1024_S32768x1024_0_1 _ (ValueIdx.ix2 r d) (ValueIdx.ix2 (0 : Fin 1) d) ?_).trans ?_
    · intro a
      match a with
      | ⟨0, _⟩ => rfl
      | ⟨1, _⟩ => rfl
    · refine broadcastInDim_apply (s := S1024) (t := S1x1024) ![1] bcast_S1024_S1x1024_1 g (ValueIdx.ix2 (0 : Fin 1) d) (ValueIdx.ix1 d) ?_
      intro a
      match a with
      | ⟨0, _⟩ => rfl

/-- The columns of the gate. -/
def columns (h : FVec Ideal S32768x1024 .f32) (g : FVec Ideal S1024 .f32) (w : FVec Ideal S1024x1792 .f32) : FVec Ideal S32768x512 .f32 :=
  extractStridedSlice S32768x512 ![0, 768] (Host.dotGeneral dot_S32768x1024_S1024x1792_S32768x1792_1_0_0_1_n_n none (rows h g) w) slices_S32768x1792_S32768x512_0_768

theorem columns_apply (h : FVec Ideal S32768x1024 .f32) (g : FVec Ideal S1024 .f32) (w : FVec Ideal S1024x1792 .f32) (r : Fin 32768) (j : Fin 512) :
    columns h g w (ValueIdx.ix2 r j) = proj (fun k => h (ValueIdx.ix2 r k)) (fun k => g (ValueIdx.ix1 k)) (fun k => w (ValueIdx.ix2 k (⟨768 + j.val, by omega⟩ : Fin 1792))) := by
  unfold columns proj
  refine (extractStridedSlice_apply _ _ slices_S32768x1792_S32768x512_0_768 (ValueIdx.ix2 r j) (ValueIdx.ix2 r (⟨768 + j.val, by omega⟩ : Fin 1792)) fun a => ?_).trans ?_
  · match a with
    | ⟨0, _⟩ => show r.val = 0 + r.val; omega
    | ⟨1, _⟩ => rfl
  · exact (host_mm _ rfl _ _ r _).trans (Finset.sum_congr rfl fun k _ => congrArg (· * _) (rows_apply h g r k))

/-- The reference's gelu. -/
def geluAll (z : FVec Ideal S32768x512 .f32) : FVec Ideal S32768x512 .f32 :=
  mulf z (mulf (broadcastInDim S32768x512 ![] bcast_S_S32768x512 (constant (F := Ideal) S_ .f32 0x3F000000#32)) (addf (broadcastInDim S32768x512 ![] bcast_S_S32768x512 (constant (F := Ideal) S_ .f32 0x3F800000#32))
    (Host.tanh (mulf (broadcastInDim S32768x512 ![] bcast_S_S32768x512 (constant (F := Ideal) S_ .f32 0x3F4C422A#32)) (addf z
      (mulf (broadcastInDim S32768x512 ![] bcast_S_S32768x512 (constant (F := Ideal) S_ .f32 0x3D372713#32)) (mulf (mulf z z) z)))))))

theorem geluAll_apply (z : FVec Ideal S32768x512 .f32) (i : S32768x512.Idx) : geluAll z i = gelu (z i) := rfl

/-- The reference's result is the kernel's. -/
theorem result_eq (h : FVec Ideal S32768x1024 .f32) (g : FVec Ideal S1024 .f32) (w : FVec Ideal S1024x1792 .f32) : geluAll (columns h g w) = result h g w := by
  funext i
  have h0 : (i 0).val < 32768 := (i 0).isLt
  have h1 : (i 1).val < 512 := (i 1).isLt
  have e : i = (ValueIdx.ix2 (⟨(i 0).val, h0⟩ : Fin 32768) (⟨(i 1).val, h1⟩ : Fin 512) : S32768x512.Idx) := funext fun a => by
    match a with
    | ⟨0, _⟩ => rfl
    | ⟨1, _⟩ => rfl
  have A := columns_apply h g w ⟨(i 0).val, h0⟩ ⟨(i 1).val, h1⟩
  rw [← e] at A
  exact (geluAll_apply _ i).trans (congrArg gelu A)

end Cert.Reference4Ideal.Input

end
-- ==== Proof.lean ====
/-
  The claims about four calls of the layer: the dispatch moves every token to its two rows, the experts put every row
  through the expert of its tile, the dense feed-forward puts every row through its one product, and the input
  projection norms every row and multiplies it by its weights.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.Pre_pos_distinct
public import proofs.«01_k».proof.Proof.Dispatch.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference3Ideal
public import proofs.«01_k».proof.Proof.Gen.Reference3Ideal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Expert.Launch
public import proofs.«01_k».proof.Proof.Expert.Table
public import proofs.«01_k».proof.Proof.Expert.Value
public import proofs.«01_k».proof.Proof.Expert.Reference
public import proofs.«01_k».proof.Proof.Dense.Value
public import proofs.«01_k».proof.Proof.Dense.Reference
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Input.Value
public import proofs.«01_k».proof.Proof.Input.Reference
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-! ## The dispatch -/

/-- The printed kernel and the idealized one are one program. -/
theorem defs_eq : Cert.Kernel.defs (F := Bits) = Cert.KernelIdeal.defs (F := Bits) := by sl_kernel_rfl

/-- The printed kernel's run: the idealized program's, read at the machine's own numbers. -/
theorem run_kernel (m : (ℓ : Loc Cert.Kernel.nD Cert.Kernel.τ Cert.Kernel.sig) → Buf (Elt Bits) ℓ) (ρ : Dev Cert.Kernel.nD → PrngReg) (hp : Cert.Pre_Kernel m) :
    θ_run (Cert.Kernel.defs (F := Bits)) (onTc (τ := Cert.Kernel.τ) (Cert.Kernel.main (F := Bits))) ⟨m, fun _ => 0, ρ⟩ (fun r =>
      (∀ c : Dev Cert.Kernel.nD, r.2.mem ((c.tc : Thread Cert.Kernel.nD Cert.Kernel.τ).loc Cert.Kernel.main_v1) = Dispatch.fillB (F := Bits) c (Dispatch.dests m c) (Dispatch.tokens m c) (Dispatch.before m c) 65536
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq]
  exact Dispatch.run (F := Bits) m ρ fun c => Dispatch.placed (F := Bits) m c (hp c)

/-- The printed kernel's frame. -/
theorem frame_kernel : Cert.quiescent_Kernel := fun m ρ hp =>
  (θ_run (Cert.Kernel.defs (F := Bits)) _ _).mono (fun _ h => ⟨fun c => (h.1 c).2, h.2⟩) (run_kernel m ρ hp)

/-- The idealized kernel's frame. -/
theorem frame_kernelIdeal : Cert.quiescent_KernelIdeal := fun m ρ hp =>
  (θ_run (Cert.KernelIdeal.defs (F := Ideal)) _ _).mono (fun _ h => ⟨fun c => (h.1 c).2, h.2⟩)
    (Dispatch.run (F := Ideal) m ρ fun c => Dispatch.placed m c (hp c))

/-- The reference declares no semaphore, so its run is its frame. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)
theorem frame_referenceIdeal_pre : Cert.quiescent_ReferenceIdeal_pre_pos_distinct := fun m ρ _ => frame_referenceIdeal m ρ trivial
theorem frame_reference : Cert.quiescent_Reference := fun m ρ _ =>
  (θ_run Cert.Reference.defs _ _).mono (fun r h => ⟨fun c => (h c).2, sem_eq_zero_of_no_sems (by decide) r.2⟩) (Cert.ReferenceIdeal.Value.run (F := Bits) m ρ)

/-- The idealized kernel computes the reference. -/
theorem algebraic : Cert.algebraic_KernelIdeal_ReferenceIdeal := by
  intro m ρ m' ρ' hp ha
  refine ⟨fun c => Dispatch.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)), ?_, ?_⟩
  · refine (θ_run (Cert.KernelIdeal.defs (F := Ideal)) _ _).mono (fun _ h c => ⟨?_, (h.1 c).2⟩) (Dispatch.run (F := Ideal) m ρ fun c => Dispatch.placed m c (hp c))
    show _ = Dispatch.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    rw [(ha c).1, (ha c).2]
    exact (h.1 c).1.trans (Dispatch.out_eq m c (hp c)).symm
  · exact Cert.ReferenceIdeal.Value.run (F := Ideal) m' ρ'

/-- The printed kernel computes the reference, word for word. -/
theorem bitexact : Cert.bitexact_Kernel_Reference := by
  intro m ρ m' ρ' hp ha
  refine ⟨fun c => Dispatch.refOut (F := Bits) (m' ((c.tc : Thread Cert.Reference.nD Cert.Reference.τ).loc Cert.Reference.main_arg0)) (m' ((c.tc : Thread Cert.Reference.nD Cert.Reference.τ).loc Cert.Reference.main_arg1)), ?_, ?_⟩
  · refine (θ_run (Cert.Kernel.defs (F := Bits)) _ _).mono (fun r h c => ?_) (run_kernel m ρ hp)
    show _ = Dispatch.refOut (F := Bits) (m' ((c.tc : Thread Cert.Reference.nD Cert.Reference.τ).loc Cert.Reference.main_arg0)) (m' ((c.tc : Thread Cert.Reference.nD Cert.Reference.τ).loc Cert.Reference.main_arg1)) ∧ _
    rw [(ha c).1, (ha c).2]
    exact ⟨(h.1 c).1.trans (Dispatch.out_eq (F := Bits) m c (hp c)).symm, (h.1 c).2⟩
  · exact Cert.ReferenceIdeal.Value.run (F := Bits) m' ρ'

/-! ## The experts -/

/-- The printed kernel and the idealized one are one program. -/
theorem defs2_eq : Cert.Kernel2.defs (F := Bits) = Cert.Kernel2Ideal.defs (F := Bits) := by sl_kernel_rfl

/-- The idealized kernel's frame. -/
theorem frame_kernel2Ideal : Cert.quiescent_Kernel2Ideal := fun m ρ hp =>
  Cert.Kernel2Ideal.Expert.frame (F := Ideal) m ρ (Cert.Kernel2Ideal.Expert.ok m (Cert.Kernel2Ideal.Expert.known_of _ _ _ _ _ (hp 0)))

/-- So are their entries. -/
theorem main2_eq : Cert.Kernel2.main (F := Bits) = Cert.Kernel2Ideal.main (F := Bits) := by sl_kernel_rfl

/-- A run of the idealized program at the machine's own numbers is a run of the printed one. -/
theorem run_kernel2 (m : (ℓ : Loc Cert.Kernel2.nD Cert.Kernel2.τ Cert.Kernel2.sig) → Buf (Elt Bits) ℓ) (ρ : Dev Cert.Kernel2.nD → PrngReg)
    (Q : PUnit × MemSt Cert.Kernel2.nD Cert.Kernel2.τ Cert.Kernel2.sig (Elt Bits) → Prop)
    (h : θ_run (Cert.Kernel2Ideal.defs (F := Bits)) (onTc (τ := Cert.Kernel2Ideal.τ) (Cert.Kernel2Ideal.main (F := Bits))) ⟨m, fun _ => 0, ρ⟩ Q) :
    θ_run (Cert.Kernel2.defs (F := Bits)) (onTc (τ := Cert.Kernel2.τ) (Cert.Kernel2.main (F := Bits))) ⟨m, fun _ => 0, ρ⟩ Q := by
  rw [defs2_eq, main2_eq]
  exact h

/-- The precondition, lane by lane, for the printed kernel. -/
theorem known2 (m : (ℓ : Loc Cert.Kernel2.nD Cert.Kernel2.τ Cert.Kernel2.sig) → Buf (Elt Bits) ℓ) (hp : Cert.Pre_Kernel2 m) :
    Cert.Kernel2Ideal.Expert.Known (Cert.Kernel2Ideal.Expert.infoOf (F := Bits) m) :=
  Cert.Kernel2Ideal.Expert.known_of (F := Bits) _ _ _ _ _ (hp 0)

/-- So its blocks lie inside their arrays. -/
theorem ok2 (m : (ℓ : Loc Cert.Kernel2.nD Cert.Kernel2.τ Cert.Kernel2.sig) → Buf (Elt Bits) ℓ) (hp : Cert.Pre_Kernel2 m) :
    Cert.Kernel2Ideal.Expert.Ok (F := Bits) m := Cert.Kernel2Ideal.Expert.ok (F := Bits) m (known2 m hp)

/-- The printed kernel's frame: the idealized program's, read at the machine's own numbers. -/
theorem frame_kernel2 : Cert.quiescent_Kernel2 := fun m ρ hp =>
  run_kernel2 m ρ _ (Cert.Kernel2Ideal.Expert.frame (F := Bits) m ρ (ok2 m hp))

/-- The reference declares no semaphore, so its run is its frame. -/
theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)
theorem frame_reference2Ideal_pre : Cert.quiescent_Reference2Ideal_pre_experts_known := fun m ρ _ => frame_reference2Ideal m ρ trivial

/-- The reference's result, from the kernel's arguments. -/
theorem reference2_eq (V : Valuation Cert.Reference2Ideal.τ Cert.Reference2Ideal.sig (Elt Ideal)) (info : IVec Cert.Reference2Ideal.S256 32)
    (xs : FVec Ideal Cert.Reference2Ideal.S557056x128 .f32) (wg wu : FVec Ideal Cert.Reference2Ideal.S8x1024x3584 .f32) (wd : FVec Ideal Cert.Reference2Ideal.S8x3584x1024 .f32)
    (h0 : V (Proc.devRef .tc Cert.Reference2Ideal.main_arg0) = info) (h1 : V (Proc.devRef .tc Cert.Reference2Ideal.main_arg1) = xs)
    (h2 : V (Proc.devRef .tc Cert.Reference2Ideal.main_arg2) = wg) (h3 : V (Proc.devRef .tc Cert.Reference2Ideal.main_arg3) = wu)
    (h4 : V (Proc.devRef .tc Cert.Reference2Ideal.main_arg4) = wd) (hk : Cert.Kernel2Ideal.Expert.Known info) :
    (shapeCast Cert.Reference2Ideal.S557056x128 (Cert.Reference2Ideal.Value.res_main_v143 V) Cert.Reference2Ideal.Gen.shapeCasts_S69632x1024_S557056x128 : FVec Ideal Cert.Reference2Ideal.S557056x128 .f32)
      = Cert.Kernel2Ideal.Expert.result info xs wg wu wd := by
  subst h1 h2 h3 h4
  exact Cert.Reference2Ideal.Expert.result_eq V info h0 hk

/-- The idealized kernel computes the reference. -/
theorem algebraic2 : Cert.algebraic_Kernel2Ideal_Reference2Ideal := by
  intro m ρ m' ρ' hp ha
  have hk : Cert.Kernel2Ideal.Expert.Known (Cert.Kernel2Ideal.Expert.infoOf (F := Ideal) m) := Cert.Kernel2Ideal.Expert.known_of (F := Ideal) _ _ _ _ _ (hp 0)
  refine ⟨fun c => Cert.Kernel2Ideal.Expert.result (Cert.Kernel2Ideal.Expert.infoOf (F := Ideal) m)
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · exact Cert.Kernel2Ideal.Expert.value m ρ (Cert.Kernel2Ideal.Expert.ok m hk) hk
  · refine (θ_run Cert.Reference2Ideal.defs _ _).mono (fun r h c => ⟨(h c).1.trans ?_, (h c).2⟩) (Cert.Reference2Ideal.Value.run (F := Ideal) m' ρ')
    obtain rfl : c = 0 := Subsingleton.elim _ _
    exact reference2_eq _ _ _ _ _ _ (ha 0).1 (ha 0).2.1 (ha 0).2.2.1 (ha 0).2.2.2.1 (ha 0).2.2.2.2 hk

/-! ## The dense feed-forward call -/

/-- The reference declares no semaphore, so its run is its frame. -/
theorem frame_reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The reference's result, from the kernel's arguments. -/
theorem reference3_eq (y y' : FVec Ideal Cert.Reference3Ideal.S32768x1024 .bf16) (h h' : FVec Ideal Cert.Reference3Ideal.S32768x1024 .f32) (wg wg' wu wu' : FVec Ideal Cert.Reference3Ideal.S1024x2816 .f32)
    (wd wd' : FVec Ideal Cert.Reference3Ideal.S2816x1024 .f32) (g g' : FVec Ideal Cert.Reference3Ideal.S1024 .f32) (h0 : y' = y) (h1 : h' = h) (h2 : wg' = wg) (h3 : wu' = wu) (h4 : wd' = wd) (h5 : g' = g) :
    Cert.Reference3Ideal.Dense.finish (Cert.Reference3Ideal.Dense.prod y' wg' wu' wd') h' g' = Cert.Kernel3Ideal.Dense.result y h wg wu wd g := by
  subst h0 h1 h2 h3 h4 h5
  exact Cert.Reference3Ideal.Dense.result_eq _ _ _ _ _ _

/-- The idealized kernel computes the reference. -/
theorem algebraic3 : Cert.algebraic_Kernel3Ideal_Reference3Ideal := by
  intro m ρ m' ρ' hp ha
  refine ⟨fun c => Cert.Kernel3Ideal.Dense.result
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)), ?_, ?_⟩
  · exact Cert.Kernel3Ideal.Dense.value m ρ
  · refine (θ_run Cert.Reference3Ideal.defs _ _).mono (fun r h c => ⟨(h c).1.trans ?_, (h c).2⟩) (Cert.Reference3Ideal.Value.run (F := Ideal) m' ρ')
    obtain ⟨a0, a1, a2, a3, a4, a5⟩ := ha c
    exact reference3_eq _ _ _ _ _ _ _ _ _ _ _ _ a0 a1 a2 a3 a4 a5

/-! ## The projection call -/

/-- The reference declares no semaphore, so its run is its frame. -/
theorem frame_reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The reference's result, from the kernel's arguments. -/
theorem reference4_eq (h h' : FVec Ideal Cert.Reference4Ideal.S32768x1024 .f32) (g g' : FVec Ideal Cert.Reference4Ideal.S1024 .f32) (w w' : FVec Ideal Cert.Reference4Ideal.S1024x1792 .f32)
    (h0 : h' = h) (h1 : g' = g) (h2 : w' = w) : Cert.Reference4Ideal.Input.geluAll (Cert.Reference4Ideal.Input.columns h' g' w') = Cert.Kernel4Ideal.Input.result h g w := by
  subst h0 h1 h2
  exact Cert.Reference4Ideal.Input.result_eq _ _ _

/-- The idealized kernel computes the reference. -/
theorem algebraic4 : Cert.algebraic_Kernel4Ideal_Reference4Ideal := by
  intro m ρ m' ρ' hp ha
  refine ⟨fun c => Cert.Kernel4Ideal.Input.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · exact Cert.Kernel4Ideal.Input.value m ρ
  · refine (θ_run Cert.Reference4Ideal.defs _ _).mono (fun r h c => ⟨(h c).1.trans ?_, (h c).2⟩) (Cert.Reference4Ideal.Value.run (F := Ideal) m' ρ')
    obtain ⟨a0, a1, a2, a3, a4, a5, a6⟩ := ha c
    exact reference4_eq _ _ _ _ _ _ a0 a3 a4

/-! ## The claims -/

theorem claim : Cert.Claim :=
  ⟨Cert.Kernel.Gen.facts, Cert.KernelIdeal.Gen.facts, Cert.ReferenceIdeal.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_pos_distinct.Gen.facts, Cert.Pre_experts_known.Gen.facts,
    frame_kernel, frame_kernelIdeal, frame_referenceIdeal, frame_referenceIdeal_pre, frame_reference,
    frame_kernel2, frame_kernel2Ideal, frame_reference2Ideal, frame_reference2Ideal_pre,
    fun m ρ _ => Cert.Kernel3.Gen.frame m ρ, fun m ρ _ => Cert.Kernel3Ideal.Gen.frame m ρ, frame_reference3Ideal, fun m ρ _ => Cert.Kernel4.Gen.frame m ρ, fun m ρ _ => Cert.Kernel4Ideal.Gen.frame m ρ, frame_reference4Ideal, trivial, algebraic, bitexact, trivial, algebraic2, trivial, algebraic3, trivial, algebraic4⟩

end Cert.Proof

end
